-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x16x2048x128 : Shape := ⟨4, ![1, 16, 2048, 128]⟩
abbrev S_ : Shape := ⟨0, ![]⟩
abbrev S1 : Shape := ⟨1, ![1]⟩
abbrev S2 : Shape := ⟨1, ![2]⟩
abbrev S1x1x1x1 : Shape := ⟨4, ![1, 1, 1, 1]⟩
abbrev S1x16x11x2048 : Shape := ⟨4, ![1, 16, 11, 2048]⟩
abbrev S16x11x2048 : Shape := ⟨3, ![16, 11, 2048]⟩
abbrev S16x12x2048 : Shape := ⟨3, ![16, 12, 2048]⟩
abbrev S16x2x6x2048 : Shape := ⟨4, ![16, 2, 6, 2048]⟩
abbrev S1152 : Shape := ⟨1, ![1152]⟩
abbrev S1x1x1152 : Shape := ⟨3, ![1, 1, 1152]⟩
abbrev S6 : Shape := ⟨1, ![6]⟩
abbrev S1x6x1 : Shape := ⟨3, ![1, 6, 1]⟩
abbrev S2x1x1 : Shape := ⟨3, ![2, 1, 1]⟩
abbrev S1x6x1152 : Shape := ⟨3, ![1, 6, 1152]⟩
abbrev S2x1x1152 : Shape := ⟨3, ![2, 1, 1152]⟩
abbrev S2x6x1152 : Shape := ⟨3, ![2, 6, 1152]⟩
abbrev S1x16x2304x128 : Shape := ⟨4, ![1, 16, 2304, 128]⟩
abbrev S1x1x1152x128 : Shape := ⟨4, ![1, 1, 1152, 128]⟩
abbrev S1x1x2048x128 : Shape := ⟨4, ![1, 1, 2048, 128]⟩
abbrev S1x1x6x2048 : Shape := ⟨4, ![1, 1, 6, 2048]⟩
abbrev S1152x128 : Shape := ⟨2, ![1152, 128]⟩
abbrev S2048x128 : Shape := ⟨2, ![2048, 128]⟩
abbrev S1152x2048 : Shape := ⟨2, ![1152, 2048]⟩
abbrev S1152x1 : Shape := ⟨2, ![1152, 1]⟩
abbrev S6x1152 : Shape := ⟨2, ![6, 1152]⟩
abbrev S6x2048 : Shape := ⟨2, ![6, 2048]⟩
abbrev S6x1x2048 : Shape := ⟨3, ![6, 1, 2048]⟩
abbrev S6x2048x1 : Shape := ⟨3, ![6, 2048, 1]⟩
abbrev S6x2048x2048 : Shape := ⟨3, ![6, 2048, 2048]⟩
abbrev S1x1x2048 : Shape := ⟨3, ![1, 1, 2048]⟩
abbrev S1x16x1 : Shape := ⟨3, ![1, 16, 1]⟩
abbrev S6x1x1 : Shape := ⟨3, ![6, 1, 1]⟩
abbrev S6x1 : Shape := ⟨2, ![6, 1]⟩
abbrev S6x16x1 : Shape := ⟨3, ![6, 16, 1]⟩
abbrev S6x16x2048 : Shape := ⟨3, ![6, 16, 2048]⟩
abbrev S6x16 : Shape := ⟨2, ![6, 16]⟩
abbrev S6x192x2048 : Shape := ⟨3, ![6, 192, 2048]⟩
abbrev S6x192 : Shape := ⟨2, ![6, 192]⟩
abbrev S6x192x1 : Shape := ⟨3, ![6, 192, 1]⟩
abbrev S1x1x16x2048x128 : Shape := ⟨5, ![1, 1, 16, 2048, 128]⟩
abbrev S2x1x16x2048x128 : Shape := ⟨5, ![2, 1, 16, 2048, 128]⟩

abbrev nBuf : Space → Nat
  | .hbm => 583
  | .vmem => 14
  | .smem => 0
  | _ => 0

abbrev hbmTy0_0 (i : Nat) : BufTy := match i % 128 with
  | 0 => ⟨S1x16x2048x128, .f32⟩
  | 1 => ⟨S1x16x2048x128, .f32⟩
  | 2 => ⟨S1x16x2048x128, .f32⟩
  | 3 => ⟨S_, .i32⟩
  | 4 => ⟨S_, .i32⟩
  | 5 => ⟨S_, .i32⟩
  | 6 => ⟨S_, .i32⟩
  | 7 => ⟨S1, .i32⟩
  | 8 => ⟨S_, .i32⟩
  | 9 => ⟨S_, .i32⟩
  | 10 => ⟨S_, .i32⟩
  | 11 => ⟨S1, .i32⟩
  | 12 => ⟨S2, .i32⟩
  | 13 => ⟨S_, .i32⟩
  | 14 => ⟨S_, .i32⟩
  | 15 => ⟨S_, .i32⟩
  | 16 => ⟨S1, .i32⟩
  | 17 => ⟨S_, .i32⟩
  | 18 => ⟨S_, .i32⟩
  | 19 => ⟨S1, .i32⟩
  | 20 => ⟨S2, .i32⟩
  | 21 => ⟨S1, .i32⟩
  | 22 => ⟨S_, .i32⟩
  | 23 => ⟨S1, .i32⟩
  | 24 => ⟨S_, .i32⟩
  | 25 => ⟨S1, .i32⟩
  | 26 => ⟨S1, .i32⟩
  | 27 => ⟨S_, .i32⟩
  | 28 => ⟨S_, .i32⟩
  | 29 => ⟨S_, .i32⟩
  | 30 => ⟨S1, .i32⟩
  | 31 => ⟨S1, .i32⟩
  | 32 => ⟨S1, .i32⟩
  | 33 => ⟨S1, .i32⟩
  | 34 => ⟨S1, .i32⟩
  | 35 => ⟨S_, .i32⟩
  | 36 => ⟨S1, .i32⟩
  | 37 => ⟨S1, .i32⟩
  | 38 => ⟨S_, .i32⟩
  | 39 => ⟨S1, .i32⟩
  | 40 => ⟨S1, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S_, .i32⟩
  | 79 => ⟨S1, .i32⟩
  | 80 => ⟨S1, .i32⟩
  | 81 => ⟨S_, .i32⟩
  | 82 => ⟨S1, .i32⟩
  | 83 => ⟨S1, .i32⟩
  | 84 => ⟨S1, .i32⟩
  | 85 => ⟨S1, .i32⟩
  | 86 => ⟨S1, .i32⟩
  | 87 => ⟨S_, .i32⟩
  | 88 => ⟨S1, .i32⟩
  | 89 => ⟨S1, .i32⟩
  | 90 => ⟨S_, .i32⟩
  | 91 => ⟨S1, .i32⟩
  | 92 => ⟨S1, .i32⟩
  | 93 => ⟨S1, .i32⟩
  | 94 => ⟨S1, .i32⟩
  | 95 => ⟨S1, .i32⟩
  | 96 => ⟨S_, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S_, .i32⟩
  | 109 => ⟨S1, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S_, .i32⟩
  | 118 => ⟨S1, .i32⟩
  | 119 => ⟨S1, .i32⟩
  | 120 => ⟨S1, .i32⟩
  | 121 => ⟨S_, .i32⟩
  | 122 => ⟨S1, .i32⟩
  | 123 => ⟨S1, .i32⟩
  | 124 => ⟨S_, .i32⟩
  | 125 => ⟨S1, .i32⟩
  | 126 => ⟨S1, .i32⟩
  | 127 => ⟨S1, .i32⟩
  | _ => ⟨S1x16x2048x128, .f32⟩

abbrev hbmTy0_1 (i : Nat) : BufTy := match i % 128 with
  | 0 => ⟨S1, .i32⟩
  | 1 => ⟨S1, .i32⟩
  | 2 => ⟨S_, .i32⟩
  | 3 => ⟨S1, .i32⟩
  | 4 => ⟨S1, .i32⟩
  | 5 => ⟨S_, .i32⟩
  | 6 => ⟨S1, .i32⟩
  | 7 => ⟨S1, .i32⟩
  | 8 => ⟨S1, .i32⟩
  | 9 => ⟨S1, .i32⟩
  | 10 => ⟨S1, .i32⟩
  | 11 => ⟨S_, .i32⟩
  | 12 => ⟨S1, .i32⟩
  | 13 => ⟨S1, .i32⟩
  | 14 => ⟨S_, .i32⟩
  | 15 => ⟨S1, .i32⟩
  | 16 => ⟨S1, .i32⟩
  | 17 => ⟨S1, .i32⟩
  | 18 => ⟨S1, .i32⟩
  | 19 => ⟨S1, .i32⟩
  | 20 => ⟨S_, .i32⟩
  | 21 => ⟨S1, .i32⟩
  | 22 => ⟨S1, .i32⟩
  | 23 => ⟨S_, .i32⟩
  | 24 => ⟨S1, .i32⟩
  | 25 => ⟨S1, .i32⟩
  | 26 => ⟨S1, .i32⟩
  | 27 => ⟨S1, .i32⟩
  | 28 => ⟨S1, .i32⟩
  | 29 => ⟨S1, .i32⟩
  | 30 => ⟨S1, .i32⟩
  | 31 => ⟨S1, .i32⟩
  | 32 => ⟨S_, .i32⟩
  | 33 => ⟨S1, .i32⟩
  | 34 => ⟨S1, .i32⟩
  | 35 => ⟨S1, .i32⟩
  | 36 => ⟨S_, .i32⟩
  | 37 => ⟨S1, .i32⟩
  | 38 => ⟨S1, .i32⟩
  | 39 => ⟨S_, .i32⟩
  | 40 => ⟨S1, .i32⟩
  | 41 => ⟨S1, .i32⟩
  | 42 => ⟨S1, .i32⟩
  | 43 => ⟨S1, .i32⟩
  | 44 => ⟨S1, .i32⟩
  | 45 => ⟨S_, .i32⟩
  | 46 => ⟨S1, .i32⟩
  | 47 => ⟨S1, .i32⟩
  | 48 => ⟨S_, .i32⟩
  | 49 => ⟨S1, .i32⟩
  | 50 => ⟨S1, .i32⟩
  | 51 => ⟨S1, .i32⟩
  | 52 => ⟨S1, .i32⟩
  | 53 => ⟨S1, .i32⟩
  | 54 => ⟨S_, .i32⟩
  | 55 => ⟨S1, .i32⟩
  | 56 => ⟨S1, .i32⟩
  | 57 => ⟨S_, .i32⟩
  | 58 => ⟨S1, .i32⟩
  | 59 => ⟨S1, .i32⟩
  | 60 => ⟨S1, .i32⟩
  | 61 => ⟨S1, .i32⟩
  | 62 => ⟨S1, .i32⟩
  | 63 => ⟨S_, .i32⟩
  | 64 => ⟨S1, .i32⟩
  | 65 => ⟨S1, .i32⟩
  | 66 => ⟨S_, .i32⟩
  | 67 => ⟨S1, .i32⟩
  | 68 => ⟨S1, .i32⟩
  | 69 => ⟨S1, .i32⟩
  | 70 => ⟨S1, .i32⟩
  | 71 => ⟨S1, .i32⟩
  | 72 => ⟨S1, .i32⟩
  | 73 => ⟨S1, .i32⟩
  | 74 => ⟨S1, .i32⟩
  | 75 => ⟨S_, .i32⟩
  | 76 => ⟨S1, .i32⟩
  | 77 => ⟨S1, .i32⟩
  | 78 => ⟨S1, .i32⟩
  | 79 => ⟨S_, .i32⟩
  | 80 => ⟨S1, .i32⟩
  | 81 => ⟨S1, .i32⟩
  | 82 => ⟨S_, .i32⟩
  | 83 => ⟨S1, .i32⟩
  | 84 => ⟨S1, .i32⟩
  | 85 => ⟨S1, .i32⟩
  | 86 => ⟨S1, .i32⟩
  | 87 => ⟨S1, .i32⟩
  | 88 => ⟨S_, .i32⟩
  | 89 => ⟨S1, .i32⟩
  | 90 => ⟨S1, .i32⟩
  | 91 => ⟨S_, .i32⟩
  | 92 => ⟨S1, .i32⟩
  | 93 => ⟨S1, .i32⟩
  | 94 => ⟨S1, .i32⟩
  | 95 => ⟨S1, .i32⟩
  | 96 => ⟨S1, .i32⟩
  | 97 => ⟨S_, .i32⟩
  | 98 => ⟨S1, .i32⟩
  | 99 => ⟨S1, .i32⟩
  | 100 => ⟨S_, .i32⟩
  | 101 => ⟨S1, .i32⟩
  | 102 => ⟨S1, .i32⟩
  | 103 => ⟨S1, .i32⟩
  | 104 => ⟨S1, .i32⟩
  | 105 => ⟨S1, .i32⟩
  | 106 => ⟨S_, .i32⟩
  | 107 => ⟨S1, .i32⟩
  | 108 => ⟨S1, .i32⟩
  | 109 => ⟨S_, .i32⟩
  | 110 => ⟨S1, .i32⟩
  | 111 => ⟨S1, .i32⟩
  | 112 => ⟨S1, .i32⟩
  | 113 => ⟨S1, .i32⟩
  | 114 => ⟨S1, .i32⟩
  | 115 => ⟨S1, .i32⟩
  | 116 => ⟨S1, .i32⟩
  | 117 => ⟨S1, .i32⟩
  | 118 => ⟨S_, .i32⟩
  | 119 => ⟨S1, .i32⟩
  | 120 => ⟨S1, .i32⟩
  | 121 => ⟨S2, .i32⟩
  | 122 => ⟨S_, .f32⟩
  | 123 => ⟨S_, .f32⟩
  | 124 => ⟨S_, .f32⟩
  | 125 => ⟨S_, .f32⟩
  | 126 => ⟨S1x1x1x1, .f32⟩
  | 127 => ⟨S1x1x1x1, .f32⟩
  | _ => ⟨S1x16x2048x128, .f32⟩

abbrev hbmTy0_2 (i : Nat) : BufTy := match i % 128 with
  | 0 => ⟨S1, .i32⟩
  | 1 => ⟨S_, .i32⟩
  | 2 => ⟨S1, .i32⟩
  | 3 => ⟨S_, .i32⟩
  | 4 => ⟨S1x16x11x2048, .i64⟩
  | 5 => ⟨S1x16x11x2048, .i64⟩
  | 6 => ⟨S1x16x11x2048, .i64⟩
  | 7 => ⟨S1x16x11x2048, .i64⟩
  | 8 => ⟨S_, .i64⟩
  | 9 => ⟨S1x16x11x2048, .i64⟩
  | 10 => ⟨S1x16x11x2048, .i64⟩
  | 11 => ⟨S_, .i64⟩
  | 12 => ⟨S1x16x11x2048, .i64⟩
  | 13 => ⟨S1x16x11x2048, .i64⟩
  | 14 => ⟨S_, .i64⟩
  | 15 => ⟨S1x16x11x2048, .i64⟩
  | 16 => ⟨S1x16x11x2048, .i64⟩
  | 17 => ⟨S_, .i64⟩
  | 18 => ⟨S1x16x11x2048, .i64⟩
  | 19 => ⟨S1x16x11x2048, .i64⟩
  | 20 => ⟨S1x16x11x2048, .i64⟩
  | 21 => ⟨S1x16x11x2048, .i64⟩
  | 22 => ⟨S1x16x11x2048, .i64⟩
  | 23 => ⟨S_, .i64⟩
  | 24 => ⟨S1x16x11x2048, .i64⟩
  | 25 => ⟨S1x16x11x2048, .i64⟩
  | 26 => ⟨S1x16x11x2048, .i32⟩
  | 27 => ⟨S1x16x11x2048, .i32⟩
  | 28 => ⟨S_, .i32⟩
  | 29 => ⟨S_, .i32⟩
  | 30 => ⟨S_, .i32⟩
  | 31 => ⟨S1x16x11x2048, .i32⟩
  | 32 => ⟨S1x16x11x2048, .i32⟩
  | 33 => ⟨S1x16x11x2048, .i32⟩
  | 34 => ⟨S1x16x11x2048, .i32⟩
  | 35 => ⟨S1x16x11x2048, .i32⟩
  | 36 => ⟨S_, .i32⟩
  | 37 => ⟨S1x16x11x2048, .i32⟩
  | 38 => ⟨S1x16x11x2048, .i32⟩
  | 39 => ⟨S_, .i32⟩
  | 40 => ⟨S1x16x11x2048, .i32⟩
  | 41 => ⟨S1x16x11x2048, .i32⟩
  | 42 => ⟨S1x16x11x2048, .i32⟩
  | 43 => ⟨S1x16x11x2048, .i32⟩
  | 44 => ⟨S1x16x11x2048, .i32⟩
  | 45 => ⟨S_, .i32⟩
  | 46 => ⟨S1x16x11x2048, .i32⟩
  | 47 => ⟨S1x16x11x2048, .i32⟩
  | 48 => ⟨S_, .i32⟩
  | 49 => ⟨S1x16x11x2048, .i32⟩
  | 50 => ⟨S1x16x11x2048, .i32⟩
  | 51 => ⟨S1x16x11x2048, .i32⟩
  | 52 => ⟨S1x16x11x2048, .i32⟩
  | 53 => ⟨S1x16x11x2048, .i32⟩
  | 54 => ⟨S_, .i32⟩
  | 55 => ⟨S1x16x11x2048, .i32⟩
  | 56 => ⟨S1x16x11x2048, .i32⟩
  | 57 => ⟨S_, .i32⟩
  | 58 => ⟨S1x16x11x2048, .i32⟩
  | 59 => ⟨S1x16x11x2048, .i32⟩
  | 60 => ⟨S1x16x11x2048, .i32⟩
  | 61 => ⟨S1x16x11x2048, .i32⟩
  | 62 => ⟨S1x16x11x2048, .i32⟩
  | 63 => ⟨S_, .i32⟩
  | 64 => ⟨S1x16x11x2048, .i32⟩
  | 65 => ⟨S1x16x11x2048, .i32⟩
  | 66 => ⟨S_, .i32⟩
  | 67 => ⟨S1x16x11x2048, .i32⟩
  | 68 => ⟨S1x16x11x2048, .i32⟩
  | 69 => ⟨S1x16x11x2048, .i32⟩
  | 70 => ⟨S1x16x11x2048, .i32⟩
  | 71 => ⟨S1x16x11x2048, .i32⟩
  | 72 => ⟨S1x16x11x2048, .i32⟩
  | 73 => ⟨S1x16x11x2048, .i32⟩
  | 74 => ⟨S1x16x11x2048, .i32⟩
  | 75 => ⟨S_, .i32⟩
  | 76 => ⟨S1x16x11x2048, .i32⟩
  | 77 => ⟨S1x16x11x2048, .i32⟩
  | 78 => ⟨S1x16x11x2048, .i32⟩
  | 79 => ⟨S_, .i32⟩
  | 80 => ⟨S1x16x11x2048, .i32⟩
  | 81 => ⟨S1x16x11x2048, .i32⟩
  | 82 => ⟨S_, .i32⟩
  | 83 => ⟨S1x16x11x2048, .i32⟩
  | 84 => ⟨S1x16x11x2048, .i32⟩
  | 85 => ⟨S1x16x11x2048, .i32⟩
  | 86 => ⟨S1x16x11x2048, .i32⟩
  | 87 => ⟨S1x16x11x2048, .i32⟩
  | 88 => ⟨S_, .i32⟩
  | 89 => ⟨S1x16x11x2048, .i32⟩
  | 90 => ⟨S1x16x11x2048, .i32⟩
  | 91 => ⟨S_, .i32⟩
  | 92 => ⟨S1x16x11x2048, .i32⟩
  | 93 => ⟨S1x16x11x2048, .i32⟩
  | 94 => ⟨S1x16x11x2048, .i32⟩
  | 95 => ⟨S1x16x11x2048, .i32⟩
  | 96 => ⟨S1x16x11x2048, .i32⟩
  | 97 => ⟨S_, .i32⟩
  | 98 => ⟨S1x16x11x2048, .i32⟩
  | 99 => ⟨S1x16x11x2048, .i32⟩
  | 100 => ⟨S_, .i32⟩
  | 101 => ⟨S1x16x11x2048, .i32⟩
  | 102 => ⟨S1x16x11x2048, .i32⟩
  | 103 => ⟨S1x16x11x2048, .i32⟩
  | 104 => ⟨S1x16x11x2048, .i32⟩
  | 105 => ⟨S1x16x11x2048, .i32⟩
  | 106 => ⟨S_, .i32⟩
  | 107 => ⟨S1x16x11x2048, .i32⟩
  | 108 => ⟨S1x16x11x2048, .i32⟩
  | 109 => ⟨S_, .i32⟩
  | 110 => ⟨S1x16x11x2048, .i32⟩
  | 111 => ⟨S1x16x11x2048, .i32⟩
  | 112 => ⟨S1x16x11x2048, .i32⟩
  | 113 => ⟨S1x16x11x2048, .i32⟩
  | 114 => ⟨S1x16x11x2048, .i32⟩
  | 115 => ⟨S1x16x11x2048, .i32⟩
  | 116 => ⟨S1x16x11x2048, .i32⟩
  | 117 => ⟨S1x16x11x2048, .i32⟩
  | 118 => ⟨S_, .i32⟩
  | 119 => ⟨S1x16x11x2048, .i32⟩
  | 120 => ⟨S1x16x11x2048, .i32⟩
  | 121 => ⟨S1x16x11x2048, .i32⟩
  | 122 => ⟨S_, .i32⟩
  | 123 => ⟨S1x16x11x2048, .i32⟩
  | 124 => ⟨S1x16x11x2048, .i32⟩
  | 125 => ⟨S_, .i32⟩
  | 126 => ⟨S1x16x11x2048, .i32⟩
  | 127 => ⟨S1x16x11x2048, .i32⟩
  | _ => ⟨S1x16x2048x128, .f32⟩

abbrev hbmTy0_3 (i : Nat) : BufTy := match i % 128 with
  | 0 => ⟨S1x16x11x2048, .i32⟩
  | 1 => ⟨S1x16x11x2048, .i32⟩
  | 2 => ⟨S1x16x11x2048, .i32⟩
  | 3 => ⟨S_, .i32⟩
  | 4 => ⟨S1x16x11x2048, .i32⟩
  | 5 => ⟨S1x16x11x2048, .i32⟩
  | 6 => ⟨S_, .i32⟩
  | 7 => ⟨S1x16x11x2048, .i32⟩
  | 8 => ⟨S1x16x11x2048, .i32⟩
  | 9 => ⟨S1x16x11x2048, .i32⟩
  | 10 => ⟨S1x16x11x2048, .i32⟩
  | 11 => ⟨S1x16x11x2048, .i32⟩
  | 12 => ⟨S_, .i32⟩
  | 13 => ⟨S1x16x11x2048, .i32⟩
  | 14 => ⟨S1x16x11x2048, .i32⟩
  | 15 => ⟨S_, .i32⟩
  | 16 => ⟨S1x16x11x2048, .i32⟩
  | 17 => ⟨S1x16x11x2048, .i32⟩
  | 18 => ⟨S1x16x11x2048, .i32⟩
  | 19 => ⟨S1x16x11x2048, .i32⟩
  | 20 => ⟨S1x16x11x2048, .i32⟩
  | 21 => ⟨S_, .i32⟩
  | 22 => ⟨S1x16x11x2048, .i32⟩
  | 23 => ⟨S1x16x11x2048, .i32⟩
  | 24 => ⟨S_, .i32⟩
  | 25 => ⟨S1x16x11x2048, .i32⟩
  | 26 => ⟨S1x16x11x2048, .i32⟩
  | 27 => ⟨S1x16x11x2048, .i32⟩
  | 28 => ⟨S1x16x11x2048, .i32⟩
  | 29 => ⟨S1x16x11x2048, .i32⟩
  | 30 => ⟨S1x16x11x2048, .i32⟩
  | 31 => ⟨S1x16x11x2048, .i32⟩
  | 32 => ⟨S1x16x11x2048, .i32⟩
  | 33 => ⟨S_, .i32⟩
  | 34 => ⟨S1x16x11x2048, .i32⟩
  | 35 => ⟨S1x16x11x2048, .i32⟩
  | 36 => ⟨S1x16x11x2048, .i32⟩
  | 37 => ⟨S_, .i32⟩
  | 38 => ⟨S1x16x11x2048, .i32⟩
  | 39 => ⟨S1x16x11x2048, .i32⟩
  | 40 => ⟨S_, .i32⟩
  | 41 => ⟨S1x16x11x2048, .i32⟩
  | 42 => ⟨S1x16x11x2048, .i32⟩
  | 43 => ⟨S1x16x11x2048, .i32⟩
  | 44 => ⟨S1x16x11x2048, .i32⟩
  | 45 => ⟨S1x16x11x2048, .i32⟩
  | 46 => ⟨S_, .i32⟩
  | 47 => ⟨S1x16x11x2048, .i32⟩
  | 48 => ⟨S1x16x11x2048, .i32⟩
  | 49 => ⟨S_, .i32⟩
  | 50 => ⟨S1x16x11x2048, .i32⟩
  | 51 => ⟨S1x16x11x2048, .i32⟩
  | 52 => ⟨S1x16x11x2048, .i32⟩
  | 53 => ⟨S1x16x11x2048, .i32⟩
  | 54 => ⟨S1x16x11x2048, .i32⟩
  | 55 => ⟨S_, .i32⟩
  | 56 => ⟨S1x16x11x2048, .i32⟩
  | 57 => ⟨S1x16x11x2048, .i32⟩
  | 58 => ⟨S_, .i32⟩
  | 59 => ⟨S1x16x11x2048, .i32⟩
  | 60 => ⟨S1x16x11x2048, .i32⟩
  | 61 => ⟨S1x16x11x2048, .i32⟩
  | 62 => ⟨S1x16x11x2048, .i32⟩
  | 63 => ⟨S1x16x11x2048, .i32⟩
  | 64 => ⟨S_, .i32⟩
  | 65 => ⟨S1x16x11x2048, .i32⟩
  | 66 => ⟨S1x16x11x2048, .i32⟩
  | 67 => ⟨S_, .i32⟩
  | 68 => ⟨S1x16x11x2048, .i32⟩
  | 69 => ⟨S1x16x11x2048, .i32⟩
  | 70 => ⟨S1x16x11x2048, .i32⟩
  | 71 => ⟨S1x16x11x2048, .i32⟩
  | 72 => ⟨S1x16x11x2048, .i32⟩
  | 73 => ⟨S1x16x11x2048, .i32⟩
  | 74 => ⟨S1x16x11x2048, .i32⟩
  | 75 => ⟨S1x16x11x2048, .i32⟩
  | 76 => ⟨S_, .i32⟩
  | 77 => ⟨S1x16x11x2048, .i32⟩
  | 78 => ⟨S1x16x11x2048, .i32⟩
  | 79 => ⟨S1x16x11x2048, .i32⟩
  | 80 => ⟨S_, .i32⟩
  | 81 => ⟨S1x16x11x2048, .i32⟩
  | 82 => ⟨S1x16x11x2048, .i32⟩
  | 83 => ⟨S_, .i32⟩
  | 84 => ⟨S1x16x11x2048, .i32⟩
  | 85 => ⟨S1x16x11x2048, .i32⟩
  | 86 => ⟨S1x16x11x2048, .i32⟩
  | 87 => ⟨S1x16x11x2048, .i32⟩
  | 88 => ⟨S1x16x11x2048, .i32⟩
  | 89 => ⟨S_, .i32⟩
  | 90 => ⟨S1x16x11x2048, .i32⟩
  | 91 => ⟨S1x16x11x2048, .i32⟩
  | 92 => ⟨S_, .i32⟩
  | 93 => ⟨S1x16x11x2048, .i32⟩
  | 94 => ⟨S1x16x11x2048, .i32⟩
  | 95 => ⟨S1x16x11x2048, .i32⟩
  | 96 => ⟨S1x16x11x2048, .i32⟩
  | 97 => ⟨S1x16x11x2048, .i32⟩
  | 98 => ⟨S_, .i32⟩
  | 99 => ⟨S1x16x11x2048, .i32⟩
  | 100 => ⟨S1x16x11x2048, .i32⟩
  | 101 => ⟨S_, .i32⟩
  | 102 => ⟨S1x16x11x2048, .i32⟩
  | 103 => ⟨S1x16x11x2048, .i32⟩
  | 104 => ⟨S1x16x11x2048, .i32⟩
  | 105 => ⟨S1x16x11x2048, .i32⟩
  | 106 => ⟨S1x16x11x2048, .i32⟩
  | 107 => ⟨S_, .i32⟩
  | 108 => ⟨S1x16x11x2048, .i32⟩
  | 109 => ⟨S1x16x11x2048, .i32⟩
  | 110 => ⟨S_, .i32⟩
  | 111 => ⟨S1x16x11x2048, .i32⟩
  | 112 => ⟨S1x16x11x2048, .i32⟩
  | 113 => ⟨S1x16x11x2048, .i32⟩
  | 114 => ⟨S1x16x11x2048, .i32⟩
  | 115 => ⟨S1x16x11x2048, .i32⟩
  | 116 => ⟨S1x16x11x2048, .i32⟩
  | 117 => ⟨S1x16x11x2048, .i32⟩
  | 118 => ⟨S1x16x11x2048, .i32⟩
  | 119 => ⟨S_, .i32⟩
  | 120 => ⟨S1x16x11x2048, .i32⟩
  | 121 => ⟨S1x16x11x2048, .i32⟩
  | 122 => ⟨S1x16x11x2048, .i32⟩
  | 123 => ⟨S_, .i32⟩
  | 124 => ⟨S1x16x11x2048, .i32⟩
  | 125 => ⟨S1x16x11x2048, .i32⟩
  | 126 => ⟨S_, .i32⟩
  | 127 => ⟨S1x16x11x2048, .i32⟩
  | _ => ⟨S1x16x2048x128, .f32⟩

abbrev hbmTy0_4 (i : Nat) : BufTy := match i % 128 with
  | 0 => ⟨S1x16x11x2048, .i32⟩
  | 1 => ⟨S1x16x11x2048, .f32⟩
  | 2 => ⟨S_, .f32⟩
  | 3 => ⟨S1x16x11x2048, .f32⟩
  | 4 => ⟨S1x16x11x2048, .f32⟩
  | 5 => ⟨S1x1x1x1, .f32⟩
  | 6 => ⟨S1x16x11x2048, .f32⟩
  | 7 => ⟨S1x16x11x2048, .f32⟩
  | 8 => ⟨S1x16x11x2048, .f32⟩
  | 9 => ⟨S1x16x11x2048, .f32⟩
  | 10 => ⟨S1x16x11x2048, .f32⟩
  | 11 => ⟨S1x16x11x2048, .f32⟩
  | 12 => ⟨S_, .f32⟩
  | 13 => ⟨S1x16x11x2048, .f32⟩
  | 14 => ⟨S1x16x11x2048, .i1⟩
  | 15 => ⟨S16x11x2048, .i1⟩
  | 16 => ⟨S16x11x2048, .i32⟩
  | 17 => ⟨S_, .i32⟩
  | 18 => ⟨S_, .i32⟩
  | 19 => ⟨S16x12x2048, .i32⟩
  | 20 => ⟨S16x2x6x2048, .i32⟩
  | 21 => ⟨S1152, .i32⟩
  | 22 => ⟨S1x1x1152, .i32⟩
  | 23 => ⟨S6, .i32⟩
  | 24 => ⟨S1x6x1, .i32⟩
  | 25 => ⟨S2, .i32⟩
  | 26 => ⟨S2x1x1, .i32⟩
  | 27 => ⟨S_, .i32⟩
  | 28 => ⟨S_, .i32⟩
  | 29 => ⟨S1x1x1152, .i32⟩
  | 30 => ⟨S1x1x1152, .i32⟩
  | 31 => ⟨S1x1x1152, .i32⟩
  | 32 => ⟨S_, .i32⟩
  | 33 => ⟨S1x1x1152, .i32⟩
  | 34 => ⟨S1x1x1152, .i1⟩
  | 35 => ⟨S1x1x1152, .i32⟩
  | 36 => ⟨S1x1x1152, .i32⟩
  | 37 => ⟨S_, .i32⟩
  | 38 => ⟨S1x1x1152, .i32⟩
  | 39 => ⟨S1x1x1152, .i1⟩
  | 40 => ⟨S1x1x1152, .i1⟩
  | 41 => ⟨S_, .i32⟩
  | 42 => ⟨S1x1x1152, .i32⟩
  | 43 => ⟨S1x1x1152, .i32⟩
  | 44 => ⟨S1x1x1152, .i32⟩
  | 45 => ⟨S1x6x1152, .i32⟩
  | 46 => ⟨S1x6x1152, .i32⟩
  | 47 => ⟨S1x6x1152, .i1⟩
  | 48 => ⟨S_, .i32⟩
  | 49 => ⟨S2x1x1, .i32⟩
  | 50 => ⟨S2x1x1, .i32⟩
  | 51 => ⟨S2x1x1152, .i32⟩
  | 52 => ⟨S2x1x1152, .i32⟩
  | 53 => ⟨S2x1x1152, .i32⟩
  | 54 => ⟨S_, .i32⟩
  | 55 => ⟨S2x1x1152, .i32⟩
  | 56 => ⟨S2x1x1152, .i1⟩
  | 57 => ⟨S2x6x1152, .i1⟩
  | 58 => ⟨S2x6x1152, .i1⟩
  | 59 => ⟨S2x6x1152, .i1⟩
  | 60 => ⟨S2x6x1152, .bf16⟩
  | 61 => ⟨S_, .i32⟩
  | 62 => ⟨S_, .f32⟩
  | 63 => ⟨S1x16x2304x128, .f32⟩
  | 64 => ⟨S1x16x2304x128, .f32⟩
  | 65 => ⟨S1x16x2304x128, .f32⟩
  | 66 => ⟨S1x16x2048x128, .f32⟩
  | 67 => ⟨S1x16x2048x128, .f32⟩
  | 68 => ⟨S1x1x16x2048x128, .f32⟩
  | 69 => ⟨S1x1x16x2048x128, .f32⟩
  | 70 => ⟨S2x1x16x2048x128, .f32⟩
  | _ => ⟨S1x16x2048x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x16x2048x128, .f32⟩

abbrev bufTy : (tb : Table) → Fin (tcTables nBuf tb) → BufTy
  | .hbm, ⟨i, _⟩ => hbmTy i
  | .local _ .vmem, ⟨0, _⟩ => ⟨S1x1x1152x128, .f32⟩
  | .local _ .vmem, ⟨1, _⟩ => ⟨S1x1x1152x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S1x1x6x2048, .i32⟩
  | .local _ .vmem, ⟨7, _⟩ => ⟨S1x1x6x2048, .i32⟩
  | .local _ .vmem, ⟨8, _⟩ => ⟨S1x6x1152, .bf16⟩
  | .local _ .vmem, ⟨9, _⟩ => ⟨S1x6x1152, .bf16⟩
  | .local _ .vmem, ⟨10, _⟩ => ⟨S1x1x1152x128, .f32⟩
  | .local _ .vmem, ⟨11, _⟩ => ⟨S1x1x1152x128, .f32⟩
  | .local _ .vmem, ⟨12, _⟩ => ⟨S1x1x1152x128, .f32⟩
  | .local _ .vmem, ⟨13, _⟩ => ⟨S1x1x1152x128, .f32⟩
  | _, _ => ⟨S1x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_call0_v0 : Ref sig .tc := ⟨.hbm, 27, rfl⟩
abbrev main_call0_call0_c : Ref sig .tc := ⟨.hbm, 28, rfl⟩
abbrev main_call0_call0_v1 : Ref sig .tc := ⟨.hbm, 29, rfl⟩
abbrev main_call0_call0_v2 : Ref sig .tc := ⟨.hbm, 30, rfl⟩
abbrev main_call0_call0_v3 : Ref sig .tc := ⟨.hbm, 31, rfl⟩
abbrev main_call0_call0_v4 : Ref sig .tc := ⟨.hbm, 32, rfl⟩
abbrev main_call0_call0_v5 : Ref sig .tc := ⟨.hbm, 33, rfl⟩
abbrev main_call0_call0_v6 : Ref sig .tc := ⟨.hbm, 34, rfl⟩
abbrev main_call0_call0_c_0 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_call0_c_1 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_call0_v12 : Ref sig .tc := ⟨.hbm, 42, rfl⟩
abbrev main_call0_call0_v13 : Ref sig .tc := ⟨.hbm, 43, rfl⟩
abbrev main_call0_call0_c_2 : Ref sig .tc := ⟨.hbm, 44, rfl⟩
abbrev main_call0_call0_v14 : Ref sig .tc := ⟨.hbm, 45, rfl⟩
abbrev main_call0_call0_v15 : Ref sig .tc := ⟨.hbm, 46, rfl⟩
abbrev main_call0_call0_c_3 : Ref sig .tc := ⟨.hbm, 47, rfl⟩
abbrev main_call0_call0_v16 : Ref sig .tc := ⟨.hbm, 48, rfl⟩
abbrev main_call0_call0_v17 : Ref sig .tc := ⟨.hbm, 49, rfl⟩
abbrev main_call0_call0_v18 : Ref sig .tc := ⟨.hbm, 50, rfl⟩
abbrev main_call0_call0_v19 : Ref sig .tc := ⟨.hbm, 51, rfl⟩
abbrev main_call0_call0_v20 : Ref sig .tc := ⟨.hbm, 52, rfl⟩
abbrev main_call0_call0_c_4 : Ref sig .tc := ⟨.hbm, 53, rfl⟩
abbrev main_call0_call0_v21 : Ref sig .tc := ⟨.hbm, 54, rfl⟩
abbrev main_call0_call0_v22 : Ref sig .tc := ⟨.hbm, 55, rfl⟩
abbrev main_call0_call0_c_5 : Ref sig .tc := ⟨.hbm, 56, rfl⟩
abbrev main_call0_call0_v23 : Ref sig .tc := ⟨.hbm, 57, rfl⟩
abbrev main_call0_call0_v24 : Ref sig .tc := ⟨.hbm, 58, rfl⟩
abbrev main_call0_call0_v25 : Ref sig .tc := ⟨.hbm, 59, rfl⟩
abbrev main_call0_call0_v26 : Ref sig .tc := ⟨.hbm, 60, rfl⟩
abbrev main_call0_call0_v27 : Ref sig .tc := ⟨.hbm, 61, rfl⟩
abbrev main_call0_call0_c_6 : Ref sig .tc := ⟨.hbm, 62, rfl⟩
abbrev main_call0_call0_v28 : Ref sig .tc := ⟨.hbm, 63, rfl⟩
abbrev main_call0_call0_v29 : Ref sig .tc := ⟨.hbm, 64, rfl⟩
abbrev main_call0_call0_c_7 : Ref sig .tc := ⟨.hbm, 65, rfl⟩
abbrev main_call0_call0_v30 : Ref sig .tc := ⟨.hbm, 66, rfl⟩
abbrev main_call0_call0_v31 : Ref sig .tc := ⟨.hbm, 67, rfl⟩
abbrev main_call0_call0_v32 : Ref sig .tc := ⟨.hbm, 68, rfl⟩
abbrev main_call0_call0_v33 : Ref sig .tc := ⟨.hbm, 69, rfl⟩
abbrev main_call0_call0_v34 : Ref sig .tc := ⟨.hbm, 70, rfl⟩
abbrev main_call0_call0_v35 : Ref sig .tc := ⟨.hbm, 71, rfl⟩
abbrev main_call0_call0_v36 : Ref sig .tc := ⟨.hbm, 72, rfl⟩
abbrev main_call0_call0_v37 : Ref sig .tc := ⟨.hbm, 73, rfl⟩
abbrev main_call0_call0_c_8 : Ref sig .tc := ⟨.hbm, 74, rfl⟩
abbrev main_call0_call0_v38 : Ref sig .tc := ⟨.hbm, 75, rfl⟩
abbrev main_call0_call0_v39 : Ref sig .tc := ⟨.hbm, 76, rfl⟩
abbrev main_call0_call0_v40 : Ref sig .tc := ⟨.hbm, 77, rfl⟩
abbrev main_call0_call0_c_9 : Ref sig .tc := ⟨.hbm, 78, rfl⟩
abbrev main_call0_call0_v41 : Ref sig .tc := ⟨.hbm, 79, rfl⟩
abbrev main_call0_call0_v42 : Ref sig .tc := ⟨.hbm, 80, rfl⟩
abbrev main_call0_call0_c_10 : Ref sig .tc := ⟨.hbm, 81, rfl⟩
abbrev main_call0_call0_v43 : Ref sig .tc := ⟨.hbm, 82, rfl⟩
abbrev main_call0_call0_v44 : Ref sig .tc := ⟨.hbm, 83, rfl⟩
abbrev main_call0_call0_v45 : Ref sig .tc := ⟨.hbm, 84, rfl⟩
abbrev main_call0_call0_v46 : Ref sig .tc := ⟨.hbm, 85, rfl⟩
abbrev main_call0_call0_v47 : Ref sig .tc := ⟨.hbm, 86, rfl⟩
abbrev main_call0_call0_c_11 : Ref sig .tc := ⟨.hbm, 87, rfl⟩
abbrev main_call0_call0_v48 : Ref sig .tc := ⟨.hbm, 88, rfl⟩
abbrev main_call0_call0_v49 : Ref sig .tc := ⟨.hbm, 89, rfl⟩
abbrev main_call0_call0_c_12 : Ref sig .tc := ⟨.hbm, 90, rfl⟩
abbrev main_call0_call0_v50 : Ref sig .tc := ⟨.hbm, 91, rfl⟩
abbrev main_call0_call0_v51 : Ref sig .tc := ⟨.hbm, 92, rfl⟩
abbrev main_call0_call0_v52 : Ref sig .tc := ⟨.hbm, 93, rfl⟩
abbrev main_call0_call0_v53 : Ref sig .tc := ⟨.hbm, 94, rfl⟩
abbrev main_call0_call0_v54 : Ref sig .tc := ⟨.hbm, 95, rfl⟩
abbrev main_call0_call0_c_13 : Ref sig .tc := ⟨.hbm, 96, rfl⟩
abbrev main_call0_call0_v55 : Ref sig .tc := ⟨.hbm, 97, rfl⟩
abbrev main_call0_call0_v56 : Ref sig .tc := ⟨.hbm, 98, rfl⟩
abbrev main_call0_call0_c_14 : Ref sig .tc := ⟨.hbm, 99, rfl⟩
abbrev main_call0_call0_v57 : Ref sig .tc := ⟨.hbm, 100, rfl⟩
abbrev main_call0_call0_v58 : Ref sig .tc := ⟨.hbm, 101, rfl⟩
abbrev main_call0_call0_v59 : Ref sig .tc := ⟨.hbm, 102, rfl⟩
abbrev main_call0_call0_v60 : Ref sig .tc := ⟨.hbm, 103, rfl⟩
abbrev main_call0_call0_v61 : Ref sig .tc := ⟨.hbm, 104, rfl⟩
abbrev main_call0_call0_c_15 : Ref sig .tc := ⟨.hbm, 105, rfl⟩
abbrev main_call0_call0_v62 : Ref sig .tc := ⟨.hbm, 106, rfl⟩
abbrev main_call0_call0_v63 : Ref sig .tc := ⟨.hbm, 107, rfl⟩
abbrev main_call0_call0_c_16 : Ref sig .tc := ⟨.hbm, 108, rfl⟩
abbrev main_call0_call0_v64 : Ref sig .tc := ⟨.hbm, 109, rfl⟩
abbrev main_call0_call0_v65 : Ref sig .tc := ⟨.hbm, 110, rfl⟩
abbrev main_call0_call0_v66 : Ref sig .tc := ⟨.hbm, 111, rfl⟩
abbrev main_call0_call0_v67 : Ref sig .tc := ⟨.hbm, 112, rfl⟩
abbrev main_call0_call0_v68 : Ref sig .tc := ⟨.hbm, 113, rfl⟩
abbrev main_call0_call0_v69 : Ref sig .tc := ⟨.hbm, 114, rfl⟩
abbrev main_call0_call0_v70 : Ref sig .tc := ⟨.hbm, 115, rfl⟩
abbrev main_call0_call0_v71 : Ref sig .tc := ⟨.hbm, 116, rfl⟩
abbrev main_call0_call0_c_17 : Ref sig .tc := ⟨.hbm, 117, rfl⟩
abbrev main_call0_call0_v72 : Ref sig .tc := ⟨.hbm, 118, rfl⟩
abbrev main_call0_call0_v73 : Ref sig .tc := ⟨.hbm, 119, rfl⟩
abbrev main_call0_call0_v74 : Ref sig .tc := ⟨.hbm, 120, rfl⟩
abbrev main_call0_call0_c_18 : Ref sig .tc := ⟨.hbm, 121, rfl⟩
abbrev main_call0_call0_v75 : Ref sig .tc := ⟨.hbm, 122, rfl⟩
abbrev main_call0_call0_v76 : Ref sig .tc := ⟨.hbm, 123, rfl⟩
abbrev main_call0_call0_c_19 : Ref sig .tc := ⟨.hbm, 124, rfl⟩
abbrev main_call0_call0_v77 : Ref sig .tc := ⟨.hbm, 125, rfl⟩
abbrev main_call0_call0_v78 : Ref sig .tc := ⟨.hbm, 126, rfl⟩
abbrev main_call0_call0_v79 : Ref sig .tc := ⟨.hbm, 127, rfl⟩
abbrev main_call0_call0_v80 : Ref sig .tc := ⟨.hbm, 128, rfl⟩
abbrev main_call0_call0_v81 : Ref sig .tc := ⟨.hbm, 129, rfl⟩
abbrev main_call0_call0_c_20 : Ref sig .tc := ⟨.hbm, 130, rfl⟩
abbrev main_call0_call0_v82 : Ref sig .tc := ⟨.hbm, 131, rfl⟩
abbrev main_call0_call0_v83 : Ref sig .tc := ⟨.hbm, 132, rfl⟩
abbrev main_call0_call0_c_21 : Ref sig .tc := ⟨.hbm, 133, rfl⟩
abbrev main_call0_call0_v84 : Ref sig .tc := ⟨.hbm, 134, rfl⟩
abbrev main_call0_call0_v85 : Ref sig .tc := ⟨.hbm, 135, rfl⟩
abbrev main_call0_call0_v86 : Ref sig .tc := ⟨.hbm, 136, rfl⟩
abbrev main_call0_call0_v87 : Ref sig .tc := ⟨.hbm, 137, rfl⟩
abbrev main_call0_call0_v88 : Ref sig .tc := ⟨.hbm, 138, rfl⟩
abbrev main_call0_call0_c_22 : Ref sig .tc := ⟨.hbm, 139, rfl⟩
abbrev main_call0_call0_v89 : Ref sig .tc := ⟨.hbm, 140, rfl⟩
abbrev main_call0_call0_v90 : Ref sig .tc := ⟨.hbm, 141, rfl⟩
abbrev main_call0_call0_c_23 : Ref sig .tc := ⟨.hbm, 142, rfl⟩
abbrev main_call0_call0_v91 : Ref sig .tc := ⟨.hbm, 143, rfl⟩
abbrev main_call0_call0_v92 : Ref sig .tc := ⟨.hbm, 144, rfl⟩
abbrev main_call0_call0_v93 : Ref sig .tc := ⟨.hbm, 145, rfl⟩
abbrev main_call0_call0_v94 : Ref sig .tc := ⟨.hbm, 146, rfl⟩
abbrev main_call0_call0_v95 : Ref sig .tc := ⟨.hbm, 147, rfl⟩
abbrev main_call0_call0_c_24 : Ref sig .tc := ⟨.hbm, 148, rfl⟩
abbrev main_call0_call0_v96 : Ref sig .tc := ⟨.hbm, 149, rfl⟩
abbrev main_call0_call0_v97 : Ref sig .tc := ⟨.hbm, 150, rfl⟩
abbrev main_call0_call0_c_25 : Ref sig .tc := ⟨.hbm, 151, rfl⟩
abbrev main_call0_call0_v98 : Ref sig .tc := ⟨.hbm, 152, rfl⟩
abbrev main_call0_call0_v99 : Ref sig .tc := ⟨.hbm, 153, rfl⟩
abbrev main_call0_call0_v100 : Ref sig .tc := ⟨.hbm, 154, rfl⟩
abbrev main_call0_call0_v101 : Ref sig .tc := ⟨.hbm, 155, rfl⟩
abbrev main_call0_call0_v102 : Ref sig .tc := ⟨.hbm, 156, rfl⟩
abbrev main_call0_call0_v103 : Ref sig .tc := ⟨.hbm, 157, rfl⟩
abbrev main_call0_call0_v104 : Ref sig .tc := ⟨.hbm, 158, rfl⟩
abbrev main_call0_call0_v105 : Ref sig .tc := ⟨.hbm, 159, rfl⟩
abbrev main_call0_call0_c_26 : Ref sig .tc := ⟨.hbm, 160, rfl⟩
abbrev main_call0_call0_v106 : Ref sig .tc := ⟨.hbm, 161, rfl⟩
abbrev main_call0_call0_v107 : Ref sig .tc := ⟨.hbm, 162, rfl⟩
abbrev main_call0_call0_v108 : Ref sig .tc := ⟨.hbm, 163, rfl⟩
abbrev main_call0_call0_c_27 : Ref sig .tc := ⟨.hbm, 164, rfl⟩
abbrev main_call0_call0_v109 : Ref sig .tc := ⟨.hbm, 165, rfl⟩
abbrev main_call0_call0_v110 : Ref sig .tc := ⟨.hbm, 166, rfl⟩
abbrev main_call0_call0_c_28 : Ref sig .tc := ⟨.hbm, 167, rfl⟩
abbrev main_call0_call0_v111 : Ref sig .tc := ⟨.hbm, 168, rfl⟩
abbrev main_call0_call0_v112 : Ref sig .tc := ⟨.hbm, 169, rfl⟩
abbrev main_call0_call0_v113 : Ref sig .tc := ⟨.hbm, 170, rfl⟩
abbrev main_call0_call0_v114 : Ref sig .tc := ⟨.hbm, 171, rfl⟩
abbrev main_call0_call0_v115 : Ref sig .tc := ⟨.hbm, 172, rfl⟩
abbrev main_call0_call0_c_29 : Ref sig .tc := ⟨.hbm, 173, rfl⟩
abbrev main_call0_call0_v116 : Ref sig .tc := ⟨.hbm, 174, rfl⟩
abbrev main_call0_call0_v117 : Ref sig .tc := ⟨.hbm, 175, rfl⟩
abbrev main_call0_call0_c_30 : Ref sig .tc := ⟨.hbm, 176, rfl⟩
abbrev main_call0_call0_v118 : Ref sig .tc := ⟨.hbm, 177, rfl⟩
abbrev main_call0_call0_v119 : Ref sig .tc := ⟨.hbm, 178, rfl⟩
abbrev main_call0_call0_v120 : Ref sig .tc := ⟨.hbm, 179, rfl⟩
abbrev main_call0_call0_v121 : Ref sig .tc := ⟨.hbm, 180, rfl⟩
abbrev main_call0_call0_v122 : Ref sig .tc := ⟨.hbm, 181, rfl⟩
abbrev main_call0_call0_c_31 : Ref sig .tc := ⟨.hbm, 182, rfl⟩
abbrev main_call0_call0_v123 : Ref sig .tc := ⟨.hbm, 183, rfl⟩
abbrev main_call0_call0_v124 : Ref sig .tc := ⟨.hbm, 184, rfl⟩
abbrev main_call0_call0_c_32 : Ref sig .tc := ⟨.hbm, 185, rfl⟩
abbrev main_call0_call0_v125 : Ref sig .tc := ⟨.hbm, 186, rfl⟩
abbrev main_call0_call0_v126 : Ref sig .tc := ⟨.hbm, 187, rfl⟩
abbrev main_call0_call0_v127 : Ref sig .tc := ⟨.hbm, 188, rfl⟩
abbrev main_call0_call0_v128 : Ref sig .tc := ⟨.hbm, 189, rfl⟩
abbrev main_call0_call0_v129 : Ref sig .tc := ⟨.hbm, 190, rfl⟩
abbrev main_call0_call0_c_33 : Ref sig .tc := ⟨.hbm, 191, rfl⟩
abbrev main_call0_call0_v130 : Ref sig .tc := ⟨.hbm, 192, rfl⟩
abbrev main_call0_call0_v131 : Ref sig .tc := ⟨.hbm, 193, rfl⟩
abbrev main_call0_call0_c_34 : Ref sig .tc := ⟨.hbm, 194, rfl⟩
abbrev main_call0_call0_v132 : Ref sig .tc := ⟨.hbm, 195, rfl⟩
abbrev main_call0_call0_v133 : Ref sig .tc := ⟨.hbm, 196, rfl⟩
abbrev main_call0_call0_v134 : Ref sig .tc := ⟨.hbm, 197, rfl⟩
abbrev main_call0_call0_v135 : Ref sig .tc := ⟨.hbm, 198, rfl⟩
abbrev main_call0_call0_v136 : Ref sig .tc := ⟨.hbm, 199, rfl⟩
abbrev main_call0_call0_v137 : Ref sig .tc := ⟨.hbm, 200, rfl⟩
abbrev main_call0_call0_v138 : Ref sig .tc := ⟨.hbm, 201, rfl⟩
abbrev main_call0_call0_v139 : Ref sig .tc := ⟨.hbm, 202, rfl⟩
abbrev main_call0_call0_c_35 : Ref sig .tc := ⟨.hbm, 203, rfl⟩
abbrev main_call0_call0_v140 : Ref sig .tc := ⟨.hbm, 204, rfl⟩
abbrev main_call0_call0_v141 : Ref sig .tc := ⟨.hbm, 205, rfl⟩
abbrev main_call0_call0_v142 : Ref sig .tc := ⟨.hbm, 206, rfl⟩
abbrev main_call0_call0_c_36 : Ref sig .tc := ⟨.hbm, 207, rfl⟩
abbrev main_call0_call0_v143 : Ref sig .tc := ⟨.hbm, 208, rfl⟩
abbrev main_call0_call0_v144 : Ref sig .tc := ⟨.hbm, 209, rfl⟩
abbrev main_call0_call0_c_37 : Ref sig .tc := ⟨.hbm, 210, rfl⟩
abbrev main_call0_call0_v145 : Ref sig .tc := ⟨.hbm, 211, rfl⟩
abbrev main_call0_call0_v146 : Ref sig .tc := ⟨.hbm, 212, rfl⟩
abbrev main_call0_call0_v147 : Ref sig .tc := ⟨.hbm, 213, rfl⟩
abbrev main_call0_call0_v148 : Ref sig .tc := ⟨.hbm, 214, rfl⟩
abbrev main_call0_call0_v149 : Ref sig .tc := ⟨.hbm, 215, rfl⟩
abbrev main_call0_call0_c_38 : Ref sig .tc := ⟨.hbm, 216, rfl⟩
abbrev main_call0_call0_v150 : Ref sig .tc := ⟨.hbm, 217, rfl⟩
abbrev main_call0_call0_v151 : Ref sig .tc := ⟨.hbm, 218, rfl⟩
abbrev main_call0_call0_c_39 : Ref sig .tc := ⟨.hbm, 219, rfl⟩
abbrev main_call0_call0_v152 : Ref sig .tc := ⟨.hbm, 220, rfl⟩
abbrev main_call0_call0_v153 : Ref sig .tc := ⟨.hbm, 221, rfl⟩
abbrev main_call0_call0_v154 : Ref sig .tc := ⟨.hbm, 222, rfl⟩
abbrev main_call0_call0_v155 : Ref sig .tc := ⟨.hbm, 223, rfl⟩
abbrev main_call0_call0_v156 : Ref sig .tc := ⟨.hbm, 224, rfl⟩
abbrev main_call0_call0_c_40 : Ref sig .tc := ⟨.hbm, 225, rfl⟩
abbrev main_call0_call0_v157 : Ref sig .tc := ⟨.hbm, 226, rfl⟩
abbrev main_call0_call0_v158 : Ref sig .tc := ⟨.hbm, 227, rfl⟩
abbrev main_call0_call0_c_41 : Ref sig .tc := ⟨.hbm, 228, rfl⟩
abbrev main_call0_call0_v159 : Ref sig .tc := ⟨.hbm, 229, rfl⟩
abbrev main_call0_call0_v160 : Ref sig .tc := ⟨.hbm, 230, rfl⟩
abbrev main_call0_call0_v161 : Ref sig .tc := ⟨.hbm, 231, rfl⟩
abbrev main_call0_call0_v162 : Ref sig .tc := ⟨.hbm, 232, rfl⟩
abbrev main_call0_call0_v163 : Ref sig .tc := ⟨.hbm, 233, rfl⟩
abbrev main_call0_call0_c_42 : Ref sig .tc := ⟨.hbm, 234, rfl⟩
abbrev main_call0_call0_v164 : Ref sig .tc := ⟨.hbm, 235, rfl⟩
abbrev main_call0_call0_v165 : Ref sig .tc := ⟨.hbm, 236, rfl⟩
abbrev main_call0_call0_c_43 : Ref sig .tc := ⟨.hbm, 237, rfl⟩
abbrev main_call0_call0_v166 : Ref sig .tc := ⟨.hbm, 238, rfl⟩
abbrev main_call0_call0_v167 : Ref sig .tc := ⟨.hbm, 239, rfl⟩
abbrev main_call0_call0_v168 : Ref sig .tc := ⟨.hbm, 240, rfl⟩
abbrev main_call0_call0_v169 : Ref sig .tc := ⟨.hbm, 241, rfl⟩
abbrev main_call0_call0_v170 : Ref sig .tc := ⟨.hbm, 242, rfl⟩
abbrev main_call0_v11_0 : Ref sig .tc := ⟨.hbm, 243, rfl⟩
abbrev main_call0_call0_v172 : Ref sig .tc := ⟨.hbm, 244, rfl⟩
abbrev main_call0_call0_v173 : Ref sig .tc := ⟨.hbm, 245, rfl⟩
abbrev main_call0_call0_c_44 : Ref sig .tc := ⟨.hbm, 246, rfl⟩
abbrev main_call0_call0_v174 : Ref sig .tc := ⟨.hbm, 247, rfl⟩
abbrev main_call0_v11_1 : Ref sig .tc := ⟨.hbm, 248, rfl⟩
abbrev main_v7 : Ref sig .tc := ⟨.hbm, 249, rfl⟩
abbrev main_cst : Ref sig .tc := ⟨.hbm, 250, rfl⟩
abbrev main_cst_3 : Ref sig .tc := ⟨.hbm, 251, rfl⟩
abbrev main_call1_v0 : Ref sig .tc := ⟨.hbm, 252, rfl⟩
abbrev main_call1_v1 : Ref sig .tc := ⟨.hbm, 253, rfl⟩
abbrev main_call1_v2 : Ref sig .tc := ⟨.hbm, 254, rfl⟩
abbrev main_call1_v3 : Ref sig .tc := ⟨.hbm, 255, rfl⟩
abbrev main_call1_v4 : Ref sig .tc := ⟨.hbm, 256, rfl⟩
abbrev main_call1_v5 : Ref sig .tc := ⟨.hbm, 257, rfl⟩
abbrev main_call1_v6 : Ref sig .tc := ⟨.hbm, 258, rfl⟩
abbrev main_call1_v7 : Ref sig .tc := ⟨.hbm, 259, rfl⟩
abbrev main_call1_v8 : Ref sig .tc := ⟨.hbm, 260, rfl⟩
abbrev main_call1_v9 : Ref sig .tc := ⟨.hbm, 261, rfl⟩
abbrev main_call1_v10 : Ref sig .tc := ⟨.hbm, 262, rfl⟩
abbrev main_call1_v11 : Ref sig .tc := ⟨.hbm, 263, rfl⟩
abbrev main_call1_c : Ref sig .tc := ⟨.hbm, 264, rfl⟩
abbrev main_call1_v12 : Ref sig .tc := ⟨.hbm, 265, rfl⟩
abbrev main_call1_v13 : Ref sig .tc := ⟨.hbm, 266, rfl⟩
abbrev main_call1_c_0 : Ref sig .tc := ⟨.hbm, 267, rfl⟩
abbrev main_call1_v14 : Ref sig .tc := ⟨.hbm, 268, rfl⟩
abbrev main_call1_v15 : Ref sig .tc := ⟨.hbm, 269, rfl⟩
abbrev main_call1_c_1 : Ref sig .tc := ⟨.hbm, 270, rfl⟩
abbrev main_call1_v16 : Ref sig .tc := ⟨.hbm, 271, rfl⟩
abbrev main_call1_v17 : Ref sig .tc := ⟨.hbm, 272, rfl⟩
abbrev main_call1_c_2 : Ref sig .tc := ⟨.hbm, 273, rfl⟩
abbrev main_call1_v18 : Ref sig .tc := ⟨.hbm, 274, rfl⟩
abbrev main_call1_v19 : Ref sig .tc := ⟨.hbm, 275, rfl⟩
abbrev main_call1_v20 : Ref sig .tc := ⟨.hbm, 276, rfl⟩
abbrev main_call1_v21 : Ref sig .tc := ⟨.hbm, 277, rfl⟩
abbrev main_call1_v22 : Ref sig .tc := ⟨.hbm, 278, rfl⟩
abbrev main_call1_c_3 : Ref sig .tc := ⟨.hbm, 279, rfl⟩
abbrev main_call1_v23 : Ref sig .tc := ⟨.hbm, 280, rfl⟩
abbrev main_call1_v24 : Ref sig .tc := ⟨.hbm, 281, rfl⟩
abbrev main_call1_v25 : Ref sig .tc := ⟨.hbm, 282, rfl⟩
abbrev main_call1_v26 : Ref sig .tc := ⟨.hbm, 283, rfl⟩
abbrev main_call1_call0_v0 : Ref sig .tc := ⟨.hbm, 284, rfl⟩
abbrev main_call1_call0_c : Ref sig .tc := ⟨.hbm, 285, rfl⟩
abbrev main_call1_call0_v1 : Ref sig .tc := ⟨.hbm, 286, rfl⟩
abbrev main_call1_call0_v2 : Ref sig .tc := ⟨.hbm, 287, rfl⟩
abbrev main_call1_call0_v3 : Ref sig .tc := ⟨.hbm, 288, rfl⟩
abbrev main_call1_call0_v4 : Ref sig .tc := ⟨.hbm, 289, rfl⟩
abbrev main_call1_call0_v5 : Ref sig .tc := ⟨.hbm, 290, rfl⟩
abbrev main_call1_call0_v6 : Ref sig .tc := ⟨.hbm, 291, rfl⟩
abbrev main_call1_call0_c_0 : Ref sig .tc := ⟨.hbm, 292, rfl⟩
abbrev main_call1_call0_v7 : Ref sig .tc := ⟨.hbm, 293, rfl⟩
abbrev main_call1_call0_v8 : Ref sig .tc := ⟨.hbm, 294, rfl⟩
abbrev main_call1_call0_c_1 : Ref sig .tc := ⟨.hbm, 295, rfl⟩
abbrev main_call1_call0_v9 : Ref sig .tc := ⟨.hbm, 296, rfl⟩
abbrev main_call1_call0_v10 : Ref sig .tc := ⟨.hbm, 297, rfl⟩
abbrev main_call1_call0_v11 : Ref sig .tc := ⟨.hbm, 298, rfl⟩
abbrev main_call1_call0_v12 : Ref sig .tc := ⟨.hbm, 299, rfl⟩
abbrev main_call1_call0_v13 : Ref sig .tc := ⟨.hbm, 300, rfl⟩
abbrev main_call1_call0_c_2 : Ref sig .tc := ⟨.hbm, 301, rfl⟩
abbrev main_call1_call0_v14 : Ref sig .tc := ⟨.hbm, 302, rfl⟩
abbrev main_call1_call0_v15 : Ref sig .tc := ⟨.hbm, 303, rfl⟩
abbrev main_call1_call0_c_3 : Ref sig .tc := ⟨.hbm, 304, rfl⟩
abbrev main_call1_call0_v16 : Ref sig .tc := ⟨.hbm, 305, rfl⟩
abbrev main_call1_call0_v17 : Ref sig .tc := ⟨.hbm, 306, rfl⟩
abbrev main_call1_call0_v18 : Ref sig .tc := ⟨.hbm, 307, rfl⟩
abbrev main_call1_call0_v19 : Ref sig .tc := ⟨.hbm, 308, rfl⟩
abbrev main_call1_call0_v20 : Ref sig .tc := ⟨.hbm, 309, rfl⟩
abbrev main_call1_call0_c_4 : Ref sig .tc := ⟨.hbm, 310, rfl⟩
abbrev main_call1_call0_v21 : Ref sig .tc := ⟨.hbm, 311, rfl⟩
abbrev main_call1_call0_v22 : Ref sig .tc := ⟨.hbm, 312, rfl⟩
abbrev main_call1_call0_c_5 : Ref sig .tc := ⟨.hbm, 313, rfl⟩
abbrev main_call1_call0_v23 : Ref sig .tc := ⟨.hbm, 314, rfl⟩
abbrev main_call1_call0_v24 : Ref sig .tc := ⟨.hbm, 315, rfl⟩
abbrev main_call1_call0_v25 : Ref sig .tc := ⟨.hbm, 316, rfl⟩
abbrev main_call1_call0_v26 : Ref sig .tc := ⟨.hbm, 317, rfl⟩
abbrev main_call1_call0_v27 : Ref sig .tc := ⟨.hbm, 318, rfl⟩
abbrev main_call1_call0_c_6 : Ref sig .tc := ⟨.hbm, 319, rfl⟩
abbrev main_call1_call0_v28 : Ref sig .tc := ⟨.hbm, 320, rfl⟩
abbrev main_call1_call0_v29 : Ref sig .tc := ⟨.hbm, 321, rfl⟩
abbrev main_call1_call0_c_7 : Ref sig .tc := ⟨.hbm, 322, rfl⟩
abbrev main_call1_call0_v30 : Ref sig .tc := ⟨.hbm, 323, rfl⟩
abbrev main_call1_call0_v31 : Ref sig .tc := ⟨.hbm, 324, rfl⟩
abbrev main_call1_call0_v32 : Ref sig .tc := ⟨.hbm, 325, rfl⟩
abbrev main_call1_call0_v33 : Ref sig .tc := ⟨.hbm, 326, rfl⟩
abbrev main_call1_call0_v34 : Ref sig .tc := ⟨.hbm, 327, rfl⟩
abbrev main_call1_call0_v35 : Ref sig .tc := ⟨.hbm, 328, rfl⟩
abbrev main_call1_call0_v36 : Ref sig .tc := ⟨.hbm, 329, rfl⟩
abbrev main_call1_call0_v37 : Ref sig .tc := ⟨.hbm, 330, rfl⟩
abbrev main_call1_call0_c_8 : Ref sig .tc := ⟨.hbm, 331, rfl⟩
abbrev main_call1_call0_v38 : Ref sig .tc := ⟨.hbm, 332, rfl⟩
abbrev main_call1_call0_v39 : Ref sig .tc := ⟨.hbm, 333, rfl⟩
abbrev main_call1_call0_v40 : Ref sig .tc := ⟨.hbm, 334, rfl⟩
abbrev main_call1_call0_c_9 : Ref sig .tc := ⟨.hbm, 335, rfl⟩
abbrev main_call1_call0_v41 : Ref sig .tc := ⟨.hbm, 336, rfl⟩
abbrev main_call1_call0_v42 : Ref sig .tc := ⟨.hbm, 337, rfl⟩
abbrev main_call1_call0_c_10 : Ref sig .tc := ⟨.hbm, 338, rfl⟩
abbrev main_call1_call0_v43 : Ref sig .tc := ⟨.hbm, 339, rfl⟩
abbrev main_call1_call0_v44 : Ref sig .tc := ⟨.hbm, 340, rfl⟩
abbrev main_call1_call0_v45 : Ref sig .tc := ⟨.hbm, 341, rfl⟩
abbrev main_call1_call0_v46 : Ref sig .tc := ⟨.hbm, 342, rfl⟩
abbrev main_call1_call0_v47 : Ref sig .tc := ⟨.hbm, 343, rfl⟩
abbrev main_call1_call0_c_11 : Ref sig .tc := ⟨.hbm, 344, rfl⟩
abbrev main_call1_call0_v48 : Ref sig .tc := ⟨.hbm, 345, rfl⟩
abbrev main_call1_call0_v49 : Ref sig .tc := ⟨.hbm, 346, rfl⟩
abbrev main_call1_call0_c_12 : Ref sig .tc := ⟨.hbm, 347, rfl⟩
abbrev main_call1_call0_v50 : Ref sig .tc := ⟨.hbm, 348, rfl⟩
abbrev main_call1_call0_v51 : Ref sig .tc := ⟨.hbm, 349, rfl⟩
abbrev main_call1_call0_v52 : Ref sig .tc := ⟨.hbm, 350, rfl⟩
abbrev main_call1_call0_v53 : Ref sig .tc := ⟨.hbm, 351, rfl⟩
abbrev main_call1_call0_v54 : Ref sig .tc := ⟨.hbm, 352, rfl⟩
abbrev main_call1_call0_c_13 : Ref sig .tc := ⟨.hbm, 353, rfl⟩
abbrev main_call1_call0_v55 : Ref sig .tc := ⟨.hbm, 354, rfl⟩
abbrev main_call1_call0_v56 : Ref sig .tc := ⟨.hbm, 355, rfl⟩
abbrev main_call1_call0_c_14 : Ref sig .tc := ⟨.hbm, 356, rfl⟩
abbrev main_call1_call0_v57 : Ref sig .tc := ⟨.hbm, 357, rfl⟩
abbrev main_call1_call0_v58 : Ref sig .tc := ⟨.hbm, 358, rfl⟩
abbrev main_call1_call0_v59 : Ref sig .tc := ⟨.hbm, 359, rfl⟩
abbrev main_call1_call0_v60 : Ref sig .tc := ⟨.hbm, 360, rfl⟩
abbrev main_call1_call0_v61 : Ref sig .tc := ⟨.hbm, 361, rfl⟩
abbrev main_call1_call0_c_15 : Ref sig .tc := ⟨.hbm, 362, rfl⟩
abbrev main_call1_call0_v62 : Ref sig .tc := ⟨.hbm, 363, rfl⟩
abbrev main_call1_call0_v63 : Ref sig .tc := ⟨.hbm, 364, rfl⟩
abbrev main_call1_call0_c_16 : Ref sig .tc := ⟨.hbm, 365, rfl⟩
abbrev main_call1_call0_v64 : Ref sig .tc := ⟨.hbm, 366, rfl⟩
abbrev main_call1_call0_v65 : Ref sig .tc := ⟨.hbm, 367, rfl⟩
abbrev main_call1_call0_v66 : Ref sig .tc := ⟨.hbm, 368, rfl⟩
abbrev main_call1_call0_v67 : Ref sig .tc := ⟨.hbm, 369, rfl⟩
abbrev main_call1_call0_v68 : Ref sig .tc := ⟨.hbm, 370, rfl⟩
abbrev main_call1_call0_v69 : Ref sig .tc := ⟨.hbm, 371, rfl⟩
abbrev main_call1_call0_v70 : Ref sig .tc := ⟨.hbm, 372, rfl⟩
abbrev main_call1_call0_v71 : Ref sig .tc := ⟨.hbm, 373, rfl⟩
abbrev main_call1_call0_c_17 : Ref sig .tc := ⟨.hbm, 374, rfl⟩
abbrev main_call1_call0_v72 : Ref sig .tc := ⟨.hbm, 375, rfl⟩
abbrev main_call1_call0_v73 : Ref sig .tc := ⟨.hbm, 376, rfl⟩
abbrev main_call1_call0_v74 : Ref sig .tc := ⟨.hbm, 377, rfl⟩
abbrev main_call1_call0_c_18 : Ref sig .tc := ⟨.hbm, 378, rfl⟩
abbrev main_call1_call0_v75 : Ref sig .tc := ⟨.hbm, 379, rfl⟩
abbrev main_call1_call0_v76 : Ref sig .tc := ⟨.hbm, 380, rfl⟩
abbrev main_call1_call0_c_19 : Ref sig .tc := ⟨.hbm, 381, rfl⟩
abbrev main_call1_call0_v77 : Ref sig .tc := ⟨.hbm, 382, rfl⟩
abbrev main_call1_call0_v78 : Ref sig .tc := ⟨.hbm, 383, rfl⟩
abbrev main_call1_call0_v79 : Ref sig .tc := ⟨.hbm, 384, rfl⟩
abbrev main_call1_call0_v80 : Ref sig .tc := ⟨.hbm, 385, rfl⟩
abbrev main_call1_call0_v81 : Ref sig .tc := ⟨.hbm, 386, rfl⟩
abbrev main_call1_call0_c_20 : Ref sig .tc := ⟨.hbm, 387, rfl⟩
abbrev main_call1_call0_v82 : Ref sig .tc := ⟨.hbm, 388, rfl⟩
abbrev main_call1_call0_v83 : Ref sig .tc := ⟨.hbm, 389, rfl⟩
abbrev main_call1_call0_c_21 : Ref sig .tc := ⟨.hbm, 390, rfl⟩
abbrev main_call1_call0_v84 : Ref sig .tc := ⟨.hbm, 391, rfl⟩
abbrev main_call1_call0_v85 : Ref sig .tc := ⟨.hbm, 392, rfl⟩
abbrev main_call1_call0_v86 : Ref sig .tc := ⟨.hbm, 393, rfl⟩
abbrev main_call1_call0_v87 : Ref sig .tc := ⟨.hbm, 394, rfl⟩
abbrev main_call1_call0_v88 : Ref sig .tc := ⟨.hbm, 395, rfl⟩
abbrev main_call1_call0_c_22 : Ref sig .tc := ⟨.hbm, 396, rfl⟩
abbrev main_call1_call0_v89 : Ref sig .tc := ⟨.hbm, 397, rfl⟩
abbrev main_call1_call0_v90 : Ref sig .tc := ⟨.hbm, 398, rfl⟩
abbrev main_call1_call0_c_23 : Ref sig .tc := ⟨.hbm, 399, rfl⟩
abbrev main_call1_call0_v91 : Ref sig .tc := ⟨.hbm, 400, rfl⟩
abbrev main_call1_call0_v92 : Ref sig .tc := ⟨.hbm, 401, rfl⟩
abbrev main_call1_call0_v93 : Ref sig .tc := ⟨.hbm, 402, rfl⟩
abbrev main_call1_call0_v94 : Ref sig .tc := ⟨.hbm, 403, rfl⟩
abbrev main_call1_call0_v95 : Ref sig .tc := ⟨.hbm, 404, rfl⟩
abbrev main_call1_call0_c_24 : Ref sig .tc := ⟨.hbm, 405, rfl⟩
abbrev main_call1_call0_v96 : Ref sig .tc := ⟨.hbm, 406, rfl⟩
abbrev main_call1_call0_v97 : Ref sig .tc := ⟨.hbm, 407, rfl⟩
abbrev main_call1_call0_c_25 : Ref sig .tc := ⟨.hbm, 408, rfl⟩
abbrev main_call1_call0_v98 : Ref sig .tc := ⟨.hbm, 409, rfl⟩
abbrev main_call1_call0_v99 : Ref sig .tc := ⟨.hbm, 410, rfl⟩
abbrev main_call1_call0_v100 : Ref sig .tc := ⟨.hbm, 411, rfl⟩
abbrev main_call1_call0_v101 : Ref sig .tc := ⟨.hbm, 412, rfl⟩
abbrev main_call1_call0_v102 : Ref sig .tc := ⟨.hbm, 413, rfl⟩
abbrev main_call1_call0_v103 : Ref sig .tc := ⟨.hbm, 414, rfl⟩
abbrev main_call1_call0_v104 : Ref sig .tc := ⟨.hbm, 415, rfl⟩
abbrev main_call1_call0_v105 : Ref sig .tc := ⟨.hbm, 416, rfl⟩
abbrev main_call1_call0_c_26 : Ref sig .tc := ⟨.hbm, 417, rfl⟩
abbrev main_call1_call0_v106 : Ref sig .tc := ⟨.hbm, 418, rfl⟩
abbrev main_call1_call0_v107 : Ref sig .tc := ⟨.hbm, 419, rfl⟩
abbrev main_call1_call0_v108 : Ref sig .tc := ⟨.hbm, 420, rfl⟩
abbrev main_call1_call0_c_27 : Ref sig .tc := ⟨.hbm, 421, rfl⟩
abbrev main_call1_call0_v109 : Ref sig .tc := ⟨.hbm, 422, rfl⟩
abbrev main_call1_call0_v110 : Ref sig .tc := ⟨.hbm, 423, rfl⟩
abbrev main_call1_call0_c_28 : Ref sig .tc := ⟨.hbm, 424, rfl⟩
abbrev main_call1_call0_v111 : Ref sig .tc := ⟨.hbm, 425, rfl⟩
abbrev main_call1_call0_v112 : Ref sig .tc := ⟨.hbm, 426, rfl⟩
abbrev main_call1_call0_v113 : Ref sig .tc := ⟨.hbm, 427, rfl⟩
abbrev main_call1_call0_v114 : Ref sig .tc := ⟨.hbm, 428, rfl⟩
abbrev main_call1_call0_v115 : Ref sig .tc := ⟨.hbm, 429, rfl⟩
abbrev main_call1_call0_c_29 : Ref sig .tc := ⟨.hbm, 430, rfl⟩
abbrev main_call1_call0_v116 : Ref sig .tc := ⟨.hbm, 431, rfl⟩
abbrev main_call1_call0_v117 : Ref sig .tc := ⟨.hbm, 432, rfl⟩
abbrev main_call1_call0_c_30 : Ref sig .tc := ⟨.hbm, 433, rfl⟩
abbrev main_call1_call0_v118 : Ref sig .tc := ⟨.hbm, 434, rfl⟩
abbrev main_call1_call0_v119 : Ref sig .tc := ⟨.hbm, 435, rfl⟩
abbrev main_call1_call0_v120 : Ref sig .tc := ⟨.hbm, 436, rfl⟩
abbrev main_call1_call0_v121 : Ref sig .tc := ⟨.hbm, 437, rfl⟩
abbrev main_call1_call0_v122 : Ref sig .tc := ⟨.hbm, 438, rfl⟩
abbrev main_call1_call0_c_31 : Ref sig .tc := ⟨.hbm, 439, rfl⟩
abbrev main_call1_call0_v123 : Ref sig .tc := ⟨.hbm, 440, rfl⟩
abbrev main_call1_call0_v124 : Ref sig .tc := ⟨.hbm, 441, rfl⟩
abbrev main_call1_call0_c_32 : Ref sig .tc := ⟨.hbm, 442, rfl⟩
abbrev main_call1_call0_v125 : Ref sig .tc := ⟨.hbm, 443, rfl⟩
abbrev main_call1_call0_v126 : Ref sig .tc := ⟨.hbm, 444, rfl⟩
abbrev main_call1_call0_v127 : Ref sig .tc := ⟨.hbm, 445, rfl⟩
abbrev main_call1_call0_v128 : Ref sig .tc := ⟨.hbm, 446, rfl⟩
abbrev main_call1_call0_v129 : Ref sig .tc := ⟨.hbm, 447, rfl⟩
abbrev main_call1_call0_c_33 : Ref sig .tc := ⟨.hbm, 448, rfl⟩
abbrev main_call1_call0_v130 : Ref sig .tc := ⟨.hbm, 449, rfl⟩
abbrev main_call1_call0_v131 : Ref sig .tc := ⟨.hbm, 450, rfl⟩
abbrev main_call1_call0_c_34 : Ref sig .tc := ⟨.hbm, 451, rfl⟩
abbrev main_call1_call0_v132 : Ref sig .tc := ⟨.hbm, 452, rfl⟩
abbrev main_call1_call0_v133 : Ref sig .tc := ⟨.hbm, 453, rfl⟩
abbrev main_call1_call0_v134 : Ref sig .tc := ⟨.hbm, 454, rfl⟩
abbrev main_call1_call0_v135 : Ref sig .tc := ⟨.hbm, 455, rfl⟩
abbrev main_call1_call0_v136 : Ref sig .tc := ⟨.hbm, 456, rfl⟩
abbrev main_call1_call0_v137 : Ref sig .tc := ⟨.hbm, 457, rfl⟩
abbrev main_call1_call0_v138 : Ref sig .tc := ⟨.hbm, 458, rfl⟩
abbrev main_call1_call0_v139 : Ref sig .tc := ⟨.hbm, 459, rfl⟩
abbrev main_call1_call0_c_35 : Ref sig .tc := ⟨.hbm, 460, rfl⟩
abbrev main_call1_call0_v140 : Ref sig .tc := ⟨.hbm, 461, rfl⟩
abbrev main_call1_call0_v141 : Ref sig .tc := ⟨.hbm, 462, rfl⟩
abbrev main_call1_call0_v142 : Ref sig .tc := ⟨.hbm, 463, rfl⟩
abbrev main_call1_call0_c_36 : Ref sig .tc := ⟨.hbm, 464, rfl⟩
abbrev main_call1_call0_v143 : Ref sig .tc := ⟨.hbm, 465, rfl⟩
abbrev main_call1_call0_v144 : Ref sig .tc := ⟨.hbm, 466, rfl⟩
abbrev main_call1_call0_c_37 : Ref sig .tc := ⟨.hbm, 467, rfl⟩
abbrev main_call1_call0_v145 : Ref sig .tc := ⟨.hbm, 468, rfl⟩
abbrev main_call1_call0_v146 : Ref sig .tc := ⟨.hbm, 469, rfl⟩
abbrev main_call1_call0_v147 : Ref sig .tc := ⟨.hbm, 470, rfl⟩
abbrev main_call1_call0_v148 : Ref sig .tc := ⟨.hbm, 471, rfl⟩
abbrev main_call1_call0_v149 : Ref sig .tc := ⟨.hbm, 472, rfl⟩
abbrev main_call1_call0_c_38 : Ref sig .tc := ⟨.hbm, 473, rfl⟩
abbrev main_call1_call0_v150 : Ref sig .tc := ⟨.hbm, 474, rfl⟩
abbrev main_call1_call0_v151 : Ref sig .tc := ⟨.hbm, 475, rfl⟩
abbrev main_call1_call0_c_39 : Ref sig .tc := ⟨.hbm, 476, rfl⟩
abbrev main_call1_call0_v152 : Ref sig .tc := ⟨.hbm, 477, rfl⟩
abbrev main_call1_call0_v153 : Ref sig .tc := ⟨.hbm, 478, rfl⟩
abbrev main_call1_call0_v154 : Ref sig .tc := ⟨.hbm, 479, rfl⟩
abbrev main_call1_call0_v155 : Ref sig .tc := ⟨.hbm, 480, rfl⟩
abbrev main_call1_call0_v156 : Ref sig .tc := ⟨.hbm, 481, rfl⟩
abbrev main_call1_call0_c_40 : Ref sig .tc := ⟨.hbm, 482, rfl⟩
abbrev main_call1_call0_v157 : Ref sig .tc := ⟨.hbm, 483, rfl⟩
abbrev main_call1_call0_v158 : Ref sig .tc := ⟨.hbm, 484, rfl⟩
abbrev main_call1_call0_c_41 : Ref sig .tc := ⟨.hbm, 485, rfl⟩
abbrev main_call1_call0_v159 : Ref sig .tc := ⟨.hbm, 486, rfl⟩
abbrev main_call1_call0_v160 : Ref sig .tc := ⟨.hbm, 487, rfl⟩
abbrev main_call1_call0_v161 : Ref sig .tc := ⟨.hbm, 488, rfl⟩
abbrev main_call1_call0_v162 : Ref sig .tc := ⟨.hbm, 489, rfl⟩
abbrev main_call1_call0_v163 : Ref sig .tc := ⟨.hbm, 490, rfl⟩
abbrev main_call1_call0_c_42 : Ref sig .tc := ⟨.hbm, 491, rfl⟩
abbrev main_call1_call0_v164 : Ref sig .tc := ⟨.hbm, 492, rfl⟩
abbrev main_call1_call0_v165 : Ref sig .tc := ⟨.hbm, 493, rfl⟩
abbrev main_call1_call0_c_43 : Ref sig .tc := ⟨.hbm, 494, rfl⟩
abbrev main_call1_call0_v166 : Ref sig .tc := ⟨.hbm, 495, rfl⟩
abbrev main_call1_call0_v167 : Ref sig .tc := ⟨.hbm, 496, rfl⟩
abbrev main_call1_call0_v168 : Ref sig .tc := ⟨.hbm, 497, rfl⟩
abbrev main_call1_call0_v169 : Ref sig .tc := ⟨.hbm, 498, rfl⟩
abbrev main_call1_call0_v170 : Ref sig .tc := ⟨.hbm, 499, rfl⟩
abbrev main_call1_v27_0 : Ref sig .tc := ⟨.hbm, 500, rfl⟩
abbrev main_call1_call0_v172 : Ref sig .tc := ⟨.hbm, 501, rfl⟩
abbrev main_call1_call0_v173 : Ref sig .tc := ⟨.hbm, 502, rfl⟩
abbrev main_call1_call0_c_44 : Ref sig .tc := ⟨.hbm, 503, rfl⟩
abbrev main_call1_call0_v174 : Ref sig .tc := ⟨.hbm, 504, rfl⟩
abbrev main_call1_v27_1 : Ref sig .tc := ⟨.hbm, 505, rfl⟩
abbrev main_call1_v28 : Ref sig .tc := ⟨.hbm, 506, rfl⟩
abbrev main_call1_c_4 : Ref sig .tc := ⟨.hbm, 507, rfl⟩
abbrev main_call1_v29 : Ref sig .tc := ⟨.hbm, 508, rfl⟩
abbrev main_call1_v30 : Ref sig .tc := ⟨.hbm, 509, rfl⟩
abbrev main_call1_c_5 : Ref sig .tc := ⟨.hbm, 510, rfl⟩
abbrev main_call1_v31 : Ref sig .tc := ⟨.hbm, 511, rfl⟩
abbrev main_call1_v32 : Ref sig .tc := ⟨.hbm, 512, rfl⟩
abbrev main_call1_v33 : Ref sig .tc := ⟨.hbm, 513, rfl⟩
abbrev main_call1_cst : Ref sig .tc := ⟨.hbm, 514, rfl⟩
abbrev main_call1_v34 : Ref sig .tc := ⟨.hbm, 515, rfl⟩
abbrev main_call1_v35 : Ref sig .tc := ⟨.hbm, 516, rfl⟩
abbrev main_call1_v36 : Ref sig .tc := ⟨.hbm, 517, rfl⟩
abbrev main_call1_v37 : Ref sig .tc := ⟨.hbm, 518, rfl⟩
abbrev main_call1_v38 : Ref sig .tc := ⟨.hbm, 519, rfl⟩
abbrev main_call1_v39 : Ref sig .tc := ⟨.hbm, 520, rfl⟩
abbrev main_call1_v40 : Ref sig .tc := ⟨.hbm, 521, rfl⟩
abbrev main_call1_v41 : Ref sig .tc := ⟨.hbm, 522, rfl⟩
abbrev main_v8 : Ref sig .tc := ⟨.hbm, 523, rfl⟩
abbrev main_cst_4 : Ref sig .tc := ⟨.hbm, 524, rfl⟩
abbrev main_v9 : Ref sig .tc := ⟨.hbm, 525, rfl⟩
abbrev main_v10 : Ref sig .tc := ⟨.hbm, 526, rfl⟩
abbrev main_v11 : Ref sig .tc := ⟨.hbm, 527, rfl⟩
abbrev main_v12 : Ref sig .tc := ⟨.hbm, 528, rfl⟩
abbrev main_c_5 : Ref sig .tc := ⟨.hbm, 529, rfl⟩
abbrev main_call2_v0 : Ref sig .tc := ⟨.hbm, 530, rfl⟩
abbrev main_v13 : Ref sig .tc := ⟨.hbm, 531, rfl⟩
abbrev main_v14 : Ref sig .tc := ⟨.hbm, 532, rfl⟩
abbrev main_v15 : Ref sig .tc := ⟨.hbm, 533, rfl⟩
abbrev main_v16 : Ref sig .tc := ⟨.hbm, 534, rfl⟩
abbrev main_v17 : Ref sig .tc := ⟨.hbm, 535, rfl⟩
abbrev main_v18 : Ref sig .tc := ⟨.hbm, 536, rfl⟩
abbrev main_v19 : Ref sig .tc := ⟨.hbm, 537, rfl⟩
abbrev main_v20 : Ref sig .tc := ⟨.hbm, 538, rfl⟩
abbrev main_c_6 : Ref sig .tc := ⟨.hbm, 539, rfl⟩
abbrev main_call3_v0 : Ref sig .tc := ⟨.hbm, 540, rfl⟩
abbrev main_call3_v1 : Ref sig .tc := ⟨.hbm, 541, rfl⟩
abbrev main_call3_v2 : Ref sig .tc := ⟨.hbm, 542, rfl⟩
abbrev main_call3_v3 : Ref sig .tc := ⟨.hbm, 543, rfl⟩
abbrev main_call3_v4 : Ref sig .tc := ⟨.hbm, 544, rfl⟩
abbrev main_call3_v5 : Ref sig .tc := ⟨.hbm, 545, rfl⟩
abbrev main_call3_v6 : Ref sig .tc := ⟨.hbm, 546, rfl⟩
abbrev main_call3_v7 : Ref sig .tc := ⟨.hbm, 547, rfl⟩
abbrev main_call3_v8 : Ref sig .tc := ⟨.hbm, 548, rfl⟩
abbrev main_call3_c : Ref sig .tc := ⟨.hbm, 549, rfl⟩
abbrev main_call3_v9 : Ref sig .tc := ⟨.hbm, 550, rfl⟩
abbrev main_call3_v10 : Ref sig .tc := ⟨.hbm, 551, rfl⟩
abbrev main_call3_v11 : Ref sig .tc := ⟨.hbm, 552, rfl⟩
abbrev main_call3_c_0 : Ref sig .tc := ⟨.hbm, 553, rfl⟩
abbrev main_call3_v12 : Ref sig .tc := ⟨.hbm, 554, rfl⟩
abbrev main_call3_v13 : Ref sig .tc := ⟨.hbm, 555, rfl⟩
abbrev main_v21 : Ref sig .tc := ⟨.hbm, 556, rfl⟩
abbrev main_v22 : Ref sig .tc := ⟨.hbm, 557, rfl⟩
abbrev main_v23 : Ref sig .tc := ⟨.hbm, 558, rfl⟩
abbrev main_v24 : Ref sig .tc := ⟨.hbm, 559, rfl⟩
abbrev main_c_7 : Ref sig .tc := ⟨.hbm, 560, rfl⟩
abbrev main_v25 : Ref sig .tc := ⟨.hbm, 561, rfl⟩
abbrev main_v26 : Ref sig .tc := ⟨.hbm, 562, rfl⟩
abbrev main_v27 : Ref sig .tc := ⟨.hbm, 563, rfl⟩
abbrev main_v28 : Ref sig .tc := ⟨.hbm, 564, rfl⟩
abbrev main_v29 : Ref sig .tc := ⟨.hbm, 565, rfl⟩
abbrev main_c_8 : Ref sig .tc := ⟨.hbm, 566, rfl⟩
abbrev main_v30 : Ref sig .tc := ⟨.hbm, 567, rfl⟩
abbrev main_v31 : Ref sig .tc := ⟨.hbm, 568, rfl⟩
abbrev main_v32 : Ref sig .tc := ⟨.hbm, 569, rfl⟩
abbrev main_v33 : Ref sig .tc := ⟨.hbm, 570, rfl⟩
abbrev main_v34 : Ref sig .tc := ⟨.hbm, 571, rfl⟩
abbrev main_v35 : Ref sig .tc := ⟨.hbm, 572, rfl⟩
abbrev main_c_9 : Ref sig .tc := ⟨.hbm, 573, rfl⟩
abbrev main_call4_v0 : Ref sig .tc := ⟨.hbm, 574, rfl⟩
abbrev main_v36 : Ref sig .tc := ⟨.hbm, 575, rfl⟩
abbrev main_v37_0 : Ref sig .tc := ⟨.hbm, 576, rfl⟩
abbrev main_v37_1 : Ref sig .tc := ⟨.hbm, 577, rfl⟩
abbrev main_v38 : Ref sig .tc := ⟨.hbm, 578, rfl⟩
abbrev main_v39 : Ref sig .tc := ⟨.hbm, 579, rfl⟩
abbrev main_v40 : Ref sig .tc := ⟨.hbm, 580, rfl⟩
abbrev main_v41 : Ref sig .tc := ⟨.hbm, 581, rfl⟩
abbrev main_v42 : Ref sig .tc := ⟨.hbm, 582, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x1x1152x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x6x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1152x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1152x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S1x16x2048x128 : Shape := ⟨4, ![1, 16, 2048, 128]⟩
abbrev S1x16x2048x2048 : Shape := ⟨4, ![1, 16, 2048, 2048]⟩
abbrev S_ : Shape := ⟨0, ![]⟩
abbrev S1x16x2048 : Shape := ⟨3, ![1, 16, 2048]⟩
abbrev S1x16x2048x1 : Shape := ⟨4, ![1, 16, 2048, 1]⟩
abbrev S2048 : Shape := ⟨1, ![2048]⟩
abbrev S2048x1 : Shape := ⟨2, ![2048, 1]⟩
abbrev S1x11 : Shape := ⟨2, ![1, 11]⟩
abbrev S2048x11 : Shape := ⟨2, ![2048, 11]⟩
abbrev S1x16x2048x11 : Shape := ⟨4, ![1, 16, 2048, 11]⟩
abbrev S1x16x11x2048 : Shape := ⟨4, ![1, 16, 11, 2048]⟩
abbrev S1x16x11x512 : Shape := ⟨4, ![1, 16, 11, 512]⟩
abbrev S1 : Shape := ⟨1, ![1]⟩
abbrev S1x1x1x1 : Shape := ⟨4, ![1, 1, 1, 1]⟩
abbrev S16 : Shape := ⟨1, ![16]⟩
abbrev S1x16x1x1 : Shape := ⟨4, ![1, 16, 1, 1]⟩
abbrev S11 : Shape := ⟨1, ![11]⟩
abbrev S1x1x11x1 : Shape := ⟨4, ![1, 1, 11, 1]⟩
abbrev S1x16x11x512x1 : Shape := ⟨5, ![1, 16, 11, 512, 1]⟩
abbrev S1x16x11x512x4 : Shape := ⟨5, ![1, 16, 11, 512, 4]⟩
abbrev S2 : Shape := ⟨1, ![2]⟩
abbrev S1x2048 : Shape := ⟨2, ![1, 2048]⟩
abbrev S11x1 : Shape := ⟨2, ![11, 1]⟩
abbrev S11x2048 : Shape := ⟨2, ![11, 2048]⟩
abbrev S1x1x11x2048 : Shape := ⟨4, ![1, 1, 11, 2048]⟩
abbrev S1x16x11x192x2048 : Shape := ⟨5, ![1, 16, 11, 192, 2048]⟩
abbrev S1x16x2112x2048 : Shape := ⟨4, ![1, 16, 2112, 2048]⟩
abbrev S1x1x16x2048x128 : Shape := ⟨5, ![1, 1, 16, 2048, 128]⟩
abbrev S2x1x16x2048x128 : Shape := ⟨5, ![2, 1, 16, 2048, 128]⟩

abbrev nBuf : Space → Nat
  | .hbm => 675
  | .vmem => 0
  | .smem => 0
  | _ => 0

abbrev hbmTy0_0 (i : Nat) : BufTy := match i % 128 with
  | 0 => ⟨S1x16x2048x128, .f32⟩
  | 1 => ⟨S1x16x2048x128, .f32⟩
  | 2 => ⟨S1x16x2048x128, .f32⟩
  | 3 => ⟨S1x16x2048x2048, .f32⟩
  | 4 => ⟨S_, .f32⟩
  | 5 => ⟨S1x16x2048x2048, .f32⟩
  | 6 => ⟨S1x16x2048x2048, .f32⟩
  | 7 => ⟨S_, .f32⟩
  | 8 => ⟨S1x16x2048, .f32⟩
  | 9 => ⟨S1x16x2048x1, .f32⟩
  | 10 => ⟨S1x16x2048x2048, .f32⟩
  | 11 => ⟨S1x16x2048x2048, .f32⟩
  | 12 => ⟨S1x16x2048x2048, .f32⟩
  | 13 => ⟨S_, .f32⟩
  | 14 => ⟨S1x16x2048, .f32⟩
  | 15 => ⟨S1x16x2048x1, .f32⟩
  | 16 => ⟨S1x16x2048x128, .f32⟩
  | 17 => ⟨S1x16x2048x128, .f32⟩
  | 18 => ⟨S1x16x2048x128, .f32⟩
  | 19 => ⟨S1x16x2048x2048, .f32⟩
  | 20 => ⟨S1x16x2048x2048, .f32⟩
  | 21 => ⟨S2048, .i32⟩
  | 22 => ⟨S_, .i32⟩
  | 23 => ⟨S_, .i32⟩
  | 24 => ⟨S2048, .i32⟩
  | 25 => ⟨S2048, .i32⟩
  | 26 => ⟨S2048, .i32⟩
  | 27 => ⟨S_, .i32⟩
  | 28 => ⟨S2048, .i32⟩
  | 29 => ⟨S2048, .i1⟩
  | 30 => ⟨S2048, .i32⟩
  | 31 => ⟨S2048, .i32⟩
  | 32 => ⟨S_, .i32⟩
  | 33 => ⟨S2048, .i32⟩
  | 34 => ⟨S2048, .i1⟩
  | 35 => ⟨S2048, .i1⟩
  | 36 => ⟨S_, .i32⟩
  | 37 => ⟨S2048, .i32⟩
  | 38 => ⟨S2048, .i32⟩
  | 39 => ⟨S2048, .i32⟩
  | 40 => ⟨S2048x1, .i32⟩
  | 41 => ⟨S1x11, .i32⟩
  | 42 => ⟨S2048x11, .i32⟩
  | 43 => ⟨S2048x11, .i32⟩
  | 44 => ⟨S2048x11, .i1⟩
  | 45 => ⟨S2048x11, .f32⟩
  | 46 => ⟨S1x16x2048x11, .f32⟩
  | 47 => ⟨S1x16x11x2048, .f32⟩
  | 48 => ⟨S1x16x11x512, .f32⟩
  | 49 => ⟨S1x16x11x512, .i32⟩
  | 50 => ⟨S_, .i1⟩
  | 51 => ⟨S1x16x11x2048, .i1⟩
  | 52 => ⟨S1, .i32⟩
  | 53 => ⟨S1x1x1x1, .i32⟩
  | 54 => ⟨S16, .i32⟩
  | 55 => ⟨S1x16x1x1, .i32⟩
  | 56 => ⟨S11, .i32⟩
  | 57 => ⟨S1x1x11x1, .i32⟩
  | 58 => ⟨S_, .i32⟩
  | 59 => ⟨S1x1x1x1, .i32⟩
  | 60 => ⟨S1x1x1x1, .i1⟩
  | 61 => ⟨S_, .i32⟩
  | 62 => ⟨S1x1x1x1, .i32⟩
  | 63 => ⟨S1x1x1x1, .i32⟩
  | 64 => ⟨S1x1x1x1, .i32⟩
  | 65 => ⟨S_, .i32⟩
  | 66 => ⟨S1x16x1x1, .i32⟩
  | 67 => ⟨S1x16x1x1, .i1⟩
  | 68 => ⟨S_, .i32⟩
  | 69 => ⟨S1x16x1x1, .i32⟩
  | 70 => ⟨S1x16x1x1, .i32⟩
  | 71 => ⟨S1x16x1x1, .i32⟩
  | 72 => ⟨S_, .i32⟩
  | 73 => ⟨S1x1x11x1, .i32⟩
  | 74 => ⟨S1x1x11x1, .i1⟩
  | 75 => ⟨S_, .i32⟩
  | 76 => ⟨S1x1x11x1, .i32⟩
  | 77 => ⟨S1x1x11x1, .i32⟩
  | 78 => ⟨S1x1x11x1, .i32⟩
  | 79 => ⟨S_, .i32⟩
  | 80 => ⟨S1x16x11x512, .i32⟩
  | 81 => ⟨S1x16x11x512, .i1⟩
  | 82 => ⟨S_, .i32⟩
  | 83 => ⟨S1x16x11x512, .i32⟩
  | 84 => ⟨S1x16x11x512, .i32⟩
  | 85 => ⟨S1x16x11x512, .i32⟩
  | 86 => ⟨S1x16x11x512, .i32⟩
  | 87 => ⟨S1x16x11x512, .i32⟩
  | 88 => ⟨S1x16x11x512, .i32⟩
  | 89 => ⟨S1x16x11x512x1, .i32⟩
  | 90 => ⟨S1x16x11x512x1, .i32⟩
  | 91 => ⟨S1x16x11x512x1, .i32⟩
  | 92 => ⟨S1x16x11x512x1, .i32⟩
  | 93 => ⟨S1x16x11x512x4, .i32⟩
  | 94 => ⟨S_, .i1⟩
  | 95 => ⟨S1x16x11x512, .i1⟩
  | 96 => ⟨S1x16x11x2048, .i1⟩
  | 97 => ⟨S_, .i32⟩
  | 98 => ⟨S_, .i32⟩
  | 99 => ⟨S_, .i32⟩
  | 100 => ⟨S_, .i32⟩
  | 101 => ⟨S1, .i32⟩
  | 102 => ⟨S_, .i32⟩
  | 103 => ⟨S_, .i32⟩
  | 104 => ⟨S_, .i32⟩
  | 105 => ⟨S1, .i32⟩
  | 106 => ⟨S2, .i32⟩
  | 107 => ⟨S_, .i32⟩
  | 108 => ⟨S_, .i32⟩
  | 109 => ⟨S_, .i32⟩
  | 110 => ⟨S1, .i32⟩
  | 111 => ⟨S_, .i32⟩
  | 112 => ⟨S_, .i32⟩
  | 113 => ⟨S1, .i32⟩
  | 114 => ⟨S2, .i32⟩
  | 115 => ⟨S1, .i32⟩
  | 116 => ⟨S_, .i32⟩
  | 117 => ⟨S1, .i32⟩
  | 118 => ⟨S_, .i32⟩
  | 119 => ⟨S1, .i32⟩
  | 120 => ⟨S1, .i32⟩
  | 121 => ⟨S_, .i32⟩
  | 122 => ⟨S_, .i32⟩
  | 123 => ⟨S_, .i32⟩
  | 124 => ⟨S1, .i32⟩
  | 125 => ⟨S1, .i32⟩
  | 126 => ⟨S1, .i32⟩
  | 127 => ⟨S1, .i32⟩
  | _ => ⟨S1x16x2048x128, .f32⟩

abbrev hbmTy0_1 (i : Nat) : BufTy := match i % 128 with
  | 0 => ⟨S1, .i32⟩
  | 1 => ⟨S_, .i32⟩
  | 2 => ⟨S1, .i32⟩
  | 3 => ⟨S1, .i32⟩
  | 4 => ⟨S_, .i32⟩
  | 5 => ⟨S1, .i32⟩
  | 6 => ⟨S1, .i32⟩
  | 7 => ⟨S1, .i32⟩
  | 8 => ⟨S1, .i32⟩
  | 9 => ⟨S1, .i32⟩
  | 10 => ⟨S_, .i32⟩
  | 11 => ⟨S1, .i32⟩
  | 12 => ⟨S1, .i32⟩
  | 13 => ⟨S_, .i32⟩
  | 14 => ⟨S1, .i32⟩
  | 15 => ⟨S1, .i32⟩
  | 16 => ⟨S1, .i32⟩
  | 17 => ⟨S1, .i32⟩
  | 18 => ⟨S1, .i32⟩
  | 19 => ⟨S_, .i32⟩
  | 20 => ⟨S1, .i32⟩
  | 21 => ⟨S1, .i32⟩
  | 22 => ⟨S_, .i32⟩
  | 23 => ⟨S1, .i32⟩
  | 24 => ⟨S1, .i32⟩
  | 25 => ⟨S1, .i32⟩
  | 26 => ⟨S1, .i32⟩
  | 27 => ⟨S1, .i32⟩
  | 28 => ⟨S_, .i32⟩
  | 29 => ⟨S1, .i32⟩
  | 30 => ⟨S1, .i32⟩
  | 31 => ⟨S_, .i32⟩
  | 32 => ⟨S1, .i32⟩
  | 33 => ⟨S1, .i32⟩
  | 34 => ⟨S1, .i32⟩
  | 35 => ⟨S1, .i32⟩
  | 36 => ⟨S1, .i32⟩
  | 37 => ⟨S1, .i32⟩
  | 38 => ⟨S1, .i32⟩
  | 39 => ⟨S1, .i32⟩
  | 40 => ⟨S_, .i32⟩
  | 41 => ⟨S1, .i32⟩
  | 42 => ⟨S1, .i32⟩
  | 43 => ⟨S1, .i32⟩
  | 44 => ⟨S_, .i32⟩
  | 45 => ⟨S1, .i32⟩
  | 46 => ⟨S1, .i32⟩
  | 47 => ⟨S_, .i32⟩
  | 48 => ⟨S1, .i32⟩
  | 49 => ⟨S1, .i32⟩
  | 50 => ⟨S1, .i32⟩
  | 51 => ⟨S1, .i32⟩
  | 52 => ⟨S1, .i32⟩
  | 53 => ⟨S_, .i32⟩
  | 54 => ⟨S1, .i32⟩
  | 55 => ⟨S1, .i32⟩
  | 56 => ⟨S_, .i32⟩
  | 57 => ⟨S1, .i32⟩
  | 58 => ⟨S1, .i32⟩
  | 59 => ⟨S1, .i32⟩
  | 60 => ⟨S1, .i32⟩
  | 61 => ⟨S1, .i32⟩
  | 62 => ⟨S_, .i32⟩
  | 63 => ⟨S1, .i32⟩
  | 64 => ⟨S1, .i32⟩
  | 65 => ⟨S_, .i32⟩
  | 66 => ⟨S1, .i32⟩
  | 67 => ⟨S1, .i32⟩
  | 68 => ⟨S1, .i32⟩
  | 69 => ⟨S1, .i32⟩
  | 70 => ⟨S1, .i32⟩
  | 71 => ⟨S_, .i32⟩
  | 72 => ⟨S1, .i32⟩
  | 73 => ⟨S1, .i32⟩
  | 74 => ⟨S_, .i32⟩
  | 75 => ⟨S1, .i32⟩
  | 76 => ⟨S1, .i32⟩
  | 77 => ⟨S1, .i32⟩
  | 78 => ⟨S1, .i32⟩
  | 79 => ⟨S1, .i32⟩
  | 80 => ⟨S1, .i32⟩
  | 81 => ⟨S1, .i32⟩
  | 82 => ⟨S1, .i32⟩
  | 83 => ⟨S_, .i32⟩
  | 84 => ⟨S1, .i32⟩
  | 85 => ⟨S1, .i32⟩
  | 86 => ⟨S1, .i32⟩
  | 87 => ⟨S_, .i32⟩
  | 88 => ⟨S1, .i32⟩
  | 89 => ⟨S1, .i32⟩
  | 90 => ⟨S_, .i32⟩
  | 91 => ⟨S1, .i32⟩
  | 92 => ⟨S1, .i32⟩
  | 93 => ⟨S1, .i32⟩
  | 94 => ⟨S1, .i32⟩
  | 95 => ⟨S1, .i32⟩
  | 96 => ⟨S_, .i32⟩
  | 97 => ⟨S1, .i32⟩
  | 98 => ⟨S1, .i32⟩
  | 99 => ⟨S_, .i32⟩
  | 100 => ⟨S1, .i32⟩
  | 101 => ⟨S1, .i32⟩
  | 102 => ⟨S1, .i32⟩
  | 103 => ⟨S1, .i32⟩
  | 104 => ⟨S1, .i32⟩
  | 105 => ⟨S_, .i32⟩
  | 106 => ⟨S1, .i32⟩
  | 107 => ⟨S1, .i32⟩
  | 108 => ⟨S_, .i32⟩
  | 109 => ⟨S1, .i32⟩
  | 110 => ⟨S1, .i32⟩
  | 111 => ⟨S1, .i32⟩
  | 112 => ⟨S1, .i32⟩
  | 113 => ⟨S1, .i32⟩
  | 114 => ⟨S_, .i32⟩
  | 115 => ⟨S1, .i32⟩
  | 116 => ⟨S1, .i32⟩
  | 117 => ⟨S_, .i32⟩
  | 118 => ⟨S1, .i32⟩
  | 119 => ⟨S1, .i32⟩
  | 120 => ⟨S1, .i32⟩
  | 121 => ⟨S1, .i32⟩
  | 122 => ⟨S1, .i32⟩
  | 123 => ⟨S1, .i32⟩
  | 124 => ⟨S1, .i32⟩
  | 125 => ⟨S1, .i32⟩
  | 126 => ⟨S_, .i32⟩
  | 127 => ⟨S1, .i32⟩
  | _ => ⟨S1x16x2048x128, .f32⟩

abbrev hbmTy0_2 (i : Nat) : BufTy := match i % 128 with
  | 0 => ⟨S1, .i32⟩
  | 1 => ⟨S1, .i32⟩
  | 2 => ⟨S_, .i32⟩
  | 3 => ⟨S1, .i32⟩
  | 4 => ⟨S1, .i32⟩
  | 5 => ⟨S_, .i32⟩
  | 6 => ⟨S1, .i32⟩
  | 7 => ⟨S1, .i32⟩
  | 8 => ⟨S1, .i32⟩
  | 9 => ⟨S1, .i32⟩
  | 10 => ⟨S1, .i32⟩
  | 11 => ⟨S_, .i32⟩
  | 12 => ⟨S1, .i32⟩
  | 13 => ⟨S1, .i32⟩
  | 14 => ⟨S_, .i32⟩
  | 15 => ⟨S1, .i32⟩
  | 16 => ⟨S1, .i32⟩
  | 17 => ⟨S1, .i32⟩
  | 18 => ⟨S1, .i32⟩
  | 19 => ⟨S1, .i32⟩
  | 20 => ⟨S_, .i32⟩
  | 21 => ⟨S1, .i32⟩
  | 22 => ⟨S1, .i32⟩
  | 23 => ⟨S_, .i32⟩
  | 24 => ⟨S1, .i32⟩
  | 25 => ⟨S1, .i32⟩
  | 26 => ⟨S1, .i32⟩
  | 27 => ⟨S1, .i32⟩
  | 28 => ⟨S1, .i32⟩
  | 29 => ⟨S_, .i32⟩
  | 30 => ⟨S1, .i32⟩
  | 31 => ⟨S1, .i32⟩
  | 32 => ⟨S_, .i32⟩
  | 33 => ⟨S1, .i32⟩
  | 34 => ⟨S1, .i32⟩
  | 35 => ⟨S1, .i32⟩
  | 36 => ⟨S1, .i32⟩
  | 37 => ⟨S1, .i32⟩
  | 38 => ⟨S1, .i32⟩
  | 39 => ⟨S1, .i32⟩
  | 40 => ⟨S1, .i32⟩
  | 41 => ⟨S_, .i32⟩
  | 42 => ⟨S1, .i32⟩
  | 43 => ⟨S1, .i32⟩
  | 44 => ⟨S1, .i32⟩
  | 45 => ⟨S_, .i32⟩
  | 46 => ⟨S1, .i32⟩
  | 47 => ⟨S1, .i32⟩
  | 48 => ⟨S_, .i32⟩
  | 49 => ⟨S1, .i32⟩
  | 50 => ⟨S1, .i32⟩
  | 51 => ⟨S1, .i32⟩
  | 52 => ⟨S1, .i32⟩
  | 53 => ⟨S1, .i32⟩
  | 54 => ⟨S_, .i32⟩
  | 55 => ⟨S1, .i32⟩
  | 56 => ⟨S1, .i32⟩
  | 57 => ⟨S_, .i32⟩
  | 58 => ⟨S1, .i32⟩
  | 59 => ⟨S1, .i32⟩
  | 60 => ⟨S1, .i32⟩
  | 61 => ⟨S1, .i32⟩
  | 62 => ⟨S1, .i32⟩
  | 63 => ⟨S_, .i32⟩
  | 64 => ⟨S1, .i32⟩
  | 65 => ⟨S1, .i32⟩
  | 66 => ⟨S_, .i32⟩
  | 67 => ⟨S1, .i32⟩
  | 68 => ⟨S1, .i32⟩
  | 69 => ⟨S1, .i32⟩
  | 70 => ⟨S1, .i32⟩
  | 71 => ⟨S1, .i32⟩
  | 72 => ⟨S_, .i32⟩
  | 73 => ⟨S1, .i32⟩
  | 74 => ⟨S1, .i32⟩
  | 75 => ⟨S_, .i32⟩
  | 76 => ⟨S1, .i32⟩
  | 77 => ⟨S1, .i32⟩
  | 78 => ⟨S1, .i32⟩
  | 79 => ⟨S1, .i32⟩
  | 80 => ⟨S1, .i32⟩
  | 81 => ⟨S1, .i32⟩
  | 82 => ⟨S1, .i32⟩
  | 83 => ⟨S1, .i32⟩
  | 84 => ⟨S_, .i32⟩
  | 85 => ⟨S1, .i32⟩
  | 86 => ⟨S1, .i32⟩
  | 87 => ⟨S2, .i32⟩
  | 88 => ⟨S_, .f32⟩
  | 89 => ⟨S_, .f32⟩
  | 90 => ⟨S_, .f32⟩
  | 91 => ⟨S_, .f32⟩
  | 92 => ⟨S1x1x1x1, .f32⟩
  | 93 => ⟨S1x1x1x1, .f32⟩
  | 94 => ⟨S1, .i32⟩
  | 95 => ⟨S_, .i32⟩
  | 96 => ⟨S1, .i32⟩
  | 97 => ⟨S_, .i32⟩
  | 98 => ⟨S1x16x11x2048, .i64⟩
  | 99 => ⟨S1x16x11x2048, .i64⟩
  | 100 => ⟨S1x16x11x2048, .i64⟩
  | 101 => ⟨S1x16x11x2048, .i64⟩
  | 102 => ⟨S_, .i64⟩
  | 103 => ⟨S1x16x11x2048, .i64⟩
  | 104 => ⟨S1x16x11x2048, .i64⟩
  | 105 => ⟨S_, .i64⟩
  | 106 => ⟨S1x16x11x2048, .i64⟩
  | 107 => ⟨S1x16x11x2048, .i64⟩
  | 108 => ⟨S_, .i64⟩
  | 109 => ⟨S1x16x11x2048, .i64⟩
  | 110 => ⟨S1x16x11x2048, .i64⟩
  | 111 => ⟨S_, .i64⟩
  | 112 => ⟨S1x16x11x2048, .i64⟩
  | 113 => ⟨S1x16x11x2048, .i64⟩
  | 114 => ⟨S1x16x11x2048, .i64⟩
  | 115 => ⟨S1x16x11x2048, .i64⟩
  | 116 => ⟨S1x16x11x2048, .i64⟩
  | 117 => ⟨S_, .i64⟩
  | 118 => ⟨S1x16x11x2048, .i64⟩
  | 119 => ⟨S1x16x11x2048, .i64⟩
  | 120 => ⟨S1x16x11x2048, .i32⟩
  | 121 => ⟨S1x16x11x2048, .i32⟩
  | 122 => ⟨S_, .i32⟩
  | 123 => ⟨S_, .i32⟩
  | 124 => ⟨S_, .i32⟩
  | 125 => ⟨S1x16x11x2048, .i32⟩
  | 126 => ⟨S1x16x11x2048, .i32⟩
  | 127 => ⟨S1x16x11x2048, .i32⟩
  | _ => ⟨S1x16x2048x128, .f32⟩

abbrev hbmTy0_3 (i : Nat) : BufTy := match i % 128 with
  | 0 => ⟨S1x16x11x2048, .i32⟩
  | 1 => ⟨S1x16x11x2048, .i32⟩
  | 2 => ⟨S_, .i32⟩
  | 3 => ⟨S1x16x11x2048, .i32⟩
  | 4 => ⟨S1x16x11x2048, .i32⟩
  | 5 => ⟨S_, .i32⟩
  | 6 => ⟨S1x16x11x2048, .i32⟩
  | 7 => ⟨S1x16x11x2048, .i32⟩
  | 8 => ⟨S1x16x11x2048, .i32⟩
  | 9 => ⟨S1x16x11x2048, .i32⟩
  | 10 => ⟨S1x16x11x2048, .i32⟩
  | 11 => ⟨S_, .i32⟩
  | 12 => ⟨S1x16x11x2048, .i32⟩
  | 13 => ⟨S1x16x11x2048, .i32⟩
  | 14 => ⟨S_, .i32⟩
  | 15 => ⟨S1x16x11x2048, .i32⟩
  | 16 => ⟨S1x16x11x2048, .i32⟩
  | 17 => ⟨S1x16x11x2048, .i32⟩
  | 18 => ⟨S1x16x11x2048, .i32⟩
  | 19 => ⟨S1x16x11x2048, .i32⟩
  | 20 => ⟨S_, .i32⟩
  | 21 => ⟨S1x16x11x2048, .i32⟩
  | 22 => ⟨S1x16x11x2048, .i32⟩
  | 23 => ⟨S_, .i32⟩
  | 24 => ⟨S1x16x11x2048, .i32⟩
  | 25 => ⟨S1x16x11x2048, .i32⟩
  | 26 => ⟨S1x16x11x2048, .i32⟩
  | 27 => ⟨S1x16x11x2048, .i32⟩
  | 28 => ⟨S1x16x11x2048, .i32⟩
  | 29 => ⟨S_, .i32⟩
  | 30 => ⟨S1x16x11x2048, .i32⟩
  | 31 => ⟨S1x16x11x2048, .i32⟩
  | 32 => ⟨S_, .i32⟩
  | 33 => ⟨S1x16x11x2048, .i32⟩
  | 34 => ⟨S1x16x11x2048, .i32⟩
  | 35 => ⟨S1x16x11x2048, .i32⟩
  | 36 => ⟨S1x16x11x2048, .i32⟩
  | 37 => ⟨S1x16x11x2048, .i32⟩
  | 38 => ⟨S1x16x11x2048, .i32⟩
  | 39 => ⟨S1x16x11x2048, .i32⟩
  | 40 => ⟨S1x16x11x2048, .i32⟩
  | 41 => ⟨S_, .i32⟩
  | 42 => ⟨S1x16x11x2048, .i32⟩
  | 43 => ⟨S1x16x11x2048, .i32⟩
  | 44 => ⟨S1x16x11x2048, .i32⟩
  | 45 => ⟨S_, .i32⟩
  | 46 => ⟨S1x16x11x2048, .i32⟩
  | 47 => ⟨S1x16x11x2048, .i32⟩
  | 48 => ⟨S_, .i32⟩
  | 49 => ⟨S1x16x11x2048, .i32⟩
  | 50 => ⟨S1x16x11x2048, .i32⟩
  | 51 => ⟨S1x16x11x2048, .i32⟩
  | 52 => ⟨S1x16x11x2048, .i32⟩
  | 53 => ⟨S1x16x11x2048, .i32⟩
  | 54 => ⟨S_, .i32⟩
  | 55 => ⟨S1x16x11x2048, .i32⟩
  | 56 => ⟨S1x16x11x2048, .i32⟩
  | 57 => ⟨S_, .i32⟩
  | 58 => ⟨S1x16x11x2048, .i32⟩
  | 59 => ⟨S1x16x11x2048, .i32⟩
  | 60 => ⟨S1x16x11x2048, .i32⟩
  | 61 => ⟨S1x16x11x2048, .i32⟩
  | 62 => ⟨S1x16x11x2048, .i32⟩
  | 63 => ⟨S_, .i32⟩
  | 64 => ⟨S1x16x11x2048, .i32⟩
  | 65 => ⟨S1x16x11x2048, .i32⟩
  | 66 => ⟨S_, .i32⟩
  | 67 => ⟨S1x16x11x2048, .i32⟩
  | 68 => ⟨S1x16x11x2048, .i32⟩
  | 69 => ⟨S1x16x11x2048, .i32⟩
  | 70 => ⟨S1x16x11x2048, .i32⟩
  | 71 => ⟨S1x16x11x2048, .i32⟩
  | 72 => ⟨S_, .i32⟩
  | 73 => ⟨S1x16x11x2048, .i32⟩
  | 74 => ⟨S1x16x11x2048, .i32⟩
  | 75 => ⟨S_, .i32⟩
  | 76 => ⟨S1x16x11x2048, .i32⟩
  | 77 => ⟨S1x16x11x2048, .i32⟩
  | 78 => ⟨S1x16x11x2048, .i32⟩
  | 79 => ⟨S1x16x11x2048, .i32⟩
  | 80 => ⟨S1x16x11x2048, .i32⟩
  | 81 => ⟨S1x16x11x2048, .i32⟩
  | 82 => ⟨S1x16x11x2048, .i32⟩
  | 83 => ⟨S1x16x11x2048, .i32⟩
  | 84 => ⟨S_, .i32⟩
  | 85 => ⟨S1x16x11x2048, .i32⟩
  | 86 => ⟨S1x16x11x2048, .i32⟩
  | 87 => ⟨S1x16x11x2048, .i32⟩
  | 88 => ⟨S_, .i32⟩
  | 89 => ⟨S1x16x11x2048, .i32⟩
  | 90 => ⟨S1x16x11x2048, .i32⟩
  | 91 => ⟨S_, .i32⟩
  | 92 => ⟨S1x16x11x2048, .i32⟩
  | 93 => ⟨S1x16x11x2048, .i32⟩
  | 94 => ⟨S1x16x11x2048, .i32⟩
  | 95 => ⟨S1x16x11x2048, .i32⟩
  | 96 => ⟨S1x16x11x2048, .i32⟩
  | 97 => ⟨S_, .i32⟩
  | 98 => ⟨S1x16x11x2048, .i32⟩
  | 99 => ⟨S1x16x11x2048, .i32⟩
  | 100 => ⟨S_, .i32⟩
  | 101 => ⟨S1x16x11x2048, .i32⟩
  | 102 => ⟨S1x16x11x2048, .i32⟩
  | 103 => ⟨S1x16x11x2048, .i32⟩
  | 104 => ⟨S1x16x11x2048, .i32⟩
  | 105 => ⟨S1x16x11x2048, .i32⟩
  | 106 => ⟨S_, .i32⟩
  | 107 => ⟨S1x16x11x2048, .i32⟩
  | 108 => ⟨S1x16x11x2048, .i32⟩
  | 109 => ⟨S_, .i32⟩
  | 110 => ⟨S1x16x11x2048, .i32⟩
  | 111 => ⟨S1x16x11x2048, .i32⟩
  | 112 => ⟨S1x16x11x2048, .i32⟩
  | 113 => ⟨S1x16x11x2048, .i32⟩
  | 114 => ⟨S1x16x11x2048, .i32⟩
  | 115 => ⟨S_, .i32⟩
  | 116 => ⟨S1x16x11x2048, .i32⟩
  | 117 => ⟨S1x16x11x2048, .i32⟩
  | 118 => ⟨S_, .i32⟩
  | 119 => ⟨S1x16x11x2048, .i32⟩
  | 120 => ⟨S1x16x11x2048, .i32⟩
  | 121 => ⟨S1x16x11x2048, .i32⟩
  | 122 => ⟨S1x16x11x2048, .i32⟩
  | 123 => ⟨S1x16x11x2048, .i32⟩
  | 124 => ⟨S1x16x11x2048, .i32⟩
  | 125 => ⟨S1x16x11x2048, .i32⟩
  | 126 => ⟨S1x16x11x2048, .i32⟩
  | 127 => ⟨S_, .i32⟩
  | _ => ⟨S1x16x2048x128, .f32⟩

abbrev hbmTy0_4 (i : Nat) : BufTy := match i % 128 with
  | 0 => ⟨S1x16x11x2048, .i32⟩
  | 1 => ⟨S1x16x11x2048, .i32⟩
  | 2 => ⟨S1x16x11x2048, .i32⟩
  | 3 => ⟨S_, .i32⟩
  | 4 => ⟨S1x16x11x2048, .i32⟩
  | 5 => ⟨S1x16x11x2048, .i32⟩
  | 6 => ⟨S_, .i32⟩
  | 7 => ⟨S1x16x11x2048, .i32⟩
  | 8 => ⟨S1x16x11x2048, .i32⟩
  | 9 => ⟨S1x16x11x2048, .i32⟩
  | 10 => ⟨S1x16x11x2048, .i32⟩
  | 11 => ⟨S1x16x11x2048, .i32⟩
  | 12 => ⟨S_, .i32⟩
  | 13 => ⟨S1x16x11x2048, .i32⟩
  | 14 => ⟨S1x16x11x2048, .i32⟩
  | 15 => ⟨S_, .i32⟩
  | 16 => ⟨S1x16x11x2048, .i32⟩
  | 17 => ⟨S1x16x11x2048, .i32⟩
  | 18 => ⟨S1x16x11x2048, .i32⟩
  | 19 => ⟨S1x16x11x2048, .i32⟩
  | 20 => ⟨S1x16x11x2048, .i32⟩
  | 21 => ⟨S_, .i32⟩
  | 22 => ⟨S1x16x11x2048, .i32⟩
  | 23 => ⟨S1x16x11x2048, .i32⟩
  | 24 => ⟨S_, .i32⟩
  | 25 => ⟨S1x16x11x2048, .i32⟩
  | 26 => ⟨S1x16x11x2048, .i32⟩
  | 27 => ⟨S1x16x11x2048, .i32⟩
  | 28 => ⟨S1x16x11x2048, .i32⟩
  | 29 => ⟨S1x16x11x2048, .i32⟩
  | 30 => ⟨S_, .i32⟩
  | 31 => ⟨S1x16x11x2048, .i32⟩
  | 32 => ⟨S1x16x11x2048, .i32⟩
  | 33 => ⟨S_, .i32⟩
  | 34 => ⟨S1x16x11x2048, .i32⟩
  | 35 => ⟨S1x16x11x2048, .i32⟩
  | 36 => ⟨S1x16x11x2048, .i32⟩
  | 37 => ⟨S1x16x11x2048, .i32⟩
  | 38 => ⟨S1x16x11x2048, .i32⟩
  | 39 => ⟨S1x16x11x2048, .i32⟩
  | 40 => ⟨S1x16x11x2048, .i32⟩
  | 41 => ⟨S1x16x11x2048, .i32⟩
  | 42 => ⟨S_, .i32⟩
  | 43 => ⟨S1x16x11x2048, .i32⟩
  | 44 => ⟨S1x16x11x2048, .i32⟩
  | 45 => ⟨S1x16x11x2048, .i32⟩
  | 46 => ⟨S_, .i32⟩
  | 47 => ⟨S1x16x11x2048, .i32⟩
  | 48 => ⟨S1x16x11x2048, .i32⟩
  | 49 => ⟨S_, .i32⟩
  | 50 => ⟨S1x16x11x2048, .i32⟩
  | 51 => ⟨S1x16x11x2048, .i32⟩
  | 52 => ⟨S1x16x11x2048, .i32⟩
  | 53 => ⟨S1x16x11x2048, .i32⟩
  | 54 => ⟨S1x16x11x2048, .i32⟩
  | 55 => ⟨S_, .i32⟩
  | 56 => ⟨S1x16x11x2048, .i32⟩
  | 57 => ⟨S1x16x11x2048, .i32⟩
  | 58 => ⟨S_, .i32⟩
  | 59 => ⟨S1x16x11x2048, .i32⟩
  | 60 => ⟨S1x16x11x2048, .i32⟩
  | 61 => ⟨S1x16x11x2048, .i32⟩
  | 62 => ⟨S1x16x11x2048, .i32⟩
  | 63 => ⟨S1x16x11x2048, .i32⟩
  | 64 => ⟨S_, .i32⟩
  | 65 => ⟨S1x16x11x2048, .i32⟩
  | 66 => ⟨S1x16x11x2048, .i32⟩
  | 67 => ⟨S_, .i32⟩
  | 68 => ⟨S1x16x11x2048, .i32⟩
  | 69 => ⟨S1x16x11x2048, .i32⟩
  | 70 => ⟨S1x16x11x2048, .i32⟩
  | 71 => ⟨S1x16x11x2048, .i32⟩
  | 72 => ⟨S1x16x11x2048, .i32⟩
  | 73 => ⟨S_, .i32⟩
  | 74 => ⟨S1x16x11x2048, .i32⟩
  | 75 => ⟨S1x16x11x2048, .i32⟩
  | 76 => ⟨S_, .i32⟩
  | 77 => ⟨S1x16x11x2048, .i32⟩
  | 78 => ⟨S1x16x11x2048, .i32⟩
  | 79 => ⟨S1x16x11x2048, .i32⟩
  | 80 => ⟨S1x16x11x2048, .i32⟩
  | 81 => ⟨S1x16x11x2048, .i32⟩
  | 82 => ⟨S1x16x11x2048, .i32⟩
  | 83 => ⟨S1x16x11x2048, .i32⟩
  | 84 => ⟨S1x16x11x2048, .i32⟩
  | 85 => ⟨S_, .i32⟩
  | 86 => ⟨S1x16x11x2048, .i32⟩
  | 87 => ⟨S1x16x11x2048, .i32⟩
  | 88 => ⟨S1x16x11x2048, .i32⟩
  | 89 => ⟨S_, .i32⟩
  | 90 => ⟨S1x16x11x2048, .i32⟩
  | 91 => ⟨S1x16x11x2048, .i32⟩
  | 92 => ⟨S_, .i32⟩
  | 93 => ⟨S1x16x11x2048, .i32⟩
  | 94 => ⟨S1x16x11x2048, .i32⟩
  | 95 => ⟨S1x16x11x2048, .f32⟩
  | 96 => ⟨S_, .f32⟩
  | 97 => ⟨S1x16x11x2048, .f32⟩
  | 98 => ⟨S1x16x11x2048, .f32⟩
  | 99 => ⟨S1x1x1x1, .f32⟩
  | 100 => ⟨S1x16x11x2048, .f32⟩
  | 101 => ⟨S1x16x11x2048, .f32⟩
  | 102 => ⟨S1x16x11x2048, .f32⟩
  | 103 => ⟨S1x16x11x2048, .f32⟩
  | 104 => ⟨S1x16x11x2048, .f32⟩
  | 105 => ⟨S1x16x11x2048, .f32⟩
  | 106 => ⟨S_, .f32⟩
  | 107 => ⟨S1x16x11x2048, .f32⟩
  | 108 => ⟨S1x16x11x2048, .i1⟩
  | 109 => ⟨S2048, .i32⟩
  | 110 => ⟨S1x2048, .i32⟩
  | 111 => ⟨S11, .i32⟩
  | 112 => ⟨S_, .i32⟩
  | 113 => ⟨S11, .i32⟩
  | 114 => ⟨S11, .i32⟩
  | 115 => ⟨S11x1, .i32⟩
  | 116 => ⟨S_, .i32⟩
  | 117 => ⟨S11x1, .i32⟩
  | 118 => ⟨S11x1, .i32⟩
  | 119 => ⟨S11x2048, .i32⟩
  | 120 => ⟨S11x2048, .i32⟩
  | 121 => ⟨S11x2048, .i1⟩
  | 122 => ⟨S_, .i32⟩
  | 123 => ⟨S11x1, .i32⟩
  | 124 => ⟨S11x1, .i32⟩
  | 125 => ⟨S_, .i32⟩
  | 126 => ⟨S11x1, .i32⟩
  | 127 => ⟨S11x1, .i32⟩
  | _ => ⟨S1x16x2048x128, .f32⟩

abbrev hbmTy0_5 (i : Nat) : BufTy := match i % 128 with
  | 0 => ⟨S11x2048, .i32⟩
  | 1 => ⟨S11x2048, .i32⟩
  | 2 => ⟨S11x2048, .i1⟩
  | 3 => ⟨S11x2048, .i1⟩
  | 4 => ⟨S1x16x11x2048, .i1⟩
  | 5 => ⟨S1x1x11x2048, .i1⟩
  | 6 => ⟨S1x16x11x2048, .i1⟩
  | 7 => ⟨S1x16x11x2048, .i1⟩
  | 8 => ⟨S1x16x11x192x2048, .i1⟩
  | 9 => ⟨S1x16x2112x2048, .i1⟩
  | 10 => ⟨S1x16x2048x2048, .i1⟩
  | 11 => ⟨S1x16x2048x2048, .f32⟩
  | 12 => ⟨S_, .f32⟩
  | 13 => ⟨S1x16x2048x2048, .f32⟩
  | 14 => ⟨S1x16x2048x2048, .f32⟩
  | 15 => ⟨S_, .f32⟩
  | 16 => ⟨S_, .f32⟩
  | 17 => ⟨S1x16x2048x2048, .f32⟩
  | 18 => ⟨S1x16x2048x2048, .f32⟩
  | 19 => ⟨S_, .f32⟩
  | 20 => ⟨S1x16x2048, .f32⟩
  | 21 => ⟨S1x16x2048x1, .f32⟩
  | 22 => ⟨S1x16x2048x2048, .f32⟩
  | 23 => ⟨S1x16x2048x2048, .f32⟩
  | 24 => ⟨S1x16x2048x2048, .f32⟩
  | 25 => ⟨S_, .f32⟩
  | 26 => ⟨S1x16x2048, .f32⟩
  | 27 => ⟨S1x16x2048x1, .f32⟩
  | 28 => ⟨S1x16x2048x128, .f32⟩
  | 29 => ⟨S1x16x2048x128, .f32⟩
  | 30 => ⟨S1x16x2048x128, .f32⟩
  | 31 => ⟨S1x16x2048x128, .f32⟩
  | 32 => ⟨S1x1x16x2048x128, .f32⟩
  | 33 => ⟨S1x1x16x2048x128, .f32⟩
  | 34 => ⟨S2x1x16x2048x128, .f32⟩
  | _ => ⟨S1x16x2048x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x16x2048x128, .f32⟩

abbrev bufTy : (tb : Table) → Fin (tcTables nBuf tb) → BufTy
  | .hbm, ⟨i, _⟩ => hbmTy i
  | _, _ => ⟨S1x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v16 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_values : Ref sig .tc := ⟨.hbm, 48, rfl⟩
abbrev main_indices : Ref sig .tc := ⟨.hbm, 49, rfl⟩
abbrev main_c_2 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_3 : Ref sig .tc := ⟨.hbm, 58, rfl⟩
abbrev main_v27 : Ref sig .tc := ⟨.hbm, 59, rfl⟩
abbrev main_v28 : Ref sig .tc := ⟨.hbm, 60, rfl⟩
abbrev main_c_4 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_c_5 : Ref sig .tc := ⟨.hbm, 65, rfl⟩
abbrev main_v32 : Ref sig .tc := ⟨.hbm, 66, rfl⟩
abbrev main_v33 : Ref sig .tc := ⟨.hbm, 67, rfl⟩
abbrev main_c_6 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_c_7 : Ref sig .tc := ⟨.hbm, 72, rfl⟩
abbrev main_v37 : Ref sig .tc := ⟨.hbm, 73, rfl⟩
abbrev main_v38 : Ref sig .tc := ⟨.hbm, 74, rfl⟩
abbrev main_c_8 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_c_9 : Ref sig .tc := ⟨.hbm, 79, rfl⟩
abbrev main_v42 : Ref sig .tc := ⟨.hbm, 80, rfl⟩
abbrev main_v43 : Ref sig .tc := ⟨.hbm, 81, rfl⟩
abbrev main_c_10 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_c_11 : Ref sig .tc := ⟨.hbm, 94, rfl⟩
abbrev main_v55 : Ref sig .tc := ⟨.hbm, 95, rfl⟩
abbrev main_v56 : Ref sig .tc := ⟨.hbm, 96, rfl⟩
abbrev main_c_12 : Ref sig .tc := ⟨.hbm, 97, rfl⟩
abbrev main_c_13 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_c_14 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_c_15 : Ref sig .tc := ⟨.hbm, 107, rfl⟩
abbrev main_call2_c : Ref sig .tc := ⟨.hbm, 108, rfl⟩
abbrev main_call2_v0 : Ref sig .tc := ⟨.hbm, 109, rfl⟩
abbrev main_call2_v1 : Ref sig .tc := ⟨.hbm, 110, rfl⟩
abbrev main_call2_c_0 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_v7 : Ref sig .tc := ⟨.hbm, 117, rfl⟩
abbrev main_call2_v8 : Ref sig .tc := ⟨.hbm, 118, rfl⟩
abbrev main_call2_v9 : Ref sig .tc := ⟨.hbm, 119, rfl⟩
abbrev main_call2_v10 : Ref sig .tc := ⟨.hbm, 120, rfl⟩
abbrev main_call2_call0_v0 : Ref sig .tc := ⟨.hbm, 121, rfl⟩
abbrev main_call2_call0_c : Ref sig .tc := ⟨.hbm, 122, rfl⟩
abbrev main_call2_call0_v1 : Ref sig .tc := ⟨.hbm, 123, rfl⟩
abbrev main_call2_call0_v2 : Ref sig .tc := ⟨.hbm, 124, rfl⟩
abbrev main_call2_call0_v3 : Ref sig .tc := ⟨.hbm, 125, rfl⟩
abbrev main_call2_call0_v4 : Ref sig .tc := ⟨.hbm, 126, rfl⟩
abbrev main_call2_call0_v5 : Ref sig .tc := ⟨.hbm, 127, rfl⟩
abbrev main_call2_call0_v6 : Ref sig .tc := ⟨.hbm, 128, rfl⟩
abbrev main_call2_call0_c_0 : Ref sig .tc := ⟨.hbm, 129, rfl⟩
abbrev main_call2_call0_v7 : Ref sig .tc := ⟨.hbm, 130, rfl⟩
abbrev main_call2_call0_v8 : Ref sig .tc := ⟨.hbm, 131, rfl⟩
abbrev main_call2_call0_c_1 : Ref sig .tc := ⟨.hbm, 132, rfl⟩
abbrev main_call2_call0_v9 : Ref sig .tc := ⟨.hbm, 133, rfl⟩
abbrev main_call2_call0_v10 : Ref sig .tc := ⟨.hbm, 134, rfl⟩
abbrev main_call2_call0_v11 : Ref sig .tc := ⟨.hbm, 135, rfl⟩
abbrev main_call2_call0_v12 : Ref sig .tc := ⟨.hbm, 136, rfl⟩
abbrev main_call2_call0_v13 : Ref sig .tc := ⟨.hbm, 137, rfl⟩
abbrev main_call2_call0_c_2 : Ref sig .tc := ⟨.hbm, 138, rfl⟩
abbrev main_call2_call0_v14 : Ref sig .tc := ⟨.hbm, 139, rfl⟩
abbrev main_call2_call0_v15 : Ref sig .tc := ⟨.hbm, 140, rfl⟩
abbrev main_call2_call0_c_3 : Ref sig .tc := ⟨.hbm, 141, rfl⟩
abbrev main_call2_call0_v16 : Ref sig .tc := ⟨.hbm, 142, rfl⟩
abbrev main_call2_call0_v17 : Ref sig .tc := ⟨.hbm, 143, rfl⟩
abbrev main_call2_call0_v18 : Ref sig .tc := ⟨.hbm, 144, rfl⟩
abbrev main_call2_call0_v19 : Ref sig .tc := ⟨.hbm, 145, rfl⟩
abbrev main_call2_call0_v20 : Ref sig .tc := ⟨.hbm, 146, rfl⟩
abbrev main_call2_call0_c_4 : Ref sig .tc := ⟨.hbm, 147, rfl⟩
abbrev main_call2_call0_v21 : Ref sig .tc := ⟨.hbm, 148, rfl⟩
abbrev main_call2_call0_v22 : Ref sig .tc := ⟨.hbm, 149, rfl⟩
abbrev main_call2_call0_c_5 : Ref sig .tc := ⟨.hbm, 150, rfl⟩
abbrev main_call2_call0_v23 : Ref sig .tc := ⟨.hbm, 151, rfl⟩
abbrev main_call2_call0_v24 : Ref sig .tc := ⟨.hbm, 152, rfl⟩
abbrev main_call2_call0_v25 : Ref sig .tc := ⟨.hbm, 153, rfl⟩
abbrev main_call2_call0_v26 : Ref sig .tc := ⟨.hbm, 154, rfl⟩
abbrev main_call2_call0_v27 : Ref sig .tc := ⟨.hbm, 155, rfl⟩
abbrev main_call2_call0_c_6 : Ref sig .tc := ⟨.hbm, 156, rfl⟩
abbrev main_call2_call0_v28 : Ref sig .tc := ⟨.hbm, 157, rfl⟩
abbrev main_call2_call0_v29 : Ref sig .tc := ⟨.hbm, 158, rfl⟩
abbrev main_call2_call0_c_7 : Ref sig .tc := ⟨.hbm, 159, rfl⟩
abbrev main_call2_call0_v30 : Ref sig .tc := ⟨.hbm, 160, rfl⟩
abbrev main_call2_call0_v31 : Ref sig .tc := ⟨.hbm, 161, rfl⟩
abbrev main_call2_call0_v32 : Ref sig .tc := ⟨.hbm, 162, rfl⟩
abbrev main_call2_call0_v33 : Ref sig .tc := ⟨.hbm, 163, rfl⟩
abbrev main_call2_call0_v34 : Ref sig .tc := ⟨.hbm, 164, rfl⟩
abbrev main_call2_call0_v35 : Ref sig .tc := ⟨.hbm, 165, rfl⟩
abbrev main_call2_call0_v36 : Ref sig .tc := ⟨.hbm, 166, rfl⟩
abbrev main_call2_call0_v37 : Ref sig .tc := ⟨.hbm, 167, rfl⟩
abbrev main_call2_call0_c_8 : Ref sig .tc := ⟨.hbm, 168, rfl⟩
abbrev main_call2_call0_v38 : Ref sig .tc := ⟨.hbm, 169, rfl⟩
abbrev main_call2_call0_v39 : Ref sig .tc := ⟨.hbm, 170, rfl⟩
abbrev main_call2_call0_v40 : Ref sig .tc := ⟨.hbm, 171, rfl⟩
abbrev main_call2_call0_c_9 : Ref sig .tc := ⟨.hbm, 172, rfl⟩
abbrev main_call2_call0_v41 : Ref sig .tc := ⟨.hbm, 173, rfl⟩
abbrev main_call2_call0_v42 : Ref sig .tc := ⟨.hbm, 174, rfl⟩
abbrev main_call2_call0_c_10 : Ref sig .tc := ⟨.hbm, 175, rfl⟩
abbrev main_call2_call0_v43 : Ref sig .tc := ⟨.hbm, 176, rfl⟩
abbrev main_call2_call0_v44 : Ref sig .tc := ⟨.hbm, 177, rfl⟩
abbrev main_call2_call0_v45 : Ref sig .tc := ⟨.hbm, 178, rfl⟩
abbrev main_call2_call0_v46 : Ref sig .tc := ⟨.hbm, 179, rfl⟩
abbrev main_call2_call0_v47 : Ref sig .tc := ⟨.hbm, 180, rfl⟩
abbrev main_call2_call0_c_11 : Ref sig .tc := ⟨.hbm, 181, rfl⟩
abbrev main_call2_call0_v48 : Ref sig .tc := ⟨.hbm, 182, rfl⟩
abbrev main_call2_call0_v49 : Ref sig .tc := ⟨.hbm, 183, rfl⟩
abbrev main_call2_call0_c_12 : Ref sig .tc := ⟨.hbm, 184, rfl⟩
abbrev main_call2_call0_v50 : Ref sig .tc := ⟨.hbm, 185, rfl⟩
abbrev main_call2_call0_v51 : Ref sig .tc := ⟨.hbm, 186, rfl⟩
abbrev main_call2_call0_v52 : Ref sig .tc := ⟨.hbm, 187, rfl⟩
abbrev main_call2_call0_v53 : Ref sig .tc := ⟨.hbm, 188, rfl⟩
abbrev main_call2_call0_v54 : Ref sig .tc := ⟨.hbm, 189, rfl⟩
abbrev main_call2_call0_c_13 : Ref sig .tc := ⟨.hbm, 190, rfl⟩
abbrev main_call2_call0_v55 : Ref sig .tc := ⟨.hbm, 191, rfl⟩
abbrev main_call2_call0_v56 : Ref sig .tc := ⟨.hbm, 192, rfl⟩
abbrev main_call2_call0_c_14 : Ref sig .tc := ⟨.hbm, 193, rfl⟩
abbrev main_call2_call0_v57 : Ref sig .tc := ⟨.hbm, 194, rfl⟩
abbrev main_call2_call0_v58 : Ref sig .tc := ⟨.hbm, 195, rfl⟩
abbrev main_call2_call0_v59 : Ref sig .tc := ⟨.hbm, 196, rfl⟩
abbrev main_call2_call0_v60 : Ref sig .tc := ⟨.hbm, 197, rfl⟩
abbrev main_call2_call0_v61 : Ref sig .tc := ⟨.hbm, 198, rfl⟩
abbrev main_call2_call0_c_15 : Ref sig .tc := ⟨.hbm, 199, rfl⟩
abbrev main_call2_call0_v62 : Ref sig .tc := ⟨.hbm, 200, rfl⟩
abbrev main_call2_call0_v63 : Ref sig .tc := ⟨.hbm, 201, rfl⟩
abbrev main_call2_call0_c_16 : Ref sig .tc := ⟨.hbm, 202, rfl⟩
abbrev main_call2_call0_v64 : Ref sig .tc := ⟨.hbm, 203, rfl⟩
abbrev main_call2_call0_v65 : Ref sig .tc := ⟨.hbm, 204, rfl⟩
abbrev main_call2_call0_v66 : Ref sig .tc := ⟨.hbm, 205, rfl⟩
abbrev main_call2_call0_v67 : Ref sig .tc := ⟨.hbm, 206, rfl⟩
abbrev main_call2_call0_v68 : Ref sig .tc := ⟨.hbm, 207, rfl⟩
abbrev main_call2_call0_v69 : Ref sig .tc := ⟨.hbm, 208, rfl⟩
abbrev main_call2_call0_v70 : Ref sig .tc := ⟨.hbm, 209, rfl⟩
abbrev main_call2_call0_v71 : Ref sig .tc := ⟨.hbm, 210, rfl⟩
abbrev main_call2_call0_c_17 : Ref sig .tc := ⟨.hbm, 211, rfl⟩
abbrev main_call2_call0_v72 : Ref sig .tc := ⟨.hbm, 212, rfl⟩
abbrev main_call2_call0_v73 : Ref sig .tc := ⟨.hbm, 213, rfl⟩
abbrev main_call2_call0_v74 : Ref sig .tc := ⟨.hbm, 214, rfl⟩
abbrev main_call2_call0_c_18 : Ref sig .tc := ⟨.hbm, 215, rfl⟩
abbrev main_call2_call0_v75 : Ref sig .tc := ⟨.hbm, 216, rfl⟩
abbrev main_call2_call0_v76 : Ref sig .tc := ⟨.hbm, 217, rfl⟩
abbrev main_call2_call0_c_19 : Ref sig .tc := ⟨.hbm, 218, rfl⟩
abbrev main_call2_call0_v77 : Ref sig .tc := ⟨.hbm, 219, rfl⟩
abbrev main_call2_call0_v78 : Ref sig .tc := ⟨.hbm, 220, rfl⟩
abbrev main_call2_call0_v79 : Ref sig .tc := ⟨.hbm, 221, rfl⟩
abbrev main_call2_call0_v80 : Ref sig .tc := ⟨.hbm, 222, rfl⟩
abbrev main_call2_call0_v81 : Ref sig .tc := ⟨.hbm, 223, rfl⟩
abbrev main_call2_call0_c_20 : Ref sig .tc := ⟨.hbm, 224, rfl⟩
abbrev main_call2_call0_v82 : Ref sig .tc := ⟨.hbm, 225, rfl⟩
abbrev main_call2_call0_v83 : Ref sig .tc := ⟨.hbm, 226, rfl⟩
abbrev main_call2_call0_c_21 : Ref sig .tc := ⟨.hbm, 227, rfl⟩
abbrev main_call2_call0_v84 : Ref sig .tc := ⟨.hbm, 228, rfl⟩
abbrev main_call2_call0_v85 : Ref sig .tc := ⟨.hbm, 229, rfl⟩
abbrev main_call2_call0_v86 : Ref sig .tc := ⟨.hbm, 230, rfl⟩
abbrev main_call2_call0_v87 : Ref sig .tc := ⟨.hbm, 231, rfl⟩
abbrev main_call2_call0_v88 : Ref sig .tc := ⟨.hbm, 232, rfl⟩
abbrev main_call2_call0_c_22 : Ref sig .tc := ⟨.hbm, 233, rfl⟩
abbrev main_call2_call0_v89 : Ref sig .tc := ⟨.hbm, 234, rfl⟩
abbrev main_call2_call0_v90 : Ref sig .tc := ⟨.hbm, 235, rfl⟩
abbrev main_call2_call0_c_23 : Ref sig .tc := ⟨.hbm, 236, rfl⟩
abbrev main_call2_call0_v91 : Ref sig .tc := ⟨.hbm, 237, rfl⟩
abbrev main_call2_call0_v92 : Ref sig .tc := ⟨.hbm, 238, rfl⟩
abbrev main_call2_call0_v93 : Ref sig .tc := ⟨.hbm, 239, rfl⟩
abbrev main_call2_call0_v94 : Ref sig .tc := ⟨.hbm, 240, rfl⟩
abbrev main_call2_call0_v95 : Ref sig .tc := ⟨.hbm, 241, rfl⟩
abbrev main_call2_call0_c_24 : Ref sig .tc := ⟨.hbm, 242, rfl⟩
abbrev main_call2_call0_v96 : Ref sig .tc := ⟨.hbm, 243, rfl⟩
abbrev main_call2_call0_v97 : Ref sig .tc := ⟨.hbm, 244, rfl⟩
abbrev main_call2_call0_c_25 : Ref sig .tc := ⟨.hbm, 245, rfl⟩
abbrev main_call2_call0_v98 : Ref sig .tc := ⟨.hbm, 246, rfl⟩
abbrev main_call2_call0_v99 : Ref sig .tc := ⟨.hbm, 247, rfl⟩
abbrev main_call2_call0_v100 : Ref sig .tc := ⟨.hbm, 248, rfl⟩
abbrev main_call2_call0_v101 : Ref sig .tc := ⟨.hbm, 249, rfl⟩
abbrev main_call2_call0_v102 : Ref sig .tc := ⟨.hbm, 250, rfl⟩
abbrev main_call2_call0_v103 : Ref sig .tc := ⟨.hbm, 251, rfl⟩
abbrev main_call2_call0_v104 : Ref sig .tc := ⟨.hbm, 252, rfl⟩
abbrev main_call2_call0_v105 : Ref sig .tc := ⟨.hbm, 253, rfl⟩
abbrev main_call2_call0_c_26 : Ref sig .tc := ⟨.hbm, 254, rfl⟩
abbrev main_call2_call0_v106 : Ref sig .tc := ⟨.hbm, 255, rfl⟩
abbrev main_call2_call0_v107 : Ref sig .tc := ⟨.hbm, 256, rfl⟩
abbrev main_call2_call0_v108 : Ref sig .tc := ⟨.hbm, 257, rfl⟩
abbrev main_call2_call0_c_27 : Ref sig .tc := ⟨.hbm, 258, rfl⟩
abbrev main_call2_call0_v109 : Ref sig .tc := ⟨.hbm, 259, rfl⟩
abbrev main_call2_call0_v110 : Ref sig .tc := ⟨.hbm, 260, rfl⟩
abbrev main_call2_call0_c_28 : Ref sig .tc := ⟨.hbm, 261, rfl⟩
abbrev main_call2_call0_v111 : Ref sig .tc := ⟨.hbm, 262, rfl⟩
abbrev main_call2_call0_v112 : Ref sig .tc := ⟨.hbm, 263, rfl⟩
abbrev main_call2_call0_v113 : Ref sig .tc := ⟨.hbm, 264, rfl⟩
abbrev main_call2_call0_v114 : Ref sig .tc := ⟨.hbm, 265, rfl⟩
abbrev main_call2_call0_v115 : Ref sig .tc := ⟨.hbm, 266, rfl⟩
abbrev main_call2_call0_c_29 : Ref sig .tc := ⟨.hbm, 267, rfl⟩
abbrev main_call2_call0_v116 : Ref sig .tc := ⟨.hbm, 268, rfl⟩
abbrev main_call2_call0_v117 : Ref sig .tc := ⟨.hbm, 269, rfl⟩
abbrev main_call2_call0_c_30 : Ref sig .tc := ⟨.hbm, 270, rfl⟩
abbrev main_call2_call0_v118 : Ref sig .tc := ⟨.hbm, 271, rfl⟩
abbrev main_call2_call0_v119 : Ref sig .tc := ⟨.hbm, 272, rfl⟩
abbrev main_call2_call0_v120 : Ref sig .tc := ⟨.hbm, 273, rfl⟩
abbrev main_call2_call0_v121 : Ref sig .tc := ⟨.hbm, 274, rfl⟩
abbrev main_call2_call0_v122 : Ref sig .tc := ⟨.hbm, 275, rfl⟩
abbrev main_call2_call0_c_31 : Ref sig .tc := ⟨.hbm, 276, rfl⟩
abbrev main_call2_call0_v123 : Ref sig .tc := ⟨.hbm, 277, rfl⟩
abbrev main_call2_call0_v124 : Ref sig .tc := ⟨.hbm, 278, rfl⟩
abbrev main_call2_call0_c_32 : Ref sig .tc := ⟨.hbm, 279, rfl⟩
abbrev main_call2_call0_v125 : Ref sig .tc := ⟨.hbm, 280, rfl⟩
abbrev main_call2_call0_v126 : Ref sig .tc := ⟨.hbm, 281, rfl⟩
abbrev main_call2_call0_v127 : Ref sig .tc := ⟨.hbm, 282, rfl⟩
abbrev main_call2_call0_v128 : Ref sig .tc := ⟨.hbm, 283, rfl⟩
abbrev main_call2_call0_v129 : Ref sig .tc := ⟨.hbm, 284, rfl⟩
abbrev main_call2_call0_c_33 : Ref sig .tc := ⟨.hbm, 285, rfl⟩
abbrev main_call2_call0_v130 : Ref sig .tc := ⟨.hbm, 286, rfl⟩
abbrev main_call2_call0_v131 : Ref sig .tc := ⟨.hbm, 287, rfl⟩
abbrev main_call2_call0_c_34 : Ref sig .tc := ⟨.hbm, 288, rfl⟩
abbrev main_call2_call0_v132 : Ref sig .tc := ⟨.hbm, 289, rfl⟩
abbrev main_call2_call0_v133 : Ref sig .tc := ⟨.hbm, 290, rfl⟩
abbrev main_call2_call0_v134 : Ref sig .tc := ⟨.hbm, 291, rfl⟩
abbrev main_call2_call0_v135 : Ref sig .tc := ⟨.hbm, 292, rfl⟩
abbrev main_call2_call0_v136 : Ref sig .tc := ⟨.hbm, 293, rfl⟩
abbrev main_call2_call0_v137 : Ref sig .tc := ⟨.hbm, 294, rfl⟩
abbrev main_call2_call0_v138 : Ref sig .tc := ⟨.hbm, 295, rfl⟩
abbrev main_call2_call0_v139 : Ref sig .tc := ⟨.hbm, 296, rfl⟩
abbrev main_call2_call0_c_35 : Ref sig .tc := ⟨.hbm, 297, rfl⟩
abbrev main_call2_call0_v140 : Ref sig .tc := ⟨.hbm, 298, rfl⟩
abbrev main_call2_call0_v141 : Ref sig .tc := ⟨.hbm, 299, rfl⟩
abbrev main_call2_call0_v142 : Ref sig .tc := ⟨.hbm, 300, rfl⟩
abbrev main_call2_call0_c_36 : Ref sig .tc := ⟨.hbm, 301, rfl⟩
abbrev main_call2_call0_v143 : Ref sig .tc := ⟨.hbm, 302, rfl⟩
abbrev main_call2_call0_v144 : Ref sig .tc := ⟨.hbm, 303, rfl⟩
abbrev main_call2_call0_c_37 : Ref sig .tc := ⟨.hbm, 304, rfl⟩
abbrev main_call2_call0_v145 : Ref sig .tc := ⟨.hbm, 305, rfl⟩
abbrev main_call2_call0_v146 : Ref sig .tc := ⟨.hbm, 306, rfl⟩
abbrev main_call2_call0_v147 : Ref sig .tc := ⟨.hbm, 307, rfl⟩
abbrev main_call2_call0_v148 : Ref sig .tc := ⟨.hbm, 308, rfl⟩
abbrev main_call2_call0_v149 : Ref sig .tc := ⟨.hbm, 309, rfl⟩
abbrev main_call2_call0_c_38 : Ref sig .tc := ⟨.hbm, 310, rfl⟩
abbrev main_call2_call0_v150 : Ref sig .tc := ⟨.hbm, 311, rfl⟩
abbrev main_call2_call0_v151 : Ref sig .tc := ⟨.hbm, 312, rfl⟩
abbrev main_call2_call0_c_39 : Ref sig .tc := ⟨.hbm, 313, rfl⟩
abbrev main_call2_call0_v152 : Ref sig .tc := ⟨.hbm, 314, rfl⟩
abbrev main_call2_call0_v153 : Ref sig .tc := ⟨.hbm, 315, rfl⟩
abbrev main_call2_call0_v154 : Ref sig .tc := ⟨.hbm, 316, rfl⟩
abbrev main_call2_call0_v155 : Ref sig .tc := ⟨.hbm, 317, rfl⟩
abbrev main_call2_call0_v156 : Ref sig .tc := ⟨.hbm, 318, rfl⟩
abbrev main_call2_call0_c_40 : Ref sig .tc := ⟨.hbm, 319, rfl⟩
abbrev main_call2_call0_v157 : Ref sig .tc := ⟨.hbm, 320, rfl⟩
abbrev main_call2_call0_v158 : Ref sig .tc := ⟨.hbm, 321, rfl⟩
abbrev main_call2_call0_c_41 : Ref sig .tc := ⟨.hbm, 322, rfl⟩
abbrev main_call2_call0_v159 : Ref sig .tc := ⟨.hbm, 323, rfl⟩
abbrev main_call2_call0_v160 : Ref sig .tc := ⟨.hbm, 324, rfl⟩
abbrev main_call2_call0_v161 : Ref sig .tc := ⟨.hbm, 325, rfl⟩
abbrev main_call2_call0_v162 : Ref sig .tc := ⟨.hbm, 326, rfl⟩
abbrev main_call2_call0_v163 : Ref sig .tc := ⟨.hbm, 327, rfl⟩
abbrev main_call2_call0_c_42 : Ref sig .tc := ⟨.hbm, 328, rfl⟩
abbrev main_call2_call0_v164 : Ref sig .tc := ⟨.hbm, 329, rfl⟩
abbrev main_call2_call0_v165 : Ref sig .tc := ⟨.hbm, 330, rfl⟩
abbrev main_call2_call0_c_43 : Ref sig .tc := ⟨.hbm, 331, rfl⟩
abbrev main_call2_call0_v166 : Ref sig .tc := ⟨.hbm, 332, rfl⟩
abbrev main_call2_call0_v167 : Ref sig .tc := ⟨.hbm, 333, rfl⟩
abbrev main_call2_call0_v168 : Ref sig .tc := ⟨.hbm, 334, rfl⟩
abbrev main_call2_call0_v169 : Ref sig .tc := ⟨.hbm, 335, rfl⟩
abbrev main_call2_call0_v170 : Ref sig .tc := ⟨.hbm, 336, rfl⟩
abbrev main_call2_v11_0 : Ref sig .tc := ⟨.hbm, 337, rfl⟩
abbrev main_call2_call0_v172 : Ref sig .tc := ⟨.hbm, 338, rfl⟩
abbrev main_call2_call0_v173 : Ref sig .tc := ⟨.hbm, 339, rfl⟩
abbrev main_call2_call0_c_44 : Ref sig .tc := ⟨.hbm, 340, rfl⟩
abbrev main_call2_call0_v174 : Ref sig .tc := ⟨.hbm, 341, rfl⟩
abbrev main_call2_v11_1 : Ref sig .tc := ⟨.hbm, 342, rfl⟩
abbrev main_v64 : Ref sig .tc := ⟨.hbm, 343, rfl⟩
abbrev main_cst_16 : Ref sig .tc := ⟨.hbm, 344, rfl⟩
abbrev main_cst_17 : Ref sig .tc := ⟨.hbm, 345, rfl⟩
abbrev main_call3_v0 : Ref sig .tc := ⟨.hbm, 346, rfl⟩
abbrev main_call3_v1 : Ref sig .tc := ⟨.hbm, 347, rfl⟩
abbrev main_call3_v2 : Ref sig .tc := ⟨.hbm, 348, rfl⟩
abbrev main_call3_v3 : Ref sig .tc := ⟨.hbm, 349, rfl⟩
abbrev main_call3_v4 : Ref sig .tc := ⟨.hbm, 350, rfl⟩
abbrev main_call3_v5 : Ref sig .tc := ⟨.hbm, 351, rfl⟩
abbrev main_call3_v6 : Ref sig .tc := ⟨.hbm, 352, rfl⟩
abbrev main_call3_v7 : Ref sig .tc := ⟨.hbm, 353, rfl⟩
abbrev main_call3_v8 : Ref sig .tc := ⟨.hbm, 354, rfl⟩
abbrev main_call3_v9 : Ref sig .tc := ⟨.hbm, 355, rfl⟩
abbrev main_call3_v10 : Ref sig .tc := ⟨.hbm, 356, rfl⟩
abbrev main_call3_v11 : Ref sig .tc := ⟨.hbm, 357, rfl⟩
abbrev main_call3_c : Ref sig .tc := ⟨.hbm, 358, rfl⟩
abbrev main_call3_v12 : Ref sig .tc := ⟨.hbm, 359, rfl⟩
abbrev main_call3_v13 : Ref sig .tc := ⟨.hbm, 360, rfl⟩
abbrev main_call3_c_0 : Ref sig .tc := ⟨.hbm, 361, rfl⟩
abbrev main_call3_v14 : Ref sig .tc := ⟨.hbm, 362, rfl⟩
abbrev main_call3_v15 : Ref sig .tc := ⟨.hbm, 363, rfl⟩
abbrev main_call3_c_1 : Ref sig .tc := ⟨.hbm, 364, rfl⟩
abbrev main_call3_v16 : Ref sig .tc := ⟨.hbm, 365, rfl⟩
abbrev main_call3_v17 : Ref sig .tc := ⟨.hbm, 366, rfl⟩
abbrev main_call3_c_2 : Ref sig .tc := ⟨.hbm, 367, rfl⟩
abbrev main_call3_v18 : Ref sig .tc := ⟨.hbm, 368, rfl⟩
abbrev main_call3_v19 : Ref sig .tc := ⟨.hbm, 369, rfl⟩
abbrev main_call3_v20 : Ref sig .tc := ⟨.hbm, 370, rfl⟩
abbrev main_call3_v21 : Ref sig .tc := ⟨.hbm, 371, rfl⟩
abbrev main_call3_v22 : Ref sig .tc := ⟨.hbm, 372, rfl⟩
abbrev main_call3_c_3 : Ref sig .tc := ⟨.hbm, 373, rfl⟩
abbrev main_call3_v23 : Ref sig .tc := ⟨.hbm, 374, rfl⟩
abbrev main_call3_v24 : Ref sig .tc := ⟨.hbm, 375, rfl⟩
abbrev main_call3_v25 : Ref sig .tc := ⟨.hbm, 376, rfl⟩
abbrev main_call3_v26 : Ref sig .tc := ⟨.hbm, 377, rfl⟩
abbrev main_call3_call0_v0 : Ref sig .tc := ⟨.hbm, 378, rfl⟩
abbrev main_call3_call0_c : Ref sig .tc := ⟨.hbm, 379, rfl⟩
abbrev main_call3_call0_v1 : Ref sig .tc := ⟨.hbm, 380, rfl⟩
abbrev main_call3_call0_v2 : Ref sig .tc := ⟨.hbm, 381, rfl⟩
abbrev main_call3_call0_v3 : Ref sig .tc := ⟨.hbm, 382, rfl⟩
abbrev main_call3_call0_v4 : Ref sig .tc := ⟨.hbm, 383, rfl⟩
abbrev main_call3_call0_v5 : Ref sig .tc := ⟨.hbm, 384, rfl⟩
abbrev main_call3_call0_v6 : Ref sig .tc := ⟨.hbm, 385, rfl⟩
abbrev main_call3_call0_c_0 : Ref sig .tc := ⟨.hbm, 386, rfl⟩
abbrev main_call3_call0_v7 : Ref sig .tc := ⟨.hbm, 387, rfl⟩
abbrev main_call3_call0_v8 : Ref sig .tc := ⟨.hbm, 388, rfl⟩
abbrev main_call3_call0_c_1 : Ref sig .tc := ⟨.hbm, 389, rfl⟩
abbrev main_call3_call0_v9 : Ref sig .tc := ⟨.hbm, 390, rfl⟩
abbrev main_call3_call0_v10 : Ref sig .tc := ⟨.hbm, 391, rfl⟩
abbrev main_call3_call0_v11 : Ref sig .tc := ⟨.hbm, 392, rfl⟩
abbrev main_call3_call0_v12 : Ref sig .tc := ⟨.hbm, 393, rfl⟩
abbrev main_call3_call0_v13 : Ref sig .tc := ⟨.hbm, 394, rfl⟩
abbrev main_call3_call0_c_2 : Ref sig .tc := ⟨.hbm, 395, rfl⟩
abbrev main_call3_call0_v14 : Ref sig .tc := ⟨.hbm, 396, rfl⟩
abbrev main_call3_call0_v15 : Ref sig .tc := ⟨.hbm, 397, rfl⟩
abbrev main_call3_call0_c_3 : Ref sig .tc := ⟨.hbm, 398, rfl⟩
abbrev main_call3_call0_v16 : Ref sig .tc := ⟨.hbm, 399, rfl⟩
abbrev main_call3_call0_v17 : Ref sig .tc := ⟨.hbm, 400, rfl⟩
abbrev main_call3_call0_v18 : Ref sig .tc := ⟨.hbm, 401, rfl⟩
abbrev main_call3_call0_v19 : Ref sig .tc := ⟨.hbm, 402, rfl⟩
abbrev main_call3_call0_v20 : Ref sig .tc := ⟨.hbm, 403, rfl⟩
abbrev main_call3_call0_c_4 : Ref sig .tc := ⟨.hbm, 404, rfl⟩
abbrev main_call3_call0_v21 : Ref sig .tc := ⟨.hbm, 405, rfl⟩
abbrev main_call3_call0_v22 : Ref sig .tc := ⟨.hbm, 406, rfl⟩
abbrev main_call3_call0_c_5 : Ref sig .tc := ⟨.hbm, 407, rfl⟩
abbrev main_call3_call0_v23 : Ref sig .tc := ⟨.hbm, 408, rfl⟩
abbrev main_call3_call0_v24 : Ref sig .tc := ⟨.hbm, 409, rfl⟩
abbrev main_call3_call0_v25 : Ref sig .tc := ⟨.hbm, 410, rfl⟩
abbrev main_call3_call0_v26 : Ref sig .tc := ⟨.hbm, 411, rfl⟩
abbrev main_call3_call0_v27 : Ref sig .tc := ⟨.hbm, 412, rfl⟩
abbrev main_call3_call0_c_6 : Ref sig .tc := ⟨.hbm, 413, rfl⟩
abbrev main_call3_call0_v28 : Ref sig .tc := ⟨.hbm, 414, rfl⟩
abbrev main_call3_call0_v29 : Ref sig .tc := ⟨.hbm, 415, rfl⟩
abbrev main_call3_call0_c_7 : Ref sig .tc := ⟨.hbm, 416, rfl⟩
abbrev main_call3_call0_v30 : Ref sig .tc := ⟨.hbm, 417, rfl⟩
abbrev main_call3_call0_v31 : Ref sig .tc := ⟨.hbm, 418, rfl⟩
abbrev main_call3_call0_v32 : Ref sig .tc := ⟨.hbm, 419, rfl⟩
abbrev main_call3_call0_v33 : Ref sig .tc := ⟨.hbm, 420, rfl⟩
abbrev main_call3_call0_v34 : Ref sig .tc := ⟨.hbm, 421, rfl⟩
abbrev main_call3_call0_v35 : Ref sig .tc := ⟨.hbm, 422, rfl⟩
abbrev main_call3_call0_v36 : Ref sig .tc := ⟨.hbm, 423, rfl⟩
abbrev main_call3_call0_v37 : Ref sig .tc := ⟨.hbm, 424, rfl⟩
abbrev main_call3_call0_c_8 : Ref sig .tc := ⟨.hbm, 425, rfl⟩
abbrev main_call3_call0_v38 : Ref sig .tc := ⟨.hbm, 426, rfl⟩
abbrev main_call3_call0_v39 : Ref sig .tc := ⟨.hbm, 427, rfl⟩
abbrev main_call3_call0_v40 : Ref sig .tc := ⟨.hbm, 428, rfl⟩
abbrev main_call3_call0_c_9 : Ref sig .tc := ⟨.hbm, 429, rfl⟩
abbrev main_call3_call0_v41 : Ref sig .tc := ⟨.hbm, 430, rfl⟩
abbrev main_call3_call0_v42 : Ref sig .tc := ⟨.hbm, 431, rfl⟩
abbrev main_call3_call0_c_10 : Ref sig .tc := ⟨.hbm, 432, rfl⟩
abbrev main_call3_call0_v43 : Ref sig .tc := ⟨.hbm, 433, rfl⟩
abbrev main_call3_call0_v44 : Ref sig .tc := ⟨.hbm, 434, rfl⟩
abbrev main_call3_call0_v45 : Ref sig .tc := ⟨.hbm, 435, rfl⟩
abbrev main_call3_call0_v46 : Ref sig .tc := ⟨.hbm, 436, rfl⟩
abbrev main_call3_call0_v47 : Ref sig .tc := ⟨.hbm, 437, rfl⟩
abbrev main_call3_call0_c_11 : Ref sig .tc := ⟨.hbm, 438, rfl⟩
abbrev main_call3_call0_v48 : Ref sig .tc := ⟨.hbm, 439, rfl⟩
abbrev main_call3_call0_v49 : Ref sig .tc := ⟨.hbm, 440, rfl⟩
abbrev main_call3_call0_c_12 : Ref sig .tc := ⟨.hbm, 441, rfl⟩
abbrev main_call3_call0_v50 : Ref sig .tc := ⟨.hbm, 442, rfl⟩
abbrev main_call3_call0_v51 : Ref sig .tc := ⟨.hbm, 443, rfl⟩
abbrev main_call3_call0_v52 : Ref sig .tc := ⟨.hbm, 444, rfl⟩
abbrev main_call3_call0_v53 : Ref sig .tc := ⟨.hbm, 445, rfl⟩
abbrev main_call3_call0_v54 : Ref sig .tc := ⟨.hbm, 446, rfl⟩
abbrev main_call3_call0_c_13 : Ref sig .tc := ⟨.hbm, 447, rfl⟩
abbrev main_call3_call0_v55 : Ref sig .tc := ⟨.hbm, 448, rfl⟩
abbrev main_call3_call0_v56 : Ref sig .tc := ⟨.hbm, 449, rfl⟩
abbrev main_call3_call0_c_14 : Ref sig .tc := ⟨.hbm, 450, rfl⟩
abbrev main_call3_call0_v57 : Ref sig .tc := ⟨.hbm, 451, rfl⟩
abbrev main_call3_call0_v58 : Ref sig .tc := ⟨.hbm, 452, rfl⟩
abbrev main_call3_call0_v59 : Ref sig .tc := ⟨.hbm, 453, rfl⟩
abbrev main_call3_call0_v60 : Ref sig .tc := ⟨.hbm, 454, rfl⟩
abbrev main_call3_call0_v61 : Ref sig .tc := ⟨.hbm, 455, rfl⟩
abbrev main_call3_call0_c_15 : Ref sig .tc := ⟨.hbm, 456, rfl⟩
abbrev main_call3_call0_v62 : Ref sig .tc := ⟨.hbm, 457, rfl⟩
abbrev main_call3_call0_v63 : Ref sig .tc := ⟨.hbm, 458, rfl⟩
abbrev main_call3_call0_c_16 : Ref sig .tc := ⟨.hbm, 459, rfl⟩
abbrev main_call3_call0_v64 : Ref sig .tc := ⟨.hbm, 460, rfl⟩
abbrev main_call3_call0_v65 : Ref sig .tc := ⟨.hbm, 461, rfl⟩
abbrev main_call3_call0_v66 : Ref sig .tc := ⟨.hbm, 462, rfl⟩
abbrev main_call3_call0_v67 : Ref sig .tc := ⟨.hbm, 463, rfl⟩
abbrev main_call3_call0_v68 : Ref sig .tc := ⟨.hbm, 464, rfl⟩
abbrev main_call3_call0_v69 : Ref sig .tc := ⟨.hbm, 465, rfl⟩
abbrev main_call3_call0_v70 : Ref sig .tc := ⟨.hbm, 466, rfl⟩
abbrev main_call3_call0_v71 : Ref sig .tc := ⟨.hbm, 467, rfl⟩
abbrev main_call3_call0_c_17 : Ref sig .tc := ⟨.hbm, 468, rfl⟩
abbrev main_call3_call0_v72 : Ref sig .tc := ⟨.hbm, 469, rfl⟩
abbrev main_call3_call0_v73 : Ref sig .tc := ⟨.hbm, 470, rfl⟩
abbrev main_call3_call0_v74 : Ref sig .tc := ⟨.hbm, 471, rfl⟩
abbrev main_call3_call0_c_18 : Ref sig .tc := ⟨.hbm, 472, rfl⟩
abbrev main_call3_call0_v75 : Ref sig .tc := ⟨.hbm, 473, rfl⟩
abbrev main_call3_call0_v76 : Ref sig .tc := ⟨.hbm, 474, rfl⟩
abbrev main_call3_call0_c_19 : Ref sig .tc := ⟨.hbm, 475, rfl⟩
abbrev main_call3_call0_v77 : Ref sig .tc := ⟨.hbm, 476, rfl⟩
abbrev main_call3_call0_v78 : Ref sig .tc := ⟨.hbm, 477, rfl⟩
abbrev main_call3_call0_v79 : Ref sig .tc := ⟨.hbm, 478, rfl⟩
abbrev main_call3_call0_v80 : Ref sig .tc := ⟨.hbm, 479, rfl⟩
abbrev main_call3_call0_v81 : Ref sig .tc := ⟨.hbm, 480, rfl⟩
abbrev main_call3_call0_c_20 : Ref sig .tc := ⟨.hbm, 481, rfl⟩
abbrev main_call3_call0_v82 : Ref sig .tc := ⟨.hbm, 482, rfl⟩
abbrev main_call3_call0_v83 : Ref sig .tc := ⟨.hbm, 483, rfl⟩
abbrev main_call3_call0_c_21 : Ref sig .tc := ⟨.hbm, 484, rfl⟩
abbrev main_call3_call0_v84 : Ref sig .tc := ⟨.hbm, 485, rfl⟩
abbrev main_call3_call0_v85 : Ref sig .tc := ⟨.hbm, 486, rfl⟩
abbrev main_call3_call0_v86 : Ref sig .tc := ⟨.hbm, 487, rfl⟩
abbrev main_call3_call0_v87 : Ref sig .tc := ⟨.hbm, 488, rfl⟩
abbrev main_call3_call0_v88 : Ref sig .tc := ⟨.hbm, 489, rfl⟩
abbrev main_call3_call0_c_22 : Ref sig .tc := ⟨.hbm, 490, rfl⟩
abbrev main_call3_call0_v89 : Ref sig .tc := ⟨.hbm, 491, rfl⟩
abbrev main_call3_call0_v90 : Ref sig .tc := ⟨.hbm, 492, rfl⟩
abbrev main_call3_call0_c_23 : Ref sig .tc := ⟨.hbm, 493, rfl⟩
abbrev main_call3_call0_v91 : Ref sig .tc := ⟨.hbm, 494, rfl⟩
abbrev main_call3_call0_v92 : Ref sig .tc := ⟨.hbm, 495, rfl⟩
abbrev main_call3_call0_v93 : Ref sig .tc := ⟨.hbm, 496, rfl⟩
abbrev main_call3_call0_v94 : Ref sig .tc := ⟨.hbm, 497, rfl⟩
abbrev main_call3_call0_v95 : Ref sig .tc := ⟨.hbm, 498, rfl⟩
abbrev main_call3_call0_c_24 : Ref sig .tc := ⟨.hbm, 499, rfl⟩
abbrev main_call3_call0_v96 : Ref sig .tc := ⟨.hbm, 500, rfl⟩
abbrev main_call3_call0_v97 : Ref sig .tc := ⟨.hbm, 501, rfl⟩
abbrev main_call3_call0_c_25 : Ref sig .tc := ⟨.hbm, 502, rfl⟩
abbrev main_call3_call0_v98 : Ref sig .tc := ⟨.hbm, 503, rfl⟩
abbrev main_call3_call0_v99 : Ref sig .tc := ⟨.hbm, 504, rfl⟩
abbrev main_call3_call0_v100 : Ref sig .tc := ⟨.hbm, 505, rfl⟩
abbrev main_call3_call0_v101 : Ref sig .tc := ⟨.hbm, 506, rfl⟩
abbrev main_call3_call0_v102 : Ref sig .tc := ⟨.hbm, 507, rfl⟩
abbrev main_call3_call0_v103 : Ref sig .tc := ⟨.hbm, 508, rfl⟩
abbrev main_call3_call0_v104 : Ref sig .tc := ⟨.hbm, 509, rfl⟩
abbrev main_call3_call0_v105 : Ref sig .tc := ⟨.hbm, 510, rfl⟩
abbrev main_call3_call0_c_26 : Ref sig .tc := ⟨.hbm, 511, rfl⟩
abbrev main_call3_call0_v106 : Ref sig .tc := ⟨.hbm, 512, rfl⟩
abbrev main_call3_call0_v107 : Ref sig .tc := ⟨.hbm, 513, rfl⟩
abbrev main_call3_call0_v108 : Ref sig .tc := ⟨.hbm, 514, rfl⟩
abbrev main_call3_call0_c_27 : Ref sig .tc := ⟨.hbm, 515, rfl⟩
abbrev main_call3_call0_v109 : Ref sig .tc := ⟨.hbm, 516, rfl⟩
abbrev main_call3_call0_v110 : Ref sig .tc := ⟨.hbm, 517, rfl⟩
abbrev main_call3_call0_c_28 : Ref sig .tc := ⟨.hbm, 518, rfl⟩
abbrev main_call3_call0_v111 : Ref sig .tc := ⟨.hbm, 519, rfl⟩
abbrev main_call3_call0_v112 : Ref sig .tc := ⟨.hbm, 520, rfl⟩
abbrev main_call3_call0_v113 : Ref sig .tc := ⟨.hbm, 521, rfl⟩
abbrev main_call3_call0_v114 : Ref sig .tc := ⟨.hbm, 522, rfl⟩
abbrev main_call3_call0_v115 : Ref sig .tc := ⟨.hbm, 523, rfl⟩
abbrev main_call3_call0_c_29 : Ref sig .tc := ⟨.hbm, 524, rfl⟩
abbrev main_call3_call0_v116 : Ref sig .tc := ⟨.hbm, 525, rfl⟩
abbrev main_call3_call0_v117 : Ref sig .tc := ⟨.hbm, 526, rfl⟩
abbrev main_call3_call0_c_30 : Ref sig .tc := ⟨.hbm, 527, rfl⟩
abbrev main_call3_call0_v118 : Ref sig .tc := ⟨.hbm, 528, rfl⟩
abbrev main_call3_call0_v119 : Ref sig .tc := ⟨.hbm, 529, rfl⟩
abbrev main_call3_call0_v120 : Ref sig .tc := ⟨.hbm, 530, rfl⟩
abbrev main_call3_call0_v121 : Ref sig .tc := ⟨.hbm, 531, rfl⟩
abbrev main_call3_call0_v122 : Ref sig .tc := ⟨.hbm, 532, rfl⟩
abbrev main_call3_call0_c_31 : Ref sig .tc := ⟨.hbm, 533, rfl⟩
abbrev main_call3_call0_v123 : Ref sig .tc := ⟨.hbm, 534, rfl⟩
abbrev main_call3_call0_v124 : Ref sig .tc := ⟨.hbm, 535, rfl⟩
abbrev main_call3_call0_c_32 : Ref sig .tc := ⟨.hbm, 536, rfl⟩
abbrev main_call3_call0_v125 : Ref sig .tc := ⟨.hbm, 537, rfl⟩
abbrev main_call3_call0_v126 : Ref sig .tc := ⟨.hbm, 538, rfl⟩
abbrev main_call3_call0_v127 : Ref sig .tc := ⟨.hbm, 539, rfl⟩
abbrev main_call3_call0_v128 : Ref sig .tc := ⟨.hbm, 540, rfl⟩
abbrev main_call3_call0_v129 : Ref sig .tc := ⟨.hbm, 541, rfl⟩
abbrev main_call3_call0_c_33 : Ref sig .tc := ⟨.hbm, 542, rfl⟩
abbrev main_call3_call0_v130 : Ref sig .tc := ⟨.hbm, 543, rfl⟩
abbrev main_call3_call0_v131 : Ref sig .tc := ⟨.hbm, 544, rfl⟩
abbrev main_call3_call0_c_34 : Ref sig .tc := ⟨.hbm, 545, rfl⟩
abbrev main_call3_call0_v132 : Ref sig .tc := ⟨.hbm, 546, rfl⟩
abbrev main_call3_call0_v133 : Ref sig .tc := ⟨.hbm, 547, rfl⟩
abbrev main_call3_call0_v134 : Ref sig .tc := ⟨.hbm, 548, rfl⟩
abbrev main_call3_call0_v135 : Ref sig .tc := ⟨.hbm, 549, rfl⟩
abbrev main_call3_call0_v136 : Ref sig .tc := ⟨.hbm, 550, rfl⟩
abbrev main_call3_call0_v137 : Ref sig .tc := ⟨.hbm, 551, rfl⟩
abbrev main_call3_call0_v138 : Ref sig .tc := ⟨.hbm, 552, rfl⟩
abbrev main_call3_call0_v139 : Ref sig .tc := ⟨.hbm, 553, rfl⟩
abbrev main_call3_call0_c_35 : Ref sig .tc := ⟨.hbm, 554, rfl⟩
abbrev main_call3_call0_v140 : Ref sig .tc := ⟨.hbm, 555, rfl⟩
abbrev main_call3_call0_v141 : Ref sig .tc := ⟨.hbm, 556, rfl⟩
abbrev main_call3_call0_v142 : Ref sig .tc := ⟨.hbm, 557, rfl⟩
abbrev main_call3_call0_c_36 : Ref sig .tc := ⟨.hbm, 558, rfl⟩
abbrev main_call3_call0_v143 : Ref sig .tc := ⟨.hbm, 559, rfl⟩
abbrev main_call3_call0_v144 : Ref sig .tc := ⟨.hbm, 560, rfl⟩
abbrev main_call3_call0_c_37 : Ref sig .tc := ⟨.hbm, 561, rfl⟩
abbrev main_call3_call0_v145 : Ref sig .tc := ⟨.hbm, 562, rfl⟩
abbrev main_call3_call0_v146 : Ref sig .tc := ⟨.hbm, 563, rfl⟩
abbrev main_call3_call0_v147 : Ref sig .tc := ⟨.hbm, 564, rfl⟩
abbrev main_call3_call0_v148 : Ref sig .tc := ⟨.hbm, 565, rfl⟩
abbrev main_call3_call0_v149 : Ref sig .tc := ⟨.hbm, 566, rfl⟩
abbrev main_call3_call0_c_38 : Ref sig .tc := ⟨.hbm, 567, rfl⟩
abbrev main_call3_call0_v150 : Ref sig .tc := ⟨.hbm, 568, rfl⟩
abbrev main_call3_call0_v151 : Ref sig .tc := ⟨.hbm, 569, rfl⟩
abbrev main_call3_call0_c_39 : Ref sig .tc := ⟨.hbm, 570, rfl⟩
abbrev main_call3_call0_v152 : Ref sig .tc := ⟨.hbm, 571, rfl⟩
abbrev main_call3_call0_v153 : Ref sig .tc := ⟨.hbm, 572, rfl⟩
abbrev main_call3_call0_v154 : Ref sig .tc := ⟨.hbm, 573, rfl⟩
abbrev main_call3_call0_v155 : Ref sig .tc := ⟨.hbm, 574, rfl⟩
abbrev main_call3_call0_v156 : Ref sig .tc := ⟨.hbm, 575, rfl⟩
abbrev main_call3_call0_c_40 : Ref sig .tc := ⟨.hbm, 576, rfl⟩
abbrev main_call3_call0_v157 : Ref sig .tc := ⟨.hbm, 577, rfl⟩
abbrev main_call3_call0_v158 : Ref sig .tc := ⟨.hbm, 578, rfl⟩
abbrev main_call3_call0_c_41 : Ref sig .tc := ⟨.hbm, 579, rfl⟩
abbrev main_call3_call0_v159 : Ref sig .tc := ⟨.hbm, 580, rfl⟩
abbrev main_call3_call0_v160 : Ref sig .tc := ⟨.hbm, 581, rfl⟩
abbrev main_call3_call0_v161 : Ref sig .tc := ⟨.hbm, 582, rfl⟩
abbrev main_call3_call0_v162 : Ref sig .tc := ⟨.hbm, 583, rfl⟩
abbrev main_call3_call0_v163 : Ref sig .tc := ⟨.hbm, 584, rfl⟩
abbrev main_call3_call0_c_42 : Ref sig .tc := ⟨.hbm, 585, rfl⟩
abbrev main_call3_call0_v164 : Ref sig .tc := ⟨.hbm, 586, rfl⟩
abbrev main_call3_call0_v165 : Ref sig .tc := ⟨.hbm, 587, rfl⟩
abbrev main_call3_call0_c_43 : Ref sig .tc := ⟨.hbm, 588, rfl⟩
abbrev main_call3_call0_v166 : Ref sig .tc := ⟨.hbm, 589, rfl⟩
abbrev main_call3_call0_v167 : Ref sig .tc := ⟨.hbm, 590, rfl⟩
abbrev main_call3_call0_v168 : Ref sig .tc := ⟨.hbm, 591, rfl⟩
abbrev main_call3_call0_v169 : Ref sig .tc := ⟨.hbm, 592, rfl⟩
abbrev main_call3_call0_v170 : Ref sig .tc := ⟨.hbm, 593, rfl⟩
abbrev main_call3_v27_0 : Ref sig .tc := ⟨.hbm, 594, rfl⟩
abbrev main_call3_call0_v172 : Ref sig .tc := ⟨.hbm, 595, rfl⟩
abbrev main_call3_call0_v173 : Ref sig .tc := ⟨.hbm, 596, rfl⟩
abbrev main_call3_call0_c_44 : Ref sig .tc := ⟨.hbm, 597, rfl⟩
abbrev main_call3_call0_v174 : Ref sig .tc := ⟨.hbm, 598, rfl⟩
abbrev main_call3_v27_1 : Ref sig .tc := ⟨.hbm, 599, rfl⟩
abbrev main_call3_v28 : Ref sig .tc := ⟨.hbm, 600, rfl⟩
abbrev main_call3_c_4 : Ref sig .tc := ⟨.hbm, 601, rfl⟩
abbrev main_call3_v29 : Ref sig .tc := ⟨.hbm, 602, rfl⟩
abbrev main_call3_v30 : Ref sig .tc := ⟨.hbm, 603, rfl⟩
abbrev main_call3_c_5 : Ref sig .tc := ⟨.hbm, 604, rfl⟩
abbrev main_call3_v31 : Ref sig .tc := ⟨.hbm, 605, rfl⟩
abbrev main_call3_v32 : Ref sig .tc := ⟨.hbm, 606, rfl⟩
abbrev main_call3_v33 : Ref sig .tc := ⟨.hbm, 607, rfl⟩
abbrev main_call3_cst : Ref sig .tc := ⟨.hbm, 608, rfl⟩
abbrev main_call3_v34 : Ref sig .tc := ⟨.hbm, 609, rfl⟩
abbrev main_call3_v35 : Ref sig .tc := ⟨.hbm, 610, rfl⟩
abbrev main_call3_v36 : Ref sig .tc := ⟨.hbm, 611, rfl⟩
abbrev main_call3_v37 : Ref sig .tc := ⟨.hbm, 612, rfl⟩
abbrev main_call3_v38 : Ref sig .tc := ⟨.hbm, 613, rfl⟩
abbrev main_call3_v39 : Ref sig .tc := ⟨.hbm, 614, rfl⟩
abbrev main_call3_v40 : Ref sig .tc := ⟨.hbm, 615, rfl⟩
abbrev main_call3_v41 : Ref sig .tc := ⟨.hbm, 616, rfl⟩
abbrev main_v65 : Ref sig .tc := ⟨.hbm, 617, rfl⟩
abbrev main_cst_18 : Ref sig .tc := ⟨.hbm, 618, rfl⟩
abbrev main_v66 : Ref sig .tc := ⟨.hbm, 619, rfl⟩
abbrev main_v67 : Ref sig .tc := ⟨.hbm, 620, rfl⟩
abbrev main_v68 : Ref sig .tc := ⟨.hbm, 621, rfl⟩
abbrev main_v69 : Ref sig .tc := ⟨.hbm, 622, rfl⟩
abbrev main_v70 : Ref sig .tc := ⟨.hbm, 623, rfl⟩
abbrev main_c_19 : Ref sig .tc := ⟨.hbm, 624, rfl⟩
abbrev main_v71 : Ref sig .tc := ⟨.hbm, 625, rfl⟩
abbrev main_v72 : Ref sig .tc := ⟨.hbm, 626, rfl⟩
abbrev main_v73 : Ref sig .tc := ⟨.hbm, 627, rfl⟩
abbrev main_c_20 : Ref sig .tc := ⟨.hbm, 628, rfl⟩
abbrev main_v74 : Ref sig .tc := ⟨.hbm, 629, rfl⟩
abbrev main_v75 : Ref sig .tc := ⟨.hbm, 630, rfl⟩
abbrev main_v76 : Ref sig .tc := ⟨.hbm, 631, rfl⟩
abbrev main_v77 : Ref sig .tc := ⟨.hbm, 632, rfl⟩
abbrev main_v78 : Ref sig .tc := ⟨.hbm, 633, rfl⟩
abbrev main_c_21 : Ref sig .tc := ⟨.hbm, 634, rfl⟩
abbrev main_v79 : Ref sig .tc := ⟨.hbm, 635, rfl⟩
abbrev main_v80 : Ref sig .tc := ⟨.hbm, 636, rfl⟩
abbrev main_c_22 : Ref sig .tc := ⟨.hbm, 637, rfl⟩
abbrev main_v81 : Ref sig .tc := ⟨.hbm, 638, rfl⟩
abbrev main_v82 : Ref sig .tc := ⟨.hbm, 639, rfl⟩
abbrev main_v83 : Ref sig .tc := ⟨.hbm, 640, rfl⟩
abbrev main_v84 : Ref sig .tc := ⟨.hbm, 641, rfl⟩
abbrev main_v85 : Ref sig .tc := ⟨.hbm, 642, rfl⟩
abbrev main_v86 : Ref sig .tc := ⟨.hbm, 643, rfl⟩
abbrev main_v87 : Ref sig .tc := ⟨.hbm, 644, rfl⟩
abbrev main_v88 : Ref sig .tc := ⟨.hbm, 645, rfl⟩
abbrev main_v89 : Ref sig .tc := ⟨.hbm, 646, rfl⟩
abbrev main_v90 : Ref sig .tc := ⟨.hbm, 647, rfl⟩
abbrev main_v91 : Ref sig .tc := ⟨.hbm, 648, rfl⟩
abbrev main_v92 : Ref sig .tc := ⟨.hbm, 649, rfl⟩
abbrev main_v93 : Ref sig .tc := ⟨.hbm, 650, rfl⟩
abbrev main_v94 : Ref sig .tc := ⟨.hbm, 651, rfl⟩
abbrev main_cst_23 : Ref sig .tc := ⟨.hbm, 652, rfl⟩
abbrev main_v95 : Ref sig .tc := ⟨.hbm, 653, rfl⟩
abbrev main_v96 : Ref sig .tc := ⟨.hbm, 654, rfl⟩
abbrev main_cst_24 : Ref sig .tc := ⟨.hbm, 655, rfl⟩
abbrev main_call4_v0 : Ref sig .tc := ⟨.hbm, 656, rfl⟩
abbrev main_call4_v1 : Ref sig .tc := ⟨.hbm, 657, rfl⟩
abbrev main_v97 : Ref sig .tc := ⟨.hbm, 658, rfl⟩
abbrev main_cst_25 : Ref sig .tc := ⟨.hbm, 659, rfl⟩
abbrev main_v98 : Ref sig .tc := ⟨.hbm, 660, rfl⟩
abbrev main_v99 : Ref sig .tc := ⟨.hbm, 661, rfl⟩
abbrev main_v100 : Ref sig .tc := ⟨.hbm, 662, rfl⟩
abbrev main_v101 : Ref sig .tc := ⟨.hbm, 663, rfl⟩
abbrev main_v102 : Ref sig .tc := ⟨.hbm, 664, rfl⟩
abbrev main_cst_26 : Ref sig .tc := ⟨.hbm, 665, rfl⟩
abbrev main_v103 : Ref sig .tc := ⟨.hbm, 666, rfl⟩
abbrev main_v104 : Ref sig .tc := ⟨.hbm, 667, rfl⟩
abbrev main_v105 : Ref sig .tc := ⟨.hbm, 668, rfl⟩
abbrev main_v106 : Ref sig .tc := ⟨.hbm, 669, rfl⟩
abbrev main_v107 : Ref sig .tc := ⟨.hbm, 670, rfl⟩
abbrev main_v108 : Ref sig .tc := ⟨.hbm, 671, rfl⟩
abbrev main_v109 : Ref sig .tc := ⟨.hbm, 672, rfl⟩
abbrev main_v110 : Ref sig .tc := ⟨.hbm, 673, rfl⟩
abbrev main_v111 : Ref sig .tc := ⟨.hbm, 674, rfl⟩

abbrev nD : Nat := 1
abbrev τ : Topo := Topo.v7x

variable {F : FTy → Type} [FloatOps F]
-- ==== Proof.Line.lean ====
/- Straight lines of host operations whose results are numbered one after another: what one line writes, what it reads,
   and what a buffer holds at the end. -/
module

public import Idealize.ShloMosaic.Lib.StableHlo.Run
public import Idealize.ShloMosaic.Lib.StableHlo.RunHlo

@[expose] public section

noncomputable section

namespace Cert.Line

open Idealize.ShloMosaic Idealize.ShloMosaic.StableHlo Idealize.SL.Sem

variable {nD : Nat} {τ : Topo} {sig : RefSig} {Val : EltTy → Type} {Λ : Labels}

/-- A buffer of the device's main memory whose number is `n`. -/
def Numbered (r : Ref sig .tc) (n : ℕ) : Prop := r.space = .hbm ∧ r.idx.val = n

/-- A buffer of the device's main memory whose number is less than `n`. -/
def Before (r : Ref sig .tc) (n : ℕ) : Prop := r.space = .hbm ∧ r.idx.val < n

instance (r : Ref sig .tc) (n : ℕ) : Decidable (Before r n) := inferInstanceAs (Decidable (_ ∧ _))

/-- The operations write, one each, the buffers `k`, `k + 1`, …, `K - 1`, and touch the TensorCore's buffers only. -/
inductive Line : ℕ → ℕ → List (HloOp τ sig Val) → Prop
  | nil (k : ℕ) : Line k k []
  | cons {k K : ℕ} {op : HloOp τ sig Val} {ops : List (HloOp τ sig Val)} (y : Ref sig .tc) (n : Numbered y k)
      (w : op.writes = {Proc.devRef .tc y}) (b : op.bufs ⊆ tcRefs τ sig) (f : op.fresh = ∅) (t : Line (k + 1) K ops) : Line k K (op :: ops)

namespace Line

variable {k j K : ℕ} {ops l₁ l₂ : List (HloOp τ sig Val)}

theorem append (h₁ : Line k j l₁) (h₂ : Line j K l₂) : Line k K (l₁ ++ l₂) := by
  induction h₁ with
  | nil k => exact h₂
  | cons y n w b f t ih => exact .cons y n w b f (ih h₂)

theorem bufs_sub (h : Line k K ops) : ops.Forall fun op => op.bufs ⊆ tcRefs τ sig := by
  rw [List.forall_iff_forall_mem]
  induction h with
  | nil k => exact fun _ h => absurd h List.not_mem_nil
  | cons y n w b f t ih =>
    intro o ho
    rcases List.mem_cons.1 ho with rfl | ho
    · exact b
    · exact ih o ho

theorem fresh (h : Line k K ops) : ∀ op ∈ ops, op.fresh = ∅ := by
  induction h with
  | nil k => exact fun _ h => absurd h List.not_mem_nil
  | cons y n w b f t ih =>
    intro o ho
    rcases List.mem_cons.1 ho with rfl | ho
    · exact f
    · exact ih o ho

/-- A buffer with a smaller number is left as it is. -/
theorem keep (h : Line k K ops) (V : Valuation τ sig Val) {r : Ref sig .tc} (hr : Before r k) :
    after ops V (Proc.devRef .tc r) = V (Proc.devRef .tc r) := by
  induction h generalizing V with
  | nil k => rfl
  | cons y n w b f t ih =>
    rw [after_cons, ih _ ⟨hr.1, Nat.lt_succ_of_lt hr.2⟩]
    refine HloOp.result_of_not_mem _ _ ?_
    rw [w, Finset.mem_singleton]
    refine fun e => ?_
    obtain rfl := Proc.devRef_injective _ e
    exact absurd n.2 (Nat.ne_of_lt hr.2)

/-- What a line writes is there at the end, and every buffer with a smaller number is as the line finds it. -/
theorem at_end (h : Line k K ops) (V : Valuation τ sig Val) {y : Ref sig .tc} {op : HloOp τ sig Val}
    (e : ops[y.idx.val - k]? = some op) (w : op.writes = {Proc.devRef .tc y}) :
    ∃ G : Valuation τ sig Val, after ops V (Proc.devRef .tc y) = op.result G (Proc.devRef .tc y)
      ∧ ∀ r : Ref sig .tc, Before r y.idx.val → G (Proc.devRef .tc r) = after ops V (Proc.devRef .tc r) := by
  induction h generalizing V with
  | nil k => simp at e
  | @cons k K o ops z n w' b f t ih =>
    by_cases hk : y.idx.val - k = 0
    · rw [hk] at e
      obtain rfl : o = op := by simpa using e
      have hz : z = y := Proc.devRef_injective _ (Finset.singleton_injective (w'.symm.trans w))
      subst hz
      refine ⟨V, ?_, fun r hr => ?_⟩
      · rw [after_cons]
        exact t.keep _ ⟨n.1, by rw [n.2]; omega⟩
      · refine (Line.keep (.cons z n w' b f t) V ⟨hr.1, ?_⟩).symm
        rw [← n.2]
        exact hr.2
    · have e' : ops[y.idx.val - (k + 1)]? = some op := by
        rw [show y.idx.val - k = (y.idx.val - (k + 1)) + 1 by omega, List.getElem?_cons_succ] at e
        exact e
      exact ih _ e'

variable {x a b c y : Ref sig .tc}

theorem then_nullary {v : y.ty.Contents Val} {hy} (n : Numbered y k) (t : Line (k + 1) K ops) :
    Line (τ := τ) k K (StableHlo.nullary y v hy :: ops) := .cons y n rfl (nullary_bufs_sub ..) rfl t

theorem then_unary {f : x.ty.Contents Val → y.ty.Contents Val} {hx hy} (n : Numbered y k) (t : Line (k + 1) K ops) :
    Line (τ := τ) k K (StableHlo.unary x y f hx hy :: ops) := .cons y n rfl (unary_bufs_sub ..) rfl t

theorem then_binary {f : a.ty.Contents Val → b.ty.Contents Val → y.ty.Contents Val} {ha hb hy} (n : Numbered y k)
    (t : Line (k + 1) K ops) : Line (τ := τ) k K (StableHlo.binary a b y f ha hb hy :: ops) := .cons y n rfl (binary_bufs_sub ..) rfl t

theorem then_ternary {f : c.ty.Contents Val → a.ty.Contents Val → b.ty.Contents Val → y.ty.Contents Val} {hc ha hb hy} (n : Numbered y k)
    (t : Line (k + 1) K ops) : Line (τ := τ) k K (StableHlo.ternary c a b y f hc ha hb hy :: ops) :=
  .cons y n rfl (ternary_bufs_sub ..) rfl t

theorem then_nary {n : ℕ} {xs : Fin n → Ref sig .tc} {f : ((i : Fin n) → (xs i).ty.Contents Val) → y.ty.Contents Val} {hxs hy}
    (m : Numbered y k) (t : Line (k + 1) K ops) : Line (τ := τ) k K (StableHlo.nary xs y f hxs hy :: ops) :=
  .cons y m rfl (nary_bufs_sub ..) rfl t

theorem then_reshape {he hn hx hy} (n : Numbered y k) (t : Line (k + 1) K ops) :
    Line (τ := τ) k K (StableHlo.reshape (Val := Val) x y he hn hx hy :: ops) := .cons y n rfl (reshape_bufs_sub ..) rfl t

theorem nullary (h : Line k K ops) (V : Valuation τ sig Val) (y : Ref sig .tc) {v : y.ty.Contents Val} {hy}
    (e : ops[y.idx.val - k]? = some (StableHlo.nullary y v hy)) : after ops V (Proc.devRef .tc y) = v := by
  obtain ⟨G, h₁, h₂⟩ := h.at_end V e rfl
  rw [h₁, nullary_result]

theorem unary (h : Line k K ops) (V : Valuation τ sig Val) (y : Ref sig .tc) {f : x.ty.Contents Val → y.ty.Contents Val} {hx hy}
    (e : ops[y.idx.val - k]? = some (StableHlo.unary x y f hx hy)) (bx : Before x y.idx.val := by decide) :
    after ops V (Proc.devRef .tc y) = f (after ops V (Proc.devRef .tc x)) := by
  obtain ⟨G, h₁, h₂⟩ := h.at_end V e rfl
  rw [h₁, unary_result, h₂ x bx]

theorem binary (h : Line k K ops) (V : Valuation τ sig Val) (y : Ref sig .tc)
    {f : a.ty.Contents Val → b.ty.Contents Val → y.ty.Contents Val} {ha hb hy}
    (e : ops[y.idx.val - k]? = some (StableHlo.binary a b y f ha hb hy)) (ba : Before a y.idx.val := by decide)
    (bb : Before b y.idx.val := by decide) :
    after ops V (Proc.devRef .tc y) = f (after ops V (Proc.devRef .tc a)) (after ops V (Proc.devRef .tc b)) := by
  obtain ⟨G, h₁, h₂⟩ := h.at_end V e rfl
  rw [h₁, binary_result, h₂ a ba, h₂ b bb]

theorem ternary (h : Line k K ops) (V : Valuation τ sig Val) (y : Ref sig .tc)
    {f : c.ty.Contents Val → a.ty.Contents Val → b.ty.Contents Val → y.ty.Contents Val} {hc ha hb hy}
    (e : ops[y.idx.val - k]? = some (StableHlo.ternary c a b y f hc ha hb hy)) (bc : Before c y.idx.val := by decide)
    (ba : Before a y.idx.val := by decide) (bb : Before b y.idx.val := by decide) :
    after ops V (Proc.devRef .tc y)
      = f (after ops V (Proc.devRef .tc c)) (after ops V (Proc.devRef .tc a)) (after ops V (Proc.devRef .tc b)) := by
  obtain ⟨G, h₁, h₂⟩ := h.at_end V e rfl
  rw [h₁, ternary_result, h₂ c bc, h₂ a ba, h₂ b bb]

theorem nary (h : Line k K ops) (V : Valuation τ sig Val) (y : Ref sig .tc) {n : ℕ} {xs : Fin n → Ref sig .tc}
    {f : ((i : Fin n) → (xs i).ty.Contents Val) → y.ty.Contents Val} {hxs hy}
    (e : ops[y.idx.val - k]? = some (StableHlo.nary xs y f hxs hy)) (bx : ∀ i, Before (xs i) y.idx.val := by decide) :
    after ops V (Proc.devRef .tc y) = f fun i => after ops V (Proc.devRef .tc (xs i)) := by
  obtain ⟨G, h₁, h₂⟩ := h.at_end V e rfl
  rw [h₁, nary_result]
  exact congrArg f (funext fun i => h₂ (xs i) (bx i))

theorem reshape (h : Line k K ops) (V : Valuation τ sig Val) (y : Ref sig .tc) {he hn hx hy}
    (e : ops[y.idx.val - k]? = some (StableHlo.reshape x y he hn hx hy)) (bx : Before x y.idx.val := by decide) :
    after ops V (Proc.devRef .tc y) = fun i => he ▸ shapeCast y.ty.shape (after ops V (Proc.devRef .tc x)) hn i := by
  obtain ⟨G, h₁, h₂⟩ := h.at_end V e rfl
  rw [h₁, reshape_result, h₂ x bx]

end Line

/-! ### Reading the operations off a program with calls -/

variable {p q : Prog (TpuEff nD τ sig Val Λ .tc) PUnit} {l₁ l₂ : List (HloOp τ sig Val)}

/-- One straight line and then another is the straight line of both. -/
theorem seq_then (h₁ : IsSeq p l₁) (h₂ : IsSeq q l₂) : IsSeq (p >>= fun _ => q) (l₁ ++ l₂) := by
  unfold IsSeq at *
  rw [h₁, h₂, seq_append]

end Cert.Line
-- ==== Proof.RefLine.lean ====
/- The reference as a straight line: its operations in order, those of the functions it calls where it calls them, and what a
   run leaves in every buffer. -/
module

public import proofs.«01_k».proof.Proof.Gen.ReferenceIdeal
public import proofs.«01_k».proof.Proof.Line

@[expose] public section

set_option maxRecDepth 16384

noncomputable section

namespace Cert.RefLine

open Cert.ReferenceIdeal Cert.ReferenceIdeal.Gen Idealize.ShloMosaic Idealize.ShloMosaic.TcCoe Idealize.ShloMosaic.StableHlo Idealize.SL.Sem Cert.Line

variable {F : FTy → Type} [FloatOps F]

/-- The operations of a program, with the proof that the program runs these in order. -/
abbrev Ops (p : Prog (TpuEff nD τ sig (Elt F) (Pipeline.Sig Λ₀ (Fin 0) fun p => (pcfgs (F := F) p).Adm) .tc) PUnit) : Type :=
  {ops : List (HloOp τ sig (Elt F)) // IsSeq p ops}

/-! ### The hash of one word pair -/

section
variable (a b : TRef sig ⟨S_, .i32⟩) (c d : TRef sig ⟨S1, .i32⟩) (φ : fn_threefry2x32.Bufs)

def hash₀ : Ops (F := F) (fn_threefry2x32.body_part0 a b c d φ) := by
  apply Subtype.mk
  unfold fn_threefry2x32.body_part0
  hlo_seq

def hash₁ : Ops (F := F) (fn_threefry2x32.body_part1 a b c d φ) := by
  apply Subtype.mk
  unfold fn_threefry2x32.body_part1
  hlo_seq

def hash₂ : Ops (F := F) (fn_threefry2x32.body_part2 a b c d φ) := by
  apply Subtype.mk
  unfold fn_threefry2x32.body_part2
  hlo_seq

def hash₃ : Ops (F := F) (fn_threefry2x32.body_part3 a b c d φ) := by
  apply Subtype.mk
  unfold fn_threefry2x32.body_part3
  hlo_seq

def hash : Ops (F := F) (fn_threefry2x32.body a b c d φ) :=
  ⟨_, seq_then (hash₀ a b c d φ).2 (seq_then (hash₁ a b c d φ).2 (seq_then (hash₂ a b c d φ).2 (hash₃ a b c d φ).2))⟩

end

/-! ### The same hash of the words of a whole array -/

section
variable (a b : TRef sig ⟨S_, .i32⟩) (c d : TRef sig ⟨S1x16x11x2048, .i32⟩) (φ : fn_threefry2x32_0.Bufs)

def hashes₀ : Ops (F := F) (fn_threefry2x32_0.body_part0 a b c d φ) := by
  apply Subtype.mk
  unfold fn_threefry2x32_0.body_part0
  hlo_seq

def hashes₁ : Ops (F := F) (fn_threefry2x32_0.body_part1 a b c d φ) := by
  apply Subtype.mk
  unfold fn_threefry2x32_0.body_part1
  hlo_seq

def hashes₂ : Ops (F := F) (fn_threefry2x32_0.body_part2 a b c d φ) := by
  apply Subtype.mk
  unfold fn_threefry2x32_0.body_part2
  hlo_seq

def hashes₃ : Ops (F := F) (fn_threefry2x32_0.body_part3 a b c d φ) := by
  apply Subtype.mk
  unfold fn_threefry2x32_0.body_part3
  hlo_seq

def hashes : Ops (F := F) (fn_threefry2x32_0.body a b c d φ) :=
  ⟨_, seq_then (hashes₀ a b c d φ).2 (seq_then (hashes₁ a b c d φ).2 (seq_then (hashes₂ a b c d φ).2 (hashes₃ a b c d φ).2))⟩

end

/-! ### The functions that the reference calls -/

/-- The key with a number folded in. -/
def foldIn (a : TRef sig ⟨S2, .i32⟩) (b : TRef sig ⟨S_, .i32⟩) (φ : fn_threefry_fold_in.Bufs) : Ops (F := F) (fn_threefry_fold_in.body a b φ) := by
  apply Subtype.mk
  unfold fn_threefry_fold_in.body
  iterate 13 apply IsSeq.cons
  apply seq_then (hash _ _ _ _ _).2
  hlo_seq

/-- The uniform draws of a key. -/
def uniform (a : TRef sig ⟨S2, .i32⟩) (b c : TRef sig ⟨S_, .f32⟩) (φ : fn_uniform.Bufs) : Ops (F := F) (fn_uniform.body a b c φ) := by
  apply Subtype.mk
  unfold fn_uniform.body
  iterate 32 apply IsSeq.cons
  apply seq_then (hashes _ _ _ _ _).2
  hlo_seq

def choose (a : TRef sig ⟨S2048, .i1⟩) (b c : TRef sig ⟨S2048, .i32⟩) (φ : fn_where.Bufs) : Ops (F := F) (fn_where.body a b c φ) := by
  apply Subtype.mk
  unfold fn_where.body
  hlo_seq

def floorDivide (a : TRef sig ⟨S2048, .i32⟩) (b : TRef sig ⟨S_, .i32⟩) (φ : fn_floor_divide.Bufs) : Ops (F := F) (fn_floor_divide.body a b φ) := by
  apply Subtype.mk
  unfold fn_floor_divide.body
  iterate 16 apply IsSeq.cons
  apply seq_then (choose _ _ _ _).2
  hlo_seq

def oneHot (a : TRef sig ⟨S2048, .i32⟩) (φ : fn_one_hot.Bufs) : Ops (F := F) (fn_one_hot.body a φ) := by
  apply Subtype.mk
  unfold fn_one_hot.body
  hlo_seq

def hideOff (a : TRef sig ⟨S1x16x2048x2048, .i1⟩) (b : TRef sig ⟨S1x16x2048x2048, .f32⟩) (c : TRef sig ⟨S_, .f32⟩) (φ : fn_where_1.Bufs) :
    Ops (F := F) (fn_where_1.body a b c φ) := by
  apply Subtype.mk
  unfold fn_where_1.body
  hlo_seq

/-! ### The whole line -/

/-- From the arguments to the words of the first three coordinates of the scatter. -/
def scores (d : Dev nD) : Ops (F := F) (main_part0 d) := by
  apply Subtype.mk
  unfold main_part0
  iterate 20 apply IsSeq.cons
  apply seq_then (floorDivide _ _ _).2
  apply seq_then (oneHot _ _).2
  hlo_seq

/-- To the masks. -/
def masks (d : Dev nD) : Ops (F := F) (main_part1 d) := by
  apply Subtype.mk
  unfold main_part1
  iterate 24 apply IsSeq.cons
  apply seq_then (foldIn _ _ _).2
  iterate 2 apply IsSeq.cons
  apply seq_then (uniform _ _ _ _).2
  hlo_seq

/-- To the result. -/
def outputs (d : Dev nD) : Ops (F := F) (main_part2 d) := by
  apply Subtype.mk
  unfold main_part2
  iterate 6 apply IsSeq.cons
  apply seq_then (hideOff _ _ _ _).2
  hlo_seq

/-- The reference's operations in order. -/
def ops : List (HloOp τ sig (Elt F)) := (scores 0).1 ++ ((masks 0).1 ++ (outputs 0).1)

theorem main_ops (d : Dev nD) : IsSeq (main (F := F) d) ops := by
  obtain rfl : d = 0 := Subsingleton.elim _ _
  exact seq_then (scores 0).2 (seq_then (masks 0).2 (outputs 0).2)

end Cert.RefLine
-- ==== Proof.RefRun.lean ====
/- The reference's run: every buffer ends as the operations, one after another, leave it. -/
module

public import proofs.«01_k».proof.Proof.RefLine

@[expose] public section

set_option maxRecDepth 65536

noncomputable section

namespace Cert.RefRun

open Cert.ReferenceIdeal Cert.ReferenceIdeal.Gen Idealize.ShloMosaic Idealize.ShloMosaic.TcCoe Idealize.ShloMosaic.StableHlo Idealize.SL.Sem Cert.Line

variable {F : FTy → Type} [FloatOps F]

set_option maxHeartbeats 4000000 in
/-- The reference writes its buffers in the order of their numbers. -/
theorem line : Line 3 675 (RefLine.ops (F := F)) := by
  dsimp only [RefLine.ops, RefLine.scores, RefLine.masks, RefLine.outputs, RefLine.floorDivide, RefLine.choose, RefLine.oneHot, RefLine.foldIn,
    RefLine.uniform, RefLine.hideOff, RefLine.hash, RefLine.hash₀, RefLine.hash₁, RefLine.hash₂, RefLine.hash₃, RefLine.hashes,
    RefLine.hashes₀, RefLine.hashes₁, RefLine.hashes₂, RefLine.hashes₃, List.cons_append, List.nil_append]
  repeat
    with_reducible first
      | refine Line.then_nullary ?_ ?_
      | refine Line.then_unary ?_ ?_
      | refine Line.then_binary ?_ ?_
      | refine Line.then_ternary ?_ ?_
      | refine Line.then_reshape ?_ ?_
      | refine Line.then_nary ?_ ?_
    · exact ⟨rfl, rfl⟩
  exact Line.nil _

/-- What a run leaves in the device's buffers. -/
def final (m : (ℓ : Loc nD τ sig) → Buf (Elt F) ℓ) (c : Dev nD) : Valuation τ sig (Elt F) := after RefLine.ops (launchContents m c)

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v111) = final m c (Proc.devRef .tc main_v111)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨h c main_v111, (h c main_arg0).trans (line.keep _ (by decide)),
      (h c main_arg1).trans (line.keep _ (by decide)), (h c main_arg2).trans (line.keep _ (by decide))⟩)
    (run_hlo defs main RefLine.main_ops (by decide) (by decide) line.bufs_sub line.fresh m ρ)

end Cert.RefRun
-- ==== Proof.Follow.lean ====
/- Two straight lines, of two programs, that apply the same functions in the same order: buffer for buffer they compute the
   same arrays, whatever these functions are. The second may do other things before and afterwards. -/
module

public import proofs.«01_k».proof.Proof.Line

@[expose] public section

noncomputable section

namespace Cert.Follow

open Idealize.ShloMosaic Idealize.ShloMosaic.StableHlo Cert.Line

variable {τ τ' : Topo} {sig sig' : RefSig} {Val : EltTy → Type}

/-- The buffer numbered `n` in the second program, `δ` further on than in the first. -/
def Facing (lo k δ : ℕ) (x : Ref sig .tc) (x' : Ref sig' .tc) : Prop :=
  x.space = .hbm ∧ x'.space = .hbm ∧ lo ≤ x.idx.val ∧ x.idx.val < k ∧ x'.idx.val = x.idx.val + δ

instance (lo k δ : ℕ) (x : Ref sig .tc) (x' : Ref sig' .tc) : Decidable (Facing lo k δ x x') := inferInstanceAs (Decidable (_ ∧ _ ∧ _ ∧ _ ∧ _))

/-- Facing buffers hold the same array. -/
def Agree (lo k δ : ℕ) (V : Valuation τ sig Val) (V' : Valuation τ' sig' Val) : Prop :=
  ∀ (x : Ref sig .tc) (x' : Ref sig' .tc), Facing lo k δ x x' → HEq (V (Proc.devRef .tc x)) (V' (Proc.devRef .tc x'))

/-- Buffers of one space and one number are one buffer. -/
theorem ref_eq {s : RefSig} {x y : Ref s .tc} (h : x.space = y.space) (i : x.idx.val = y.idx.val) : x = y := by
  obtain ⟨sp, n, hn⟩ := x
  obtain ⟨sp', n', hn'⟩ := y
  obtain rfl : sp = sp' := h
  obtain rfl : n = n' := Fin.ext i
  rfl

/-- The lines of the first program, each with the line of the second that applies the same function to the facing buffers;
    the second program's other lines write outside the facing buffers. -/
inductive Follow (lo δ K : ℕ) : ℕ → List (HloOp τ sig Val) → List (HloOp τ' sig' Val) → Prop
  | nil : Follow lo δ K K [] []
  | other {k : ℕ} {op' : HloOp τ' sig' Val} {l : List (HloOp τ sig Val)} {l' : List (HloOp τ' sig' Val)} (y' : Ref sig' .tc)
      (n : y'.idx.val < lo + δ ∨ K + δ ≤ y'.idx.val) (w : op'.writes = {Proc.devRef .tc y'}) (t : Follow lo δ K k l l') :
      Follow lo δ K k l (op' :: l')
  | both {k : ℕ} {op : HloOp τ sig Val} {op' : HloOp τ' sig' Val} {l : List (HloOp τ sig Val)} {l' : List (HloOp τ' sig' Val)}
      (y : Ref sig .tc) (y' : Ref sig' .tc) (n : Numbered y k) (n' : Numbered y' (k + δ)) (w : op.writes = {Proc.devRef .tc y})
      (w' : op'.writes = {Proc.devRef .tc y'})
      (s : ∀ (V : Valuation τ sig Val) (V' : Valuation τ' sig' Val), Agree lo k δ V V' →
        HEq (op.result V (Proc.devRef .tc y)) (op'.result V' (Proc.devRef .tc y')))
      (t : Follow lo δ K (k + 1) l l') : Follow lo δ K k (op :: l) (op' :: l')

namespace Follow

variable {lo δ K k : ℕ} {l : List (HloOp τ sig Val)} {l' : List (HloOp τ' sig' Val)}

theorem le (h : Follow lo δ K k l l') : k ≤ K := by
  induction h with
  | nil => exact le_refl _
  | other y' n w t ih => exact ih
  | both y y' n n' w w' s t ih => omega

/-- An operation leaves the buffers that it does not write. -/
theorem untouched {τ : Topo} {s : RefSig} {op : HloOp τ s Val} {y : Ref s .tc} (w : op.writes = {Proc.devRef .tc y}) (V : Valuation τ s Val)
    {x : Ref s .tc} (h : x.idx.val ≠ y.idx.val) : op.result V (Proc.devRef .tc x) = V (Proc.devRef .tc x) := by
  refine HloOp.result_of_not_mem _ _ ?_
  rw [w, Finset.mem_singleton]
  intro e
  obtain rfl := Proc.devRef_injective _ e
  exact h rfl

/-- At the end every facing pair of buffers agrees. -/
theorem agree (h : Follow lo δ K k l l') (V : Valuation τ sig Val) (V' : Valuation τ' sig' Val) (a : Agree lo k δ V V') :
    Agree lo K δ (after l V) (after l' V') := by
  induction h generalizing V V' with
  | nil => exact a
  | @other k op' l l' y' n w t ih =>
    refine ih V (op'.result V') fun x x' q => ?_
    have hk := t.le
    obtain ⟨_, _, f₁, f₂, f₃⟩ := id q
    rw [untouched w V' (x := x') (by omega)]
    exact a x x' q
  | @both k op op' l l' y y' n n' w w' s t ih =>
    refine ih _ _ fun x x' f => ?_
    obtain ⟨f₁, f₂, f₃, f₄, f₅⟩ := f
    by_cases hx : x.idx.val = k
    · obtain rfl : x = y := ref_eq (f₁.trans n.1.symm) (hx.trans n.2.symm)
      obtain rfl : x' = y' := ref_eq (f₂.trans n'.1.symm) (by rw [n'.2]; omega)
      exact s V V' a
    · rw [untouched w V (x := x) (by rw [n.2]; omega), untouched w' V' (x := x') (by rw [n'.2]; omega)]
      exact a x x' ⟨f₁, f₂, f₃, by omega, f₅⟩

variable {x a b y : Ref sig .tc} {x' a' b' y' : Ref sig' .tc}

theorem nullary {v : y.ty.Contents Val} {v' : y'.ty.Contents Val} {hy hy'} (n : Numbered y k ∧ Numbered y' (k + δ)) (s : HEq v v')
    (t : Follow lo δ K (k + 1) l l') :
    Follow (τ := τ) (τ' := τ') lo δ K k (StableHlo.nullary y v hy :: l) (StableHlo.nullary y' v' hy' :: l') :=
  .both y y' n.1 n.2 rfl rfl (fun V V' _ => by rw [nullary_result, nullary_result]; exact s) t

theorem unary {f : x.ty.Contents Val → y.ty.Contents Val} {f' : x'.ty.Contents Val → y'.ty.Contents Val} {hx hy hx' hy'}
    (n : Numbered y k ∧ Numbered y' (k + δ)) (r : Facing lo k δ x x') (s : ∀ u u', HEq u u' → HEq (f u) (f' u'))
    (t : Follow lo δ K (k + 1) l l') :
    Follow (τ := τ) (τ' := τ') lo δ K k (StableHlo.unary x y f hx hy :: l) (StableHlo.unary x' y' f' hx' hy' :: l') :=
  .both y y' n.1 n.2 rfl rfl (fun V V' g => by rw [unary_result, unary_result]; exact s _ _ (g x x' r)) t

theorem binary {f : a.ty.Contents Val → b.ty.Contents Val → y.ty.Contents Val}
    {f' : a'.ty.Contents Val → b'.ty.Contents Val → y'.ty.Contents Val} {ha hb hy ha' hb' hy'}
    (n : Numbered y k ∧ Numbered y' (k + δ)) (r : Facing lo k δ a a' ∧ Facing lo k δ b b')
    (s : ∀ u u' v v', HEq u u' → HEq v v' → HEq (f u v) (f' u' v')) (t : Follow lo δ K (k + 1) l l') :
    Follow (τ := τ) (τ' := τ') lo δ K k (StableHlo.binary a b y f ha hb hy :: l) (StableHlo.binary a' b' y' f' ha' hb' hy' :: l') :=
  .both y y' n.1 n.2 rfl rfl
    (fun V V' g => by rw [binary_result, binary_result]; exact s _ _ _ _ (g a a' r.1) (g b b' r.2)) t

theorem reshape {he : x.ty.elt = y.ty.elt} {hn hx hy} {he' : x'.ty.elt = y'.ty.elt} {hn' hx' hy'} (n : Numbered y k ∧ Numbered y' (k + δ)) (r : Facing lo k δ x x')
    (s : ∀ (u : x.ty.Contents Val) (u' : x'.ty.Contents Val), HEq u u' →
      HEq (fun i => (he ▸ shapeCast y.ty.shape u hn i : Val y.ty.elt)) (fun i => (he' ▸ shapeCast y'.ty.shape u' hn' i : Val y'.ty.elt)))
    (t : Follow lo δ K (k + 1) l l') :
    Follow (τ := τ) (τ' := τ') lo δ K k (StableHlo.reshape (Val := Val) x y he hn hx hy :: l)
      (StableHlo.reshape (Val := Val) x' y' he' hn' hx' hy' :: l') :=
  .both y y' n.1 n.2 rfl rfl (fun V V' g => by rw [reshape_result, reshape_result]; exact s _ _ (g x x' r)) t

end Follow

/-- One function at equal arguments. -/
theorem same₁ {α β : Type} (f : α → β) {u u' : α} (h : HEq u u') : HEq (f u) (f u') := by
  obtain rfl := eq_of_heq h
  rfl

theorem same₂ {α β γ : Type} (f : α → β → γ) {u u' : α} {v v' : β} (h : HEq u u') (g : HEq v v') : HEq (f u v) (f u' v') := by
  obtain rfl := eq_of_heq h
  obtain rfl := eq_of_heq g
  rfl

end Cert.Follow
-- ==== Proof.Draws.lean ====
/- The uniform draws: the kernel's host code and the reference make them by the same lines. -/
module

public import proofs.«01_k».proof.Proof.Gen.KernelIdeal.Launch
public import proofs.«01_k».proof.Proof.RefRun
public import proofs.«01_k».proof.Proof.Follow

@[expose] public section

set_option maxRecDepth 65536

noncomputable section

namespace Cert.Draws

open Idealize.ShloMosaic Idealize.ShloMosaic.StableHlo Cert.Line Cert.Follow

variable {F : FTy → Type} [FloatOps F]

/-- The kernel's lines up to the draws. -/
def ops : List (HloOp KernelIdeal.τ KernelIdeal.sig (Elt F)) :=
  KernelIdeal.Gen.hostOps0 ++ (KernelIdeal.Gen.hostOps0_1 ++ (KernelIdeal.Gen.hostOps0_2 ++ KernelIdeal.Gen.hostOps0_3))

set_option maxHeartbeats 8000000 in
/-- Line by line the reference applies the functions that the kernel's host code applies. -/
theorem follow : Follow 3 94 524 3 ops (RefLine.ops (F := F)) := by
  dsimp only [RefLine.ops, RefLine.scores, RefLine.masks, RefLine.outputs, RefLine.floorDivide, RefLine.choose, RefLine.oneHot, RefLine.foldIn,
    RefLine.uniform, RefLine.hideOff, RefLine.hash, RefLine.hash₀, RefLine.hash₁, RefLine.hash₂, RefLine.hash₃, RefLine.hashes,
    RefLine.hashes₀, RefLine.hashes₁, RefLine.hashes₂, RefLine.hashes₃, List.cons_append, List.nil_append, ops,
    KernelIdeal.Gen.hostOps0, KernelIdeal.Gen.hostOps0_1, KernelIdeal.Gen.hostOps0_2, KernelIdeal.Gen.hostOps0_3]
  iterate 94
    refine Follow.other _ ?_ rfl ?_
    · decide
  iterate 521
    with_reducible first
      | refine Follow.nullary ?_ ?_ ?_
      | refine Follow.unary ?_ ?_ ?_ ?_
      | refine Follow.binary ?_ ?_ ?_ ?_
      | refine Follow.reshape ?_ ?_ ?_ ?_
    · exact ⟨⟨rfl, rfl⟩, rfl, rfl⟩
    first
      | exact HEq.rfl
      | skip
        · decide
        first
          | exact fun _ _ h => same₁ _ h
          | exact fun _ _ _ _ h g => same₂ _ h g
          | intro u u' h
            obtain rfl := eq_of_heq h
            rfl
          | intro u u' v v' h g
            obtain rfl := eq_of_heq h
            obtain rfl := eq_of_heq g
            rfl
  iterate 57
    refine Follow.other _ ?_ rfl ?_
    · decide
  exact Follow.nil

set_option maxHeartbeats 4000000 in
/-- The kernel's lines write their buffers in the order of their numbers. -/
theorem line : Line 3 524 (ops (F := F)) := by
  dsimp only [ops, KernelIdeal.Gen.hostOps0, KernelIdeal.Gen.hostOps0_1, KernelIdeal.Gen.hostOps0_2, KernelIdeal.Gen.hostOps0_3,
    List.cons_append, List.nil_append]
  repeat
    with_reducible first
      | refine Line.then_nullary ?_ ?_
      | refine Line.then_unary ?_ ?_
      | refine Line.then_binary ?_ ?_
      | refine Line.then_reshape ?_ ?_
    · exact ⟨rfl, rfl⟩
  exact Line.nil _

/-- The two programs draw the same array. -/
theorem same (V : Valuation KernelIdeal.τ KernelIdeal.sig (Elt F)) (V' : Valuation ReferenceIdeal.τ ReferenceIdeal.sig (Elt F)) :
    (after ops V (Proc.devRef .tc KernelIdeal.main_v8) : Vec F KernelIdeal.S1x16x11x2048 .f32)
      = after RefLine.ops V' (Proc.devRef .tc ReferenceIdeal.main_v65) :=
  eq_of_heq (follow.agree V V' (fun x x' q => absurd q.2.2.2.1 (Nat.not_lt.2 q.2.2.1)) KernelIdeal.main_v8 ReferenceIdeal.main_v65 (by decide))

end Cert.Draws
-- ==== Proof.Words.lean ====
/- 32-bit words that hold small naturals: the comparisons, the shift, the counts and the maximum that the selection is
   made of. -/
module

public import Idealize.ShloMosaic.Lib.Pointwise
public import Idealize.ShloMosaic.Lib.WordCmp
public import Idealize.ShloMosaic.Lib.IndicatorCount
public import Idealize.ShloMosaic.Lib.SortNet.Extract

@[expose] public section

namespace Cert.Words

open Idealize.ShloMosaic Idealize.ShloMosaic.WordCmp Idealize.ShloMosaic.IndicatorCount Finset

theorem toInt_small {a : ℕ} (h : a < 2 ^ 31) : (BitVec.ofNat 32 a).toInt = (a : ℤ) := toInt_ofNat_of_lt (w := 32) h

/-- The word one below that of `a`, read signed. -/
theorem toInt_pred {a : ℕ} (h : a < 2 ^ 31) : (BitVec.ofNat 32 a + 4294967295#32).toInt = (a : ℤ) - 1 := by
  rw [BitVec.toInt_add, toInt_small h, show (4294967295#32 : BitVec 32).toInt = -1 by decide, Int.bmod_eq_of_le] <;> omega

theorem sge_small {a b : ℕ} (ha : a < 2 ^ 31) (hb : b < 2 ^ 31) :
    IntOp.cmpi .sge (BitVec.ofNat 32 a) (BitVec.ofNat 32 b) = BitVec.ofBool (decide (b ≤ a)) := by
  rw [cmpi_sge_eq, toInt_small ha, toInt_small hb]
  congr 1; exact decide_eq_decide.2 Int.ofNat_le

theorem slt_small {a b : ℕ} (ha : a < 2 ^ 31) (hb : b < 2 ^ 31) :
    IntOp.cmpi .slt (BitVec.ofNat 32 a) (BitVec.ofNat 32 b) = BitVec.ofBool (decide (a < b)) := by
  rw [cmpi_slt_eq, toInt_small ha, toInt_small hb]
  congr 1; exact decide_eq_decide.2 Int.ofNat_lt

theorem eq_small {a b : ℕ} (ha : a < 2 ^ 31) (hb : b < 2 ^ 31) :
    IntOp.cmpi .eq (BitVec.ofNat 32 a) (BitVec.ofNat 32 b) = BitVec.ofBool (decide (a = b)) := by
  rw [cmpi_eq_eq]
  congr 1; exact decide_eq_decide.2 (ofNat_eq_ofNat_iff (by omega) (by omega))

/-- At most one below `b` is below `b`. -/
theorem sle_pred {a b : ℕ} (ha : a < 2 ^ 31) (hb : b < 2 ^ 31) :
    IntOp.cmpi .sle (BitVec.ofNat 32 a) (BitVec.ofNat 32 b + 4294967295#32) = BitVec.ofBool (decide (a < b)) := by
  rw [cmpi_sle_eq, toInt_small ha, toInt_pred hb]
  congr 1; exact decide_eq_decide.2 (by omega)

/-- The arithmetic shift by four is the division by sixteen. -/
theorem shr4 {a : ℕ} (h : a < 2 ^ 31) : IntOp.shrsi .vector (BitVec.ofNat 32 a) 4#32 = BitVec.ofNat 32 (a / 16) := by
  unfold IntOp.shrsi
  rw [if_pos (by decide)]
  apply BitVec.eq_of_toInt_eq
  rw [show (BitVec.ofNat 32 a).sshiftRight' 4#32 = (BitVec.ofNat 32 a).sshiftRight 4 from rfl, BitVec.toInt_sshiftRight,
    toInt_small h, toInt_small (by omega), Int.shiftRight_eq_div_pow]
  norm_cast

/-- Sums of bits are counts. -/
theorem count_bits {n : ℕ} (b : Fin n → BitVec 1) (p : Fin n → Prop) [DecidablePred p]
    (h : ∀ x, b x = BitVec.ofBool (decide (p x))) :
    univ.fold IntOp.addi 0#32 (fun x => BitVec.setWidth 32 (b x)) = BitVec.ofNat 32 (univ.filter p).card := by
  rw [fold_addi_setWidth_eq_card]
  congr 2
  ext x
  simp [h x, ofBool_decide_eq_one_iff]

/-- The signed maximum of words that hold small naturals, one of them and none above it. -/
theorem max_small {n : ℕ} (hn : 0 < n) (b : Fin n → BitVec 32) (K : Fin n → ℕ) (h : ∀ x, b x = BitVec.ofNat 32 (K x))
    (hK : ∀ x, K x < 2 ^ 31) :
    ∃ M : ℕ, univ.fold IntOp.maxsi 2147483648#32 b = BitVec.ofNat 32 M ∧ (∀ x, K x ≤ M) ∧ ∃ x, M = K x := by
  obtain ⟨_, h2, h3⟩ := SortNet.fold_maxsi_spec b univ 2147483648#32
  have hx : ∃ x, univ.fold IntOp.maxsi 2147483648#32 b = b x := by
    rcases h3 with h3 | ⟨x, _, h3⟩
    · have := h2 ⟨0, hn⟩ (mem_univ _)
      rw [h3, h, toInt_small (hK _), show (2147483648#32 : BitVec 32).toInt = -2147483648 by decide] at this
      omega
    · exact ⟨x, h3⟩
  obtain ⟨x, hx⟩ := hx
  refine ⟨K x, by rw [hx, h], fun y => ?_, x, rfl⟩
  have := h2 y (mem_univ _)
  rw [hx, h, h, toInt_small (hK _), toInt_small (hK _)] at this
  omega

theorem or_bit (p q : Prop) [Decidable p] [Decidable q] :
    IntOp.ori (BitVec.ofBool (decide p)) (BitVec.ofBool (decide q)) = BitVec.ofBool (decide (p ∨ q)) := by
  rw [ori_ofBool]; congr 1; simp

theorem and_bit (p q : Prop) [Decidable p] [Decidable q] :
    IntOp.andi (BitVec.ofBool (decide p)) (BitVec.ofBool (decide q)) = BitVec.ofBool (decide (p ∧ q)) := by
  rw [andi_ofBool]; congr 1; simp

/-- A bit widened to a word differs from zero where it is set. -/
theorem ne_zero_bit (b : BitVec 1) : IntOp.cmpi .ne (BitVec.setWidth 32 b) 0#32 = b := by
  revert b
  decide

end Cert.Words
-- ==== Proof.Softmax.lean ====
/- One row of attention over the extended reals: softmax weights, the output of the row, and why hiding columns before
   the softmax gives what dividing the kept weights by their own sum gives. -/
module

public import Idealize.ShloMosaic.Lib.Pointwise
public import Mathlib.Data.EReal.Operations
public import Mathlib.Data.EReal.Inv

@[expose] public section

noncomputable section

namespace Cert.Softmax

open Idealize.ShloMosaic Finset

variable {n : ℕ}

/-- The value both programs start a maximum from, which is also what the reference writes over a hidden logit. -/
def bottom : EReal := Ideal.ofBits .f32 4286578688#32

theorem bottom_eq : bottom = ⊥ := by simp [bottom, Ideal.ofBits, Ideal.ieee]

/-- The largest logit of a row. -/
def top (x : Fin n → EReal) : EReal := univ.fold max bottom x

/-- The unnormalised weight of a column. -/
def weight (x : Fin n → EReal) (c : Fin n) : EReal := Ideal.exp (x c - top x)

/-- The sum of the weights of a row. -/
def total (x : Fin n → EReal) : EReal := ∑ c, weight x c

/-- The probability of a column. -/
def prob (x : Fin n → EReal) (c : Fin n) : EReal := Ideal.div (weight x c) (total x)

/-- The output of a row: the weighted sum of `v` over the sum of the weights. -/
def attend (x v : Fin n → EReal) : EReal := Ideal.div (∑ c, weight x c * v c) (total x)

/-- The row with the logits off the mask hidden. -/
def hide (m : Fin n → BitVec 1) (x : Fin n → EReal) (c : Fin n) : EReal := Scalar.select (m c) (x c) bottom

/-- The weights on the mask, of the whole row's softmax, applied to `v` and divided by their own sum. -/
def kept (m : Fin n → BitVec 1) (x v : Fin n → EReal) : EReal :=
  Ideal.div (∑ c, Scalar.select (m c) (weight x c * v c) 0) (∑ c, Scalar.select (m c) (weight x c) 0)

theorem le_top (x : Fin n → EReal) (c : Fin n) : x c ≤ top x := (le_fold_max _).2 (Or.inr ⟨c, mem_univ _, le_rfl⟩)

theorem top_le (x : Fin n → EReal) (M : EReal) (h : ∀ c, x c ≤ M) : top x ≤ M :=
  (fold_max_le _).2 ⟨by rw [bottom_eq]; exact bot_le, fun c _ => h c⟩

theorem hide_le (m : Fin n → BitVec 1) (x : Fin n → EReal) (c : Fin n) : hide m x c ≤ x c := by
  unfold hide Scalar.select
  split
  · exact le_rfl
  · rw [bottom_eq]; exact bot_le

theorem top_hide_le (m : Fin n → BitVec 1) (x : Fin n → EReal) : top (hide m x) ≤ top x :=
  top_le _ _ fun c => (hide_le m x c).trans (le_top x c)

/-- Nothing over nothing is the bottom. -/
theorem div_zero_zero : Ideal.div 0 0 = ⊥ := by simp [Ideal.div]

/-- With weights that all vanish the output is the bottom. -/
theorem attend_zero (x v : Fin n → EReal) (h : ∀ c, weight x c = 0) : attend x v = ⊥ := by
  simp [attend, total, h, div_zero_zero]

theorem weight_top (x : Fin n → EReal) (h : top x = ⊤) (c : Fin n) : weight x c = 0 := by
  rw [weight, h, EReal.sub_top, Ideal.exp_bot]

theorem weight_bot (x : Fin n → EReal) (h : top x = ⊥) (c : Fin n) : weight x c = 0 := by
  have : x c = ⊥ := le_bot_iff.1 (h ▸ le_top x c)
  rw [weight, this, EReal.bot_sub, Ideal.exp_bot]

/-- A factor that is neither negative nor infinite comes out of a sum. -/
theorem sum_factor (a : EReal) (h0 : 0 ≤ a) (h1 : a ≠ ⊤) (f : Fin n → EReal) (s : Finset (Fin n)) :
    ∑ c ∈ s, a * f c = a * ∑ c ∈ s, f c := by
  induction s using Finset.induction_on with
  | empty => simp
  | insert c s hc ih => rw [sum_insert hc, sum_insert hc, ih, EReal.left_distrib_of_nonneg_of_ne_top h0 h1]

/-- A positive real cancels in a quotient. -/
theorem div_cancel (a : ℝ) (ha : 0 < a) (x y : EReal) : Ideal.div ((a : EReal) * x) ((a : EReal) * y) = Ideal.div x y := by
  have ha' : (0 : EReal) < (a : EReal) := EReal.coe_pos.2 ha
  unfold Ideal.div
  by_cases hy : y = 0
  · subst hy
    rw [mul_zero, if_pos rfl, if_pos rfl]
    have : 0 < (a : EReal) * x ↔ 0 < x := by
      rw [EReal.mul_pos_iff]
      constructor
      · rintro (h | h)
        · exact h.2
        · exact absurd h.1 (not_lt.2 ha'.le)
      · exact fun h => Or.inl ⟨ha', h⟩
    simp only [this]
  · rw [if_neg hy, if_neg (by simp [hy, ha'.ne']), EReal.mul_inv, mul_assoc, ← mul_assoc x, mul_comm x, mul_assoc _ x, ← mul_assoc,
      ← EReal.coe_inv, ← EReal.coe_mul, mul_inv_cancel₀ ha.ne', EReal.coe_one, one_mul]

/-- Where both maxima are real, a kept weight is the hidden row's weight times the same positive real. -/
theorem weight_hide (m : Fin n → BitVec 1) (x : Fin n → EReal) (M N : ℝ) (hM : top x = M) (hN : top (hide m x) = N) (c : Fin n) :
    Scalar.select (m c) (weight x c) 0 = (Real.exp (N - M) : EReal) * weight (hide m x) c := by
  unfold weight
  rw [hM, hN]
  unfold hide Scalar.select
  split
  · have hle : x c ≤ M := hM ▸ le_top x c
    induction h : x c with
    | bot => rw [EReal.bot_sub, EReal.bot_sub, Ideal.exp_bot, mul_zero]
    | top => rw [h] at hle; exact absurd (top_le_iff.1 hle) (EReal.coe_ne_top M)
    | coe r =>
      rw [← EReal.coe_sub, ← EReal.coe_sub, Ideal.exp_coe, Ideal.exp_coe, ← EReal.coe_mul, ← Real.exp_add]
      congr 2
      linarith
  · rw [bottom_eq, EReal.bot_sub, Ideal.exp_bot, mul_zero]

/-- The equation of a row: taking the kept weights' quotient away from the dense output is taking away the hidden row's
    own output. Where the largest logit is infinite both differences are the bottom. -/
theorem difference_eq (m : Fin n → BitVec 1) (x v : Fin n → EReal) :
    attend x v - kept m x v = attend x v - attend (hide m x) v := by
  induction hM : top x with
  | bot => rw [attend_zero x v (weight_bot x hM), EReal.bot_sub, EReal.bot_sub]
  | top => rw [attend_zero x v (weight_top x hM), EReal.bot_sub, EReal.bot_sub]
  | coe M =>
    congr 1
    have hle := top_hide_le m x
    induction hN : top (hide m x) with
    | top => rw [hN, hM] at hle; exact absurd (top_le_iff.1 hle) (EReal.coe_ne_top M)
    | bot =>
      rw [attend_zero _ v (weight_bot _ hN)]
      have hw : ∀ c, m c = 1 → weight x c = 0 := fun c hc => by
        have h1 : hide m x c = ⊥ := le_bot_iff.1 (hN ▸ le_top _ c)
        rw [hide, Scalar.select, if_pos hc] at h1
        rw [weight, h1, EReal.bot_sub, Ideal.exp_bot]
      have h1 : ∀ c, Scalar.select (m c) (weight x c * v c) 0 = 0 := fun c => by
        unfold Scalar.select; split
        · next h => rw [hw c h, zero_mul]
        · rfl
      have h2 : ∀ c, Scalar.select (m c) (weight x c) 0 = 0 := fun c => by
        unfold Scalar.select; split
        · next h => rw [hw c h]
        · rfl
      simp [kept, h1, h2, div_zero_zero]
    | coe N =>
      have hw := weight_hide m x M N hM hN
      have hpos := Real.exp_pos (N - M)
      have h1 : ∀ c, Scalar.select (m c) (weight x c * v c) 0 = (Real.exp (N - M) : EReal) * (weight (hide m x) c * v c) :=
        fun c => by
          rw [← mul_assoc, ← hw c]; unfold Scalar.select; split
          · rfl
          · rw [zero_mul]
      unfold kept attend total
      rw [sum_congr rfl fun c _ => h1 c, sum_congr rfl fun c _ => hw c, sum_factor _ (EReal.coe_nonneg.2 hpos.le) (EReal.coe_ne_top _),
        sum_factor _ (EReal.coe_nonneg.2 hpos.le) (EReal.coe_ne_top _), div_cancel _ hpos]

end Cert.Softmax
-- ==== Proof.TopK.lean ====
/- The first `k` of a stable sort by a key, largest first, as a set: the positions before which fewer than `k` others
   come, where the larger key comes first and of two equal keys the one to the left. -/
module

public import Idealize.ShloMosaic.Lib.SortPrefix
public import Mathlib.Data.Fintype.Card

@[expose] public section

namespace Cert.TopK

open Idealize.ShloMosaic Finset

variable {α : Type} [LinearOrder α] {n : ℕ}

/-- The larger key sorts first. -/
def larger (x : Fin n → α) (a b : Fin n) : Bool := decide (x b < x a)

/-- The larger key sorts first, and of two equal ones the one to the left. -/
def ahead (x : Fin n → α) (a b : Fin n) : Bool := decide (x b < x a) || (decide (x a = x b) && decide (a < b))

/-- How many positions come before `c`. -/
def rank (x : Fin n → α) (c : Fin n) : ℕ := (univ.filter fun c' => x c < x c' ∨ (x c' = x c ∧ c'.val < c.val)).card

theorem ahead_total (x : Fin n → α) : StrictTotalBefore (ahead x) :=
  StrictTotalBefore.of_key_then_position (fun a b : α => decide (b < a)) x (by simp)
    (by simp only [decide_eq_true_eq]; exact fun a b c h1 h2 => lt_trans h2 h1)
    (by simp only [decide_eq_true_eq]; intro a b; rcases lt_trichotomy a b with h | h | h <;> simp [h])

/-- Sorting by the key alone, stably, is sorting by the key and then the position. -/
theorem stableSort_larger (x : Fin n → α) (l : List (Fin n)) (hl : l.Pairwise (· < ·)) :
    stableSort (larger x) l = stableSort (ahead x) l := by
  induction l with
  | nil => rfl
  | cons a l ih =>
    rw [List.pairwise_cons] at hl
    unfold stableSort
    rw [ih hl.2]
    refine insertBefore_congr _ _ _ _ fun b hb => ?_
    have : a < b := hl.1 b ((perm_stableSort _ l).mem_iff.1 hb)
    simp [larger, ahead, not_lt.2 this.le]

theorem sortedFrom_larger (x : Fin n → α) : sortedFrom (larger x) = sortedFrom (ahead x) := by
  funext k
  unfold sortedFrom sortPositions
  rw [List.get_of_eq (stableSort_larger x _ (List.pairwise_lt_finRange n))]
  rfl

theorem ahead_sortedFrom_iff (x : Fin n → α) (i j : Fin n) :
    ahead x (sortedFrom (ahead x) i) (sortedFrom (ahead x) j) = true ↔ i < j := by
  have hB := ahead_total x
  have key : ∀ i j : Fin n, i < j → ahead x (sortedFrom (ahead x) i) (sortedFrom (ahead x) j) = true := fun i j hij => by
    have h := sortedFrom_noInversion (ahead x) (ahead x) (fun a b h => hB.asymm a b h) (fun _ _ h => h) hB.negTrans i j hij
    rcases hB.total (sortedFrom (ahead x) i) (sortedFrom (ahead x) j)
      (fun e => hij.ne (sortedFrom_injective _ e)) with h' | h'
    · exact h'
    · rw [h] at h'; exact absurd h' (by decide)
  refine ⟨fun h => ?_, key i j⟩
  by_contra hn
  rcases (not_lt.1 hn).lt_or_eq with hlt | rfl
  · rw [hB.asymm _ _ (key j i hlt)] at h; exact absurd h (by decide)
  · rw [hB.irrefl] at h; exact absurd h (by decide)

/-- The position sorted to place `j` has `j` positions before it. -/
theorem rank_sortedFrom (x : Fin n → α) (j : Fin n) : rank x (sortedFrom (larger x) j) = j.val := by
  rw [sortedFrom_larger]
  have hb : Function.Bijective (sortedFrom (ahead x)) := ⟨sortedFrom_injective _, sortedFrom_surjective _⟩
  have : (univ.filter fun c' => x (sortedFrom (ahead x) j) < x c' ∨
      (x c' = x (sortedFrom (ahead x) j) ∧ c'.val < (sortedFrom (ahead x) j).val))
      = (univ.filter fun i : Fin n => i < j).map ⟨sortedFrom (ahead x), hb.1⟩ := by
    ext c'
    obtain ⟨i, rfl⟩ := hb.2 c'
    have h := ahead_sortedFrom_iff x i j
    simp only [ahead, Bool.or_eq_true, Bool.and_eq_true, decide_eq_true_eq, Fin.lt_def] at h
    simp only [mem_filter, mem_univ, true_and, mem_map, Function.Embedding.coeFn_mk]
    rw [h]
    constructor
    · exact fun hi => ⟨i, hi, rfl⟩
    · rintro ⟨i', hi', e⟩
      rw [← hb.1 e]; exact hi'
  unfold rank
  rw [this, card_map]
  simp only [Fin.lt_def]
  rw [Fin.card_filter_val_lt]
  have := j.isLt
  omega

/-- A position is among the first `k` of the sort exactly when fewer than `k` come before it. -/
theorem mem_first_iff (x : Fin n → α) (k : ℕ) (c : Fin n) :
    (∃ j : Fin n, j.val < k ∧ sortedFrom (larger x) j = c) ↔ rank x c < k := by
  constructor
  · rintro ⟨j, hj, rfl⟩
    rw [rank_sortedFrom]; exact hj
  · intro h
    obtain ⟨j, rfl⟩ := sortedFrom_surjective (larger x) c
    rw [rank_sortedFrom] at h
    exact ⟨j, h, rfl⟩

/-- How many keys are smaller than that of `c`: a number that orders the positions as the keys do. -/
def smaller (x : Fin n → α) (c : Fin n) : ℕ := (univ.filter fun c' => x c' < x c).card

theorem smaller_lt_iff (x : Fin n → α) (a b : Fin n) : smaller x a < smaller x b ↔ x a < x b := by
  have key : ∀ a b, x a < x b → smaller x a < smaller x b := fun a b h =>
    card_lt_card ⟨fun c hc => by
        simp only [mem_filter, mem_univ, true_and] at hc ⊢; exact hc.trans h,
      fun hsub => by
        have := hsub (by simpa using h : a ∈ _)
        simp at this⟩
  refine ⟨fun h => ?_, key a b⟩
  rcases lt_trichotomy (x a) (x b) with h' | h' | h'
  · exact h'
  · unfold smaller at h; rw [h'] at h; exact absurd h (lt_irrefl _)
  · exact absurd (key b a h') (by omega)

theorem smaller_eq_iff (x : Fin n → α) (a b : Fin n) : smaller x a = smaller x b ↔ x a = x b := by
  have h1 := smaller_lt_iff x a b
  have h2 := smaller_lt_iff x b a
  constructor
  · intro h
    exact le_antisymm (not_lt.1 fun h' => by have := h2.2 h'; omega) (not_lt.1 fun h' => by have := h1.2 h'; omega)
  · intro h
    unfold smaller; rw [h]

/-- Counting smaller keys and ranking by the counts is ranking by the keys. -/
theorem rank_smaller (x : Fin n → α) (c : Fin n) : rank (smaller x) c = rank x c := by
  unfold rank
  simp only [smaller_lt_iff, smaller_eq_iff]

theorem smaller_lt (x : Fin n → α) (c : Fin n) : smaller x c < n := by
  have : smaller x c < (univ : Finset (Fin n)).card :=
    card_lt_card ⟨filter_subset _ _, fun h => by have := h (mem_univ c); simp at this⟩
  simpa using this

end Cert.TopK
-- ==== Proof.Spec.lean ====
/- What both programs compute, written once over functions of numbered rows and columns: attention with all columns, and
   the same with the columns off a mask hidden, the mask being shared by the 192 rows of a group. -/
module

public import proofs.«01_k».proof.Proof.Softmax
public import proofs.«01_k».proof.Proof.TopK

@[expose] public section

noncomputable section

namespace Cert.Spec

open Idealize.ShloMosaic Cert.Softmax Cert.TopK

/-- The factor on the products of queries and keys. -/
def scale : EReal := Ideal.ofBits .f32 1035273459#32

/-- The logits of one query row against all the keys. -/
def logits (q : Fin 128 → EReal) (k : Fin 2048 → Fin 128 → EReal) (c : Fin 2048) : EReal := (∑ d, q d * k c d) * scale

/-- How much probability the rows of group `g` give to each column. -/
def score (q k : Fin 2048 → Fin 128 → EReal) (g : ℕ) (c : Fin 2048) : EReal :=
  ∑ s : Fin 2048, if s.val / 192 = g then prob (logits (q s) k) c else 0

/-- The columns within 128 of the group's own rows. -/
def window (g : ℕ) (c : Fin 2048) : BitVec 1 := BitVec.ofBool (decide (192 * g ≤ c.val + 128 ∧ c.val < 192 * g + 320))

/-- The columns with the 512 largest scores, the earlier first among equals. -/
def best (q k : Fin 2048 → Fin 128 → EReal) (g : ℕ) (c : Fin 2048) : BitVec 1 :=
  BitVec.ofBool (decide (rank (score q k g) c < 512))

/-- A group's mask: its best columns, those drawn at random, and its window. -/
def mask (q k : Fin 2048 → Fin 128 → EReal) (drawn : Fin 2048 → BitVec 1) (g : ℕ) (c : Fin 2048) : BitVec 1 :=
  IntOp.ori (IntOp.ori (best q k g c) (drawn c)) (window g c)

/-- The output of one row with all columns. -/
def dense (q k v : Fin 2048 → Fin 128 → EReal) (s : Fin 2048) (d : Fin 128) : EReal :=
  attend (logits (q s) k) (fun c => v c d)

/-- The dense output less the output under the mask of the row's group. -/
def cache (q k v : Fin 2048 → Fin 128 → EReal) (drawn : Fin 2048 → BitVec 1) (s : Fin 2048) (d : Fin 128) : EReal :=
  dense q k v s d - attend (hide (mask q k drawn (s.val / 192)) (logits (q s) k)) (fun c => v c d)

/-- Whether a column is drawn, from its uniform number: the number lies below the threshold, a hundredth. -/
def drawnBit (u : EReal) : BitVec 1 :=
  BitVec.ofBool (decide (u < Ideal.ofBits .f32 1008981770#32))

end Cert.Spec
-- ==== Proof.HostArrays.lean ====
/- The arrays that the kernel's host code prepares, read at an index: the padded queries, the random columns as words,
   and which of a block's rows belong to which of its groups. -/
module

public import proofs.«01_k».proof.Proof.Draws
public import proofs.«01_k».proof.Proof.Gen.KernelIdeal.Frame
public import proofs.«01_k».proof.Proof.Words
public import proofs.«01_k».proof.Proof.Spec
public import Idealize.ShloMosaic.Lib.Pipeline.ValueKit
public import Idealize.ShloMosaic.Lib.Claim
public import Idealize.ShloMosaic.Lib.Tactic.CleanTypes
public import Idealize.ShloMosaic.Lib.Routing.Words

@[expose] public section

set_option maxRecDepth 16384

noncomputable section

namespace Cert.HostArrays

open Cert.KernelIdeal Cert.KernelIdeal.Gen Idealize.ShloMosaic Idealize.ShloMosaic.TcCoe Cert.Words

variable (m : (ℓ : Loc nD τ sig) → Buf (Elt Ideal) ℓ) (c : Dev nD)

/-- The lines between the draws and the launch. -/
def rest : List (HloOp τ sig (Elt Ideal)) :=
  List.flatten [hostOps0_4, hostOps0_5, hostOps0_6, hostOps0_7, hostOps0_8, hostOps0_9]

theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons o l ih => rw [List.cons_append, StableHlo.after_cons, ih, StableHlo.after_cons]

/-- The contents after the draws. -/
def drawnV : Valuation τ sig (Elt Ideal) := StableHlo.after Draws.ops fun b => m (c, b)

/-- The drawn array. -/
def draws : Vec Ideal S1x16x11x2048 .f32 := drawnV m c (Proc.devRef .tc main_v8)

theorem flatten_split {α : Type*} (a b c d : List α) (l : List (List α)) :
    List.flatten (a :: b :: c :: d :: l) = (a ++ (b ++ (c ++ d))) ++ List.flatten l := by
  simp only [List.flatten_cons, List.append_assoc]

/-- The launch finds what the lines after the draws make of the contents after the draws. -/
theorem V0_eq : V0 m c = StableHlo.after rest (drawnV m c) :=
  (congrArg (fun l => StableHlo.after l fun b => m (c, b)) (flatten_split hostOps0 hostOps0_1 hostOps0_2 hostOps0_3 _)).trans
    (after_append _ _ _)

theorem arg_eq : drawnV m c (Proc.devRef .tc main_arg0) = m ((c.tc : Thread nD τ).loc main_arg0) :=
  Draws.line.keep _ (by decide)

section

variable (W : Valuation τ sig (Elt Ideal))

/-- The padded queries hold the queries in their first 2048 rows. -/
theorem queries_from (h : Fin 16) (s : Fin 2048) (d : Fin 128) :
    (StableHlo.after rest W (Proc.devRef .tc main_v36) : Vec Ideal S1x16x2304x128 .f32) (ix4 0 h ⟨s.val, by omega⟩ d) = (W (Proc.devRef .tc main_arg0) : Vec Ideal S1x16x2048x128 .f32) (ix4 0 h s d) := by
  simp only [rest, hostOps0_4, hostOps0_5, hostOps0_6, hostOps0_7, hostOps0_8, hostOps0_9, List.flatten_cons, List.flatten_nil,
    List.append_nil, List.cons_append, List.nil_append]
  entry_read
  simp -implicitDefEqProofs only [StableHlo.TRef.toBuf, StableHlo.TRef.ofBuf, cast_cast, cast_eq]
  clean_types
  pointwise []

/-- The words of the drawn columns, for every group that there is. -/
theorem drawn_from (h : Fin 16) (j : Fin 2) (g : Fin 6) (hg : 6 * j.val + g.val < 11) (x : Fin 2048) :
    (StableHlo.after rest W (Proc.devRef .tc main_v14) : Vec Ideal S16x2x6x2048 .i32) (ix4 h j g x)
      = BitVec.setWidth 32 (Spec.drawnBit ((W (Proc.devRef .tc main_v8) : Vec Ideal S1x16x11x2048 .f32) (ix4 0 h ⟨6 * j.val + g.val, hg⟩ x))) := by
  simp only [rest, hostOps0_4, hostOps0_5, hostOps0_6, hostOps0_7, hostOps0_8, hostOps0_9, List.flatten_cons, List.flatten_nil,
    List.append_nil, List.cons_append, List.nil_append]
  entry_read
  simp -implicitDefEqProofs only [StableHlo.TRef.toBuf, StableHlo.TRef.ofBuf, cast_cast, cast_eq]
  clean_types
  pointwise []
  have e : j.val * 6 + g.val = 6 * j.val + g.val := by omega
  rw [dif_pos (by omega)]
  simp only [e]
  rfl

/-- The indicator of a block's row belonging to a group: one where the row is a real one of that group, else zero. -/
theorem groups_from (j : Fin 2) (g : Fin 6) (r : Fin 1152) :
    (StableHlo.after rest W (Proc.devRef .tc main_v35) : Vec Ideal S2x6x1152 .bf16) (ix3 j g r) = (if r.val / 192 = g.val ∧ j.val * 1152 + r.val < 2048 then 1 else 0 : EReal) := by
  simp only [rest, hostOps0_4, hostOps0_5, hostOps0_6, hostOps0_7, hostOps0_8, hostOps0_9, List.flatten_cons, List.flatten_nil,
    List.append_nil, List.cons_append, List.nil_append]
  entry_read
  simp -implicitDefEqProofs only [StableHlo.TRef.toBuf, StableHlo.TRef.ofBuf, cast_cast, cast_eq]
  clean_types
  change uitofp (F := Ideal) .bf16 (andi (broadcastInDim _ _ _ (cmpi .eq (broadcastInDim _ _ _ (Routing.pyDiv bcast_S_S1x1x1152
    (broadcastInDim S1x1x1152 ![2] bcast_S1152_S1x1x1152_2 (iotaInDim S1152 32 0)) (constantI S_ 32 192#32))) _)) _) (ix3 j g r) = _
  pointwise []
  rw [Routing.pyDiv_ap (a := r.val) (b := 192) _ _ _ _ (by pointwise []) rfl (by omega) (by omega) (by omega)]
  rw [eq_small (by omega) (by omega)]
  have e : IntOp.addi (IntOp.muli (BitVec.ofNat 32 j.val) 1152#32) (BitVec.ofNat 32 r.val) = BitVec.ofNat 32 (j.val * 1152 + r.val) := by
    show BitVec.ofNat 32 j.val * BitVec.ofNat 32 1152 + BitVec.ofNat 32 r.val = _
    rw [← BitVec.ofNat_mul, ← BitVec.ofNat_add]
  rw [e, slt_small (by omega) (by omega), and_bit]
  show ((BitVec.toNat _ : ℝ) : EReal) = _
  by_cases q : r.val / 192 = g.val ∧ j.val * 1152 + r.val < 2048
  · rw [if_pos q, decide_eq_true q]
    norm_num
    rfl
  · rw [if_neg q, decide_eq_false q]
    norm_num

end

theorem queries_at (h : Fin 16) (s : Fin 2048) (d : Fin 128) :
    (V m c main_v36 : Vec Ideal S1x16x2304x128 .f32) (ix4 0 h ⟨s.val, by omega⟩ d)
      = (m ((c.tc : Thread nD τ).loc main_arg0) : Vec Ideal S1x16x2048x128 .f32) (ix4 0 h s d) := by
  unfold V
  rw [V0_eq]
  exact (queries_from _ h s d).trans (congrFun (arg_eq m c) _)

theorem drawn_at (h : Fin 16) (j : Fin 2) (g : Fin 6) (hg : 6 * j.val + g.val < 11) (x : Fin 2048) :
    (V m c main_v14 : Vec Ideal S16x2x6x2048 .i32) (ix4 h j g x)
      = BitVec.setWidth 32 (Spec.drawnBit (draws m c (ix4 0 h ⟨6 * j.val + g.val, hg⟩ x))) := by
  unfold V
  rw [V0_eq]
  exact drawn_from _ h j g hg x

theorem groups_at (j : Fin 2) (g : Fin 6) (r : Fin 1152) :
    (V m c main_v35 : Vec Ideal S2x6x1152 .bf16) (ix3 j g r) = (if r.val / 192 = g.val ∧ j.val * 1152 + r.val < 2048 then 1 else 0 : EReal) := by
  unfold V
  rw [V0_eq]
  exact groups_from _ j g r

end Cert.HostArrays
-- ==== Proof.Search.lean ====
/- A search for the place where a property of the naturals that is closed downwards stops, by sixteen probes a round,
   and what it finds when the property is "at least `k` keys are this large". Numbers alone: no words, no program. -/
module

public import Idealize.ShloMosaic.Lib.SortPrefix
public import Mathlib.Algebra.BigOperators.Fin
public import Mathlib.Data.Fintype.Card

@[expose] public section

namespace Cert.Search

open Finset

/-- How many of the sixteen probes `L + T`, `L + 2 T`, …, `L + 16 T` have the property. -/
def hits (P : ℕ → Prop) [DecidablePred P] (s : ℕ × ℕ) : ℕ :=
  (univ.filter fun k : Fin 16 => P (s.1 + (k.val + 1) * s.2)).card

/-- One round: the lower end moves up to the last probe that has the property, and the step becomes a sixteenth of the
    old one, rounded up. -/
def round (P : ℕ → Prop) [DecidablePred P] (s : ℕ × ℕ) : ℕ × ℕ :=
  (s.1 + hits P s * s.2, (s.2 + 15) / 16)

variable {P : ℕ → Prop} [DecidablePred P]

theorem hits_le (s : ℕ × ℕ) : hits P s ≤ 16 := by
  unfold hits
  exact (card_filter_le _ _).trans (by simp)

/-- The probes that have a downward closed property come first. -/
theorem probe_iff (hP : ∀ a b, a ≤ b → P b → P a) (s : ℕ × ℕ) (k : ℕ) (hk : k < 16) :
    P (s.1 + (k + 1) * s.2) ↔ k < hits P s := by
  have hmono : ∀ i j : ℕ, i ≤ j → P (s.1 + (j + 1) * s.2) → P (s.1 + (i + 1) * s.2) := fun i j hij h =>
    hP _ _ (Nat.add_le_add_left (Nat.mul_le_mul_right _ (by omega)) _) h
  constructor
  · intro h
    have : (univ.filter fun i : Fin 16 => i.val < k + 1) ⊆ univ.filter fun i : Fin 16 => P (s.1 + (i.val + 1) * s.2) := by
      intro i hi
      simp only [mem_filter, mem_univ, true_and] at hi ⊢
      exact hmono _ _ (by omega) h
    have hc := card_le_card this
    rw [Fin.card_filter_val_lt] at hc
    unfold hits
    omega
  · intro h
    by_contra hn
    have : (univ.filter fun i : Fin 16 => P (s.1 + (i.val + 1) * s.2)) ⊆ univ.filter fun i : Fin 16 => i.val < k := by
      intro i hi
      simp only [mem_filter, mem_univ, true_and] at hi ⊢
      by_contra hlt
      exact hn (hmono _ _ (by omega) hi)
    have hc := card_le_card this
    rw [Fin.card_filter_val_lt] at hc
    unfold hits at h
    omega

/-- The place lies within sixteen steps. -/
def Inside (P : ℕ → Prop) (s : ℕ × ℕ) : Prop := P s.1 ∧ ¬ P (s.1 + 16 * s.2)

/-- After a round the place lies within one step of the old length. -/
theorem advance (hP : ∀ a b, a ≤ b → P b → P a) (s : ℕ × ℕ) (h : Inside P s) :
    P (round P s).1 ∧ ¬ P ((round P s).1 + s.2) := by
  have hs : hits P s < 16 := by
    rcases Nat.lt_or_ge (hits P s) 16 with h' | h'
    · exact h'
    · exact absurd ((probe_iff hP s 15 (by omega)).2 (by omega)) (by simpa using h.2)
  constructor
  · rcases Nat.eq_zero_or_pos (hits P s) with h0 | h0
    · simpa [round, h0] using h.1
    · have := (probe_iff hP s (hits P s - 1) (by omega)).2 (by omega)
      rw [Nat.sub_add_cancel h0] at this
      exact this
  · intro hc
    have h2 : P (s.1 + (hits P s + 1) * s.2) := by
      have e : s.1 + (hits P s + 1) * s.2 = (round P s).1 + s.2 := by
        simp only [round, Nat.add_mul, one_mul, Nat.add_assoc]
      rw [e]; exact hc
    exact absurd ((probe_iff hP s _ hs).1 h2) (lt_irrefl _)

theorem inside_round (hP : ∀ a b, a ≤ b → P b → P a) (s : ℕ × ℕ) (h : Inside P s) : Inside P (round P s) :=
  ⟨(advance hP s h).1, fun hc => (advance hP s h).2 (hP _ _ (by simp [round]; omega) hc)⟩

theorem inside_rounds (hP : ∀ a b, a ≤ b → P b → P a) (n : ℕ) (s : ℕ × ℕ) (h : Inside P s) :
    Inside P ((round P)^[n] s) := by
  induction n with
  | zero => exact h
  | succ n ih => rw [Function.iterate_succ_apply']; exact inside_round hP _ ih

/-- The step after any number of rounds stays small, and the lower end with it. -/
theorem bounds (n : ℕ) (s : ℕ × ℕ) (hs : s.2 ≤ 128) :
    ((round P)^[n] s).2 ≤ 128 ∧ (2 ≤ n → ((round P)^[n] s).2 ≤ 1) ∧
      ((round P)^[n] s).1 ≤ s.1 + 2048 * n := by
  induction n with
  | zero => simp [hs]
  | succ n ih =>
    rw [Function.iterate_succ_apply']
    obtain ⟨h1, h2, h3⟩ := ih
    set r := (round P)^[n] s
    refine ⟨?_, ?_, ?_⟩
    · simp only [round]; omega
    · intro hn
      rcases Nat.lt_or_ge n 2 with hn2 | hn2
      · obtain rfl : n = 1 := by omega
        have hr : r = round P s := rfl
        have : r.2 = (s.2 + 15) / 16 := by rw [hr]; rfl
        simp only [round]; omega
      · have := h2 hn2
        simp only [round]; omega
    · have h16 := hits_le (P := P) r
      have : hits P r * r.2 ≤ 16 * 128 := Nat.mul_le_mul h16 h1
      simp only [round]; omega

/-- Three rounds or more from a step of at most 128 end at the last number that has the property, and within one step. -/
theorem found (hP : ∀ a b, a ≤ b → P b → P a) (n : ℕ) (s : ℕ × ℕ) (hs : s.2 ≤ 128) (h : Inside P s) :
    P ((round P)^[n + 3] s).1 ∧ ¬ P (((round P)^[n + 3] s).1 + ((round P)^[n + 2] s).2) ∧
      ((round P)^[n + 2] s).2 = 1 := by
  have h1 := inside_rounds hP (n + 2) s h
  have h2 := ((bounds (P := P) (n + 2) s hs).2.1 (by omega))
  have h3 := advance hP _ h1
  rw [← Function.iterate_succ_apply' (round P)] at h3
  refine ⟨h3.1, h3.2, ?_⟩
  rcases Nat.eq_zero_or_pos ((round P)^[n + 2] s).2 with h0 | h0
  · exfalso
    have h4 := h1.2
    rw [h0] at h4
    exact h4 (by simpa using h1.1)
  · omega

/-! ## Selecting the `q` largest of `n` keys, the earlier first among equals -/

section Select

variable {n : ℕ} (K : Fin n → ℕ)

/-- How many keys are at least `t`. -/
def atLeast (t : ℕ) : ℕ := (univ.filter fun c => t ≤ K c).card

/-- How many keys come before that of `c`: the larger ones, and the equal ones to the left. -/
def before (c : Fin n) : ℕ := (univ.filter fun c' => K c < K c' ∨ (K c' = K c ∧ c'.val < c.val)).card

/-- How many keys equal to `t` stand to the left of `i`. -/
def equalLeft (t i : ℕ) : ℕ := (univ.filter fun c => K c = t ∧ c.val < i).card

theorem atLeast_anti (a b : ℕ) (h : a ≤ b) : atLeast K b ≤ atLeast K a :=
  card_le_card fun c hc => by simp only [mem_filter, mem_univ, true_and] at hc ⊢; omega

theorem equalLeft_mono (t a b : ℕ) (h : a ≤ b) : equalLeft K t a ≤ equalLeft K t b :=
  card_le_card fun c hc => by simp only [mem_filter, mem_univ, true_and] at hc ⊢; omega

theorem equalLeft_zero (t : ℕ) : equalLeft K t 0 = 0 := by simp [equalLeft]

/-- Those at least `t` are those above `t` and those equal to `t`. -/
theorem atLeast_split (t : ℕ) : atLeast K t = atLeast K (t + 1) + equalLeft K t n := by
  unfold atLeast equalLeft
  rw [← card_union_of_disjoint]
  · congr 1
    ext c
    have := c.isLt
    simp only [mem_filter, mem_univ, true_and, mem_union]
    omega
  · rw [disjoint_left]
    intro c h1 h2
    simp only [mem_filter, mem_univ, true_and] at h1 h2
    omega

/-- What comes before a key equal to `t`. -/
theorem before_eq (c : Fin n) : before K c = atLeast K (K c + 1) + equalLeft K (K c) c.val := by
  unfold before atLeast equalLeft
  rw [← card_union_of_disjoint]
  · congr 1
    ext c'
    simp only [mem_filter, mem_univ, true_and, mem_union]
    omega
  · rw [disjoint_left]
    intro c' h1 h2
    simp only [mem_filter, mem_univ, true_and] at h1 h2
    omega

/-- With the threshold `t` at which the count passes `q`, and the position `i` at which the count of equal keys passes
    what is missing, the selected keys are those with fewer than `q` before them. -/
theorem selected_iff (q t i : ℕ) (h1 : q ≤ atLeast K t) (h2 : atLeast K (t + 1) < q)
    (h3 : equalLeft K t i < q - atLeast K (t + 1)) (h4 : ¬ equalLeft K t (i + 1) < q - atLeast K (t + 1)) (c : Fin n) :
    (t + 1 ≤ K c ∨ (K c = t ∧ c.val < i + 1)) ↔ before K c < q := by
  rw [before_eq]
  rcases lt_trichotomy (K c) t with h | h | h
  · constructor
    · omega
    · intro hc
      have := atLeast_anti K (K c + 1) t h
      omega
  · subst h
    constructor
    · intro hc
      have := equalLeft_mono K (K c) c.val i (by omega)
      omega
    · intro hc
      right
      refine ⟨rfl, ?_⟩
      by_contra hlt
      have := equalLeft_mono K (K c) (i + 1) c.val (by omega)
      omega
  · constructor
    · intro _
      have e : atLeast K (K c + 1) + equalLeft K (K c) c.val < atLeast K (t + 1) := by
        rw [← before_eq]
        unfold before atLeast
        refine card_lt_card ⟨fun c' hc' => ?_, fun hsub => ?_⟩
        · simp only [mem_filter, mem_univ, true_and] at hc' ⊢; omega
        · have := hsub (by simp only [mem_filter, mem_univ, true_and]; omega : c ∈ _)
          simp at this
      omega
    · omega

end Select

end Cert.Search
-- ==== Proof.Rounds.lean ====
/- The kernel's two searches as they are printed, read as numbers: nine rounds over the keys find the threshold, three
   over the positions find how many of the keys equal to it are taken, and the mask that results marks the keys before
   which fewer than 512 others come. -/
module

public import proofs.«01_k».proof.Proof.Gen.KernelIdeal.Frame
public import proofs.«01_k».proof.Proof.Search
public import proofs.«01_k».proof.Proof.Words

@[expose] public section

set_option maxRecDepth 16384

noncomputable section

namespace Cert.Rounds

open Cert.KernelIdeal Cert.KernelIdeal.Gen Idealize.ShloMosaic Cert.Words Cert.Search

local notation "Six" => IVec S6x1x1 32

/-! ## A round in the program's own operations -/

/-- The sixteen places a round looks at: the lower end, and from one to sixteen steps above it. -/
def probes (k16 : IVec S1x16x1 32) (s : Six × Six) : IVec S6x16x1 32 :=
  addi (broadcastTo S6x16x1 s.1 broadcasts_S6x1x1_S6x16x1)
    (muli (broadcastTo S6x16x1 k16 broadcasts_S1x16x1_S6x16x1) (broadcastTo S6x16x1 s.2 broadcasts_S6x1x1_S6x16x1))

/-- Which of the sixteen have 512 keys or more at or above them. -/
def keyHits (key : IVec S6x1x2048 32) (p : IVec S6x16x1 32) : IVec S6x16x1 1 :=
  cmpi .sge (shapeCast S6x16x1 (multiReductionI .add [2] S6x16 (extui 32 (cmpi .sge
    (broadcastTo S6x16x2048 key broadcasts_S6x1x2048_S6x16x2048)
    (broadcastTo S6x16x2048 p broadcasts_S6x16x1_S6x16x2048)) natLt_1_32) 0#32 reduces_S6x16x2048_S6x16 rfl)
    shapeCasts_S6x16_S6x16x1) (broadcast S6x16x1 512#32)

/-- Which of the sixteen have fewer of the marked keys to the left of them than wanted. -/
def indexHits (quota : Six) (eq : IVec S6x1x2048 1) (kidx : IVec S6x16x2048 32) (p : IVec S6x16x1 32) : IVec S6x16x1 1 :=
  cmpi .slt (shapeCast S6x16x1 (multiReductionI .add [2] S6x16 (extui 32 (andi
    (broadcastTo S6x16x2048 eq broadcasts_S6x1x2048_S6x16x2048)
    (cmpi .sle kidx (broadcastTo S6x16x2048 p broadcasts_S6x16x1_S6x16x2048))) natLt_1_32) 0#32
    reduces_S6x16x2048_S6x16 rfl) shapeCasts_S6x16_S6x16x1) (broadcastTo S6x16x1 quota broadcasts_S6x1x1_S6x16x1)

/-- How many of the sixteen are marked, the bits widened beforehand. -/
def tally (h : IVec S6x16x1 32) : Six :=
  shapeCast S6x1x1 (multiReductionI .add [1] S6x1 h 0#32 reduces_S6x16x1_S6x1 rfl) shapeCasts_S6x1_S6x1x1

/-- A sixteenth of the interval between the ends, rounded up; the upper end is a step above the lower. -/
def gap (lo st : Six) : Six :=
  shrsi (addi (subi (addi lo st) lo) (broadcast S6x1x1 15#32)) (broadcast S6x1x1 4#32)

/-- The end of a round: the lower end moves up by the counted steps, and the step is divided. -/
def move (n : Six) (s : Six × Six) : Six × Six := (addi s.1 (muli n s.2), gap (addi s.1 (muli n s.2)) s.2)

/-- A round over the keys. -/
def keyRound (key : IVec S6x1x2048 32) (k16 : IVec S1x16x1 32) (s : Six × Six) : Six × Six :=
  move (tally (extui 32 (keyHits key (probes k16 s)) natLt_1_32)) s

/-- A round over the positions. -/
def indexRound (quota : Six) (eq : IVec S6x1x2048 1) (kidx : IVec S6x16x2048 32) (k16 : IVec S1x16x1 32) (s : Six × Six) :
    Six × Six :=
  move (tally (extui 32 (indexHits quota eq kidx (probes k16 s)) natLt_1_32)) s

/-! ## The printed values are these rounds -/

section Printed

variable (key : IVec S6x1x2048 32) (v34 v35 k16 : IVec S1x16x1 32) (s : Six × Six)

theorem first_round : (k0_pay12 key v34 v35, k0_pay13 key v34 v35) = keyRound key (k0_pay9 v34 v35) (k0_pay10, k0_pay11 key) := rfl

theorem second_hits : k0_pay14 key v34 v35 = keyHits key (probes (k0_pay9 v34 v35) (k0_pay12 key v34 v35, k0_pay13 key v34 v35)) := rfl

theorem third_round (h : IVec S6x16x1 1) : (k0_pay17 key k16 s.1 s.2 h, k0_pay18 key k16 s.1 s.2 h)
    = keyRound key k16 (move (tally (extui 32 h natLt_1_32)) s) := rfl

theorem fourth_hits (h : IVec S6x16x1 1) : k0_pay19 key k16 s.1 s.2 h
    = extui 32 (keyHits key (probes k16 (k0_pay17 key k16 s.1 s.2 h, k0_pay18 key k16 s.1 s.2 h))) natLt_1_32 := rfl

theorem fifth_round (h : IVec S6x16x1 32) : (k0_pay22 key k16 s.1 s.2 h, k0_pay23 key k16 s.1 s.2 h)
    = keyRound key k16 (move (tally h) s) := rfl

theorem sixth_tally (h : IVec S6x16x1 32) : k0_pay24 key k16 s.1 s.2 h
    = tally (extui 32 (keyHits key (probes k16 (k0_pay22 key k16 s.1 s.2 h, k0_pay23 key k16 s.1 s.2 h))) natLt_1_32) := rfl

theorem seventh_step (n : Six) : k0_pay28 key k16 s.1 s.2 n = (keyRound key k16 (move n s)).2 := rfl

theorem eighth_round (n : Six) : k0_pay29 key k16 s.1 s.2 n = (keyRound key k16 (keyRound key k16 (move n s))).1 := rfl

theorem ninth_round (lo st : Six) : k0_pay30 key k16 st lo = (keyRound key k16 (lo, gap lo st)).1 := rfl

variable (quota : Six) (eq : IVec S6x1x2048 1) (kidx : IVec S1x1x2048 32)

theorem first_probes : k0_pay35 k16 = probes k16 (k0_pay33, k0_pay34) := rfl

theorem index_first (p : IVec S6x16x1 32) (kb : IVec S6x16x2048 32) :
    (k0_pay37 quota eq s.1 s.2 p kb, k0_pay38 quota eq s.1 s.2 p kb)
      = move (tally (extui 32 (indexHits quota eq kb p) natLt_1_32)) s := rfl

theorem index_second (p : IVec S6x16x1 32) (kb : IVec S6x16x2048 32) :
    (k0_pay39 kidx k16 quota eq s.1 s.2 p kb, k0_pay40 kidx k16 quota eq s.1 s.2 p kb)
      = indexRound quota eq (k0_pay36 kidx) k16 (k0_pay37 quota eq s.1 s.2 p kb, k0_pay38 quota eq s.1 s.2 p kb) := rfl

theorem third_probes (p : IVec S6x16x1 32) (kb : IVec S6x16x2048 32) :
    k0_pay41 kidx k16 quota eq s.1 s.2 p kb
      = probes k16 (k0_pay39 kidx k16 quota eq s.1 s.2 p kb, k0_pay40 kidx k16 quota eq s.1 s.2 p kb) := rfl

/-- The mask from the threshold `t` and the last position `last` of an equal key that is taken. -/
def marked (key : IVec S6x1x2048 32) (kidx : IVec S1x1x2048 32) (t : Six) (eq : IVec S6x1x2048 1) (last : Six) :
    IVec S6x1x2048 1 :=
  ori (cmpi .sge key (broadcastTo S6x1x2048 (addi t (broadcast S6x1x1 1#32)) broadcasts_S6x1x1_S6x1x2048))
    (andi eq (cmpi .sle (broadcastTo S6x1x2048 kidx broadcasts_S1x1x2048_S6x1x2048)
      (broadcastTo S6x1x2048 last broadcasts_S6x1x1_S6x1x2048)))

theorem last_mask (t : Six) (p : IVec S6x16x1 32) (kb : IVec S6x16x2048 32) :
    k0_pay43 key kidx t quota eq s.1 s.2 p kb
      = marked key kidx t eq (addi (move (tally (extui 32 (indexHits quota eq kb p) natLt_1_32)) s).1 s.2) := rfl

end Printed

/-! ## What the operations hold at an index -/

section Values

variable (g : Fin 6)

theorem probes_at (k16 : IVec S1x16x1 32) (s : Six × Six) (k : Fin 16) : probes k16 s (ix3 g k 0)
    = s.1 (ix3 g 0 0) + k16 (ix3 0 k 0) * s.2 (ix3 g 0 0) := by
  obtain ⟨a, b⟩ := s
  pointwise [probes]
  rfl

theorem keyHits_at (key : IVec S6x1x2048 32) (p : IVec S6x16x1 32) (k : Fin 16) : keyHits key p (ix3 g k 0)
    = IntOp.cmpi .sge (Finset.univ.fold IntOp.addi 0#32 fun x : Fin 2048 =>
        BitVec.setWidth 32 (IntOp.cmpi .sge (key (ix3 g 0 x)) (p (ix3 g k 0)))) 512#32 := by
  pointwise [keyHits]

theorem indexHits_at (quota : Six) (eq : IVec S6x1x2048 1) (kidx : IVec S1x1x2048 32) (p : IVec S6x16x1 32) (k : Fin 16) :
    indexHits quota eq (k0_pay36 kidx) p (ix3 g k 0)
      = IntOp.cmpi .slt (Finset.univ.fold IntOp.addi 0#32 fun x : Fin 2048 => BitVec.setWidth 32
          (IntOp.andi (eq (ix3 g 0 x)) (IntOp.cmpi .sle (kidx (ix3 0 0 x)) (p (ix3 g k 0))))) (quota (ix3 g 0 0)) := by
  pointwise [indexHits, k0_pay36]

theorem tally_at (h : IVec S6x16x1 1) : tally (extui 32 h natLt_1_32) (ix3 g 0 0)
    = Finset.univ.fold IntOp.addi 0#32 fun x : Fin 16 => BitVec.setWidth 32 (h (ix3 g x 0)) := by
  pointwise [tally]

theorem gap_at (lo st : Six) : gap lo st (ix3 g 0 0)
    = IntOp.shrsi .vector (lo (ix3 g 0 0) + st (ix3 g 0 0) - lo (ix3 g 0 0) + 15#32) 4#32 := by
  pointwise [gap]
  rfl

theorem marked_at (key : IVec S6x1x2048 32) (kidx : IVec S1x1x2048 32) (t : Six) (eq : IVec S6x1x2048 1) (last : Six)
    (c : Fin 2048) : marked key kidx t eq last (ix3 g 0 c)
      = IntOp.ori (IntOp.cmpi .sge (key (ix3 g 0 c)) (t (ix3 g 0 0) + 1#32))
          (IntOp.andi (eq (ix3 g 0 c)) (IntOp.cmpi .sle (kidx (ix3 0 0 c)) (last (ix3 g 0 0)))) := by
  pointwise [marked]
  rfl

theorem widest_at (key : IVec S6x1x2048 32) : k0_pay11 key (ix3 g 0 0)
    = IntOp.shrsi .vector (Finset.univ.fold IntOp.maxsi 2147483648#32 (fun x : Fin 2048 => key (ix3 g 0 x)) + 1#32 - 0#32 + 15#32)
        4#32 := by
  pointwise [k0_pay11, k0_pay10]
  rfl

theorem above_at (key : IVec S6x1x2048 32) (k16 : IVec S1x16x1 32) (st lo : Six) : k0_pay31 key k16 st lo (ix3 g 0 0)
    = 512#32 - Finset.univ.fold IntOp.addi 0#32 fun x : Fin 2048 =>
        BitVec.setWidth 32 (IntOp.cmpi .sge (key (ix3 g 0 x)) (k0_pay30 key k16 st lo (ix3 g 0 0) + 1#32)) := by
  generalize h : k0_pay30 key k16 st lo = t
  have e : k0_pay31 key k16 st lo = subi (broadcast S6x1x1 512#32) (shapeCast S6x1x1 (multiReductionI .add [2] S6x1 (extui 32
      (cmpi .sge key (broadcastTo S6x1x2048 (addi t (broadcast S6x1x1 1#32)) broadcasts_S6x1x1_S6x1x2048)) natLt_1_32) 0#32
      reduces_S6x1x2048_S6x1 rfl) shapeCasts_S6x1_S6x1x1) := by rw [← h]; rfl
  rw [e]
  pointwise []
  rfl

theorem equal_at (key : IVec S6x1x2048 32) (k16 : IVec S1x16x1 32) (st lo : Six) (c : Fin 2048) :
    k0_pay32 key k16 st lo (ix3 g 0 c) = IntOp.cmpi .eq (key (ix3 g 0 c)) (k0_pay30 key k16 st lo (ix3 g 0 0)) := by
  generalize h : k0_pay30 key k16 st lo = t
  have e : k0_pay32 key k16 st lo = cmpi .eq key (broadcastTo S6x1x2048 t broadcasts_S6x1x1_S6x1x2048) := by rw [← h]; rfl
  rw [e]
  pointwise []

theorem steps_at (k : Fin 16) : k0_pay9 (iota .tc S1x16x1 32 [1] iota_S1x16x1_d1_w32) k0_pay8 (ix3 0 k 0)
    = BitVec.ofNat 32 (k.val + 1) := by
  pointwise [k0_pay9, k0_pay8]
  exact (BitVec.ofNat_add _ _).symm

theorem positions_at (c : Fin 2048) : iota .tc S1x1x2048 32 [2] iota_S1x1x2048_d2_w32 (ix3 0 0 c) = BitVec.ofNat 32 c.val := by
  pointwise []

end Values

/-! ## The rounds as numbers -/

/-- In group `g` the state `s` of a search holds the numbers `n`, the lower end moved by the word `o`. -/
structure At (g : Fin 6) (o : BitVec 32) (s : Six × Six) (n : ℕ × ℕ) : Prop where
  lo : s.1 (ix3 g 0 0) = BitVec.ofNat 32 n.1 + o
  st : s.2 (ix3 g 0 0) = BitVec.ofNat 32 n.2

variable {g : Fin 6}

/-- The probes hold the numbers of `Search.hits`, moved. -/
theorem At.probe {o : BitVec 32} {s : Six × Six} {n : ℕ × ℕ} (h : At g o s n) {k16 : IVec S1x16x1 32}
    (hk : ∀ k : Fin 16, k16 (ix3 0 k 0) = BitVec.ofNat 32 (k.val + 1)) (k : Fin 16) :
    probes k16 s (ix3 g k 0) = BitVec.ofNat 32 (n.1 + (k.val + 1) * n.2) + o := by
  rw [probes_at, h.lo, h.st, hk, ← BitVec.ofNat_mul, BitVec.ofNat_add, BitVec.add_assoc, BitVec.add_comm o, BitVec.add_assoc]

/-- Moving by the marked probes is the round, where the marks are those of the property. -/
theorem At.moved {o : BitVec 32} {s : Six × Six} {n : ℕ × ℕ} (h : At g o s n) (P : ℕ → Prop) [DecidablePred P]
    (hn : n.2 ≤ 128) (m : IVec S6x16x1 1)
    (hm : ∀ k : Fin 16, m (ix3 g k 0) = BitVec.ofBool (decide (P (n.1 + (k.val + 1) * n.2)))) :
    At g o (move (tally (extui 32 m natLt_1_32)) s) (Search.round P n) := by
  have hl : (move (tally (extui 32 m natLt_1_32)) s).1 (ix3 g 0 0) = BitVec.ofNat 32 (Search.round P n).1 + o := by
    show s.1 (ix3 g 0 0) + tally (extui 32 m natLt_1_32) (ix3 g 0 0) * s.2 (ix3 g 0 0) = _
    rw [tally_at, count_bits _ _ hm, h.lo, h.st, ← BitVec.ofNat_mul, BitVec.add_assoc, BitVec.add_comm o, ← BitVec.add_assoc,
      ← BitVec.ofNat_add]
    rfl
  refine ⟨hl, ?_⟩
  show gap (move (tally (extui 32 m natLt_1_32)) s).1 s.2 (ix3 g 0 0) = _
  rw [gap_at, h.st, BitVec.add_comm _ (BitVec.ofNat 32 n.2), BitVec.add_sub_cancel, ← BitVec.ofNat_add, shr4 (by omega)]
  rfl

section Keys

variable {key : IVec S6x1x2048 32} {K : Fin 2048 → ℕ} (hkey : ∀ c : Fin 2048, key (ix3 g 0 c) = BitVec.ofNat 32 (K c))
  (hK : ∀ c, K c < 2048) {k16 : IVec S1x16x1 32} (hk : ∀ k : Fin 16, k16 (ix3 0 k 0) = BitVec.ofNat 32 (k.val + 1))

include hkey hK hk

theorem At.key_round {s : Six × Six} {n : ℕ × ℕ} (h : At g 0#32 s n) (h1 : n.1 < 2 ^ 20) (h2 : n.2 ≤ 128) :
    At g 0#32 (keyRound key k16 s) (Search.round (fun t => 512 ≤ atLeast K t) n) := by
  refine h.moved (fun t => 512 ≤ atLeast K t) h2 _ fun k => ?_
  have hb : n.1 + (k.val + 1) * n.2 < 2 ^ 31 := by
    have : (k.val + 1) * n.2 ≤ 16 * 128 := Nat.mul_le_mul (by omega) h2
    omega
  rw [keyHits_at, h.probe hk, BitVec.add_zero, count_bits _ (fun c => n.1 + (k.val + 1) * n.2 ≤ K c)
    (fun c => by rw [hkey, sge_small (by have := hK c; omega) hb])]
  refine sge_small ?_ (by norm_num)
  have := Finset.card_filter_le (Finset.univ : Finset (Fin 2048)) (fun c => n.1 + (k.val + 1) * n.2 ≤ K c)
  simp at this
  omega

theorem At.key_rounds {s : Six × Six} {n : ℕ × ℕ} (h : At g 0#32 s n) (h1 : n.1 = 0) (h2 : n.2 ≤ 128) (j : ℕ) (hj : j ≤ 10) :
    At g 0#32 ((keyRound key k16)^[j] s) ((Search.round (fun t => 512 ≤ atLeast K t))^[j] n) := by
  induction j with
  | zero => exact h
  | succ j ih =>
    rw [Function.iterate_succ_apply', Function.iterate_succ_apply']
    have hb := bounds (P := fun t => 512 ≤ atLeast K t) j n h2
    exact (ih (by omega)).key_round hkey hK hk (by omega) hb.1

variable {kidx : IVec S1x1x2048 32} (hi : ∀ c : Fin 2048, kidx (ix3 0 0 c) = BitVec.ofNat 32 c.val)

omit hkey hK in
include hi in
theorem At.index_round {quota : Six} {eq : IVec S6x1x2048 1} {t q : ℕ} (hq : quota (ix3 g 0 0) = BitVec.ofNat 32 q)
    (hq' : q < 2 ^ 31) (he : ∀ c : Fin 2048, eq (ix3 g 0 c) = BitVec.ofBool (decide (K c = t)))
    {s : Six × Six} {n : ℕ × ℕ} (h : At g 4294967295#32 s n) (h1 : n.1 < 2 ^ 20) (h2 : n.2 ≤ 128) :
    At g 4294967295#32 (indexRound quota eq (k0_pay36 kidx) k16 s) (Search.round (fun i => equalLeft K t i < q) n) := by
  refine h.moved (fun i => equalLeft K t i < q) h2 _ fun k => ?_
  have hb : n.1 + (k.val + 1) * n.2 < 2 ^ 31 := by
    have : (k.val + 1) * n.2 ≤ 16 * 128 := Nat.mul_le_mul (by omega) h2
    omega
  rw [indexHits_at, h.probe hk, count_bits _ (fun c => K c = t ∧ c.val < n.1 + (k.val + 1) * n.2)
    (fun c => by rw [he, hi, sle_pred (by omega) hb, and_bit]), hq]
  refine slt_small ?_ hq'
  have := Finset.card_filter_le (Finset.univ : Finset (Fin 2048)) (fun c => K c = t ∧ c.val < n.1 + (k.val + 1) * n.2)
  simp at this
  omega

end Keys

/-! ## The whole selection -/

/-- The mask of the selected columns, in the order the values are printed in. -/
def selected (key : IVec S6x1x2048 32) (v34 v35 : IVec S1x16x1 32) (kidx : IVec S1x1x2048 32) : IVec S6x1x2048 1 :=
  have k16 := k0_pay9 v34 v35
  have a1 := k0_pay12 key v34 v35
  have a2 := k0_pay13 key v34 v35
  have a3 := k0_pay14 key v34 v35
  have b1 := k0_pay17 key k16 a1 a2 a3
  have b2 := k0_pay18 key k16 a1 a2 a3
  have b3 := k0_pay19 key k16 a1 a2 a3
  have c1 := k0_pay22 key k16 b1 b2 b3
  have c2 := k0_pay23 key k16 b1 b2 b3
  have c3 := k0_pay24 key k16 b1 b2 b3
  have d2 := k0_pay28 key k16 c1 c2 c3
  have d1 := k0_pay29 key k16 c1 c2 c3
  have quota := k0_pay31 key k16 d2 d1
  have eq := k0_pay32 key k16 d2 d1
  have p := k0_pay35 k16
  have kb := k0_pay36 kidx
  k0_pay43 key kidx (k0_pay30 key k16 d2 d1) quota eq (k0_pay39 kidx k16 quota eq k0_pay33 k0_pay34 p kb)
    (k0_pay40 kidx k16 quota eq k0_pay33 k0_pay34 p kb) (k0_pay41 kidx k16 quota eq k0_pay33 k0_pay34 p kb) (k0_pay42 kidx)

/-- The threshold after nine rounds. -/
def threshold (key : IVec S6x1x2048 32) (k16 : IVec S1x16x1 32) : Six := ((keyRound key k16)^[9] (k0_pay10, k0_pay11 key)).1

/-- The state of the second search after `j` rounds. -/
def indexState (quota : Six) (eq : IVec S6x1x2048 1) (kidx : IVec S1x1x2048 32) (k16 : IVec S1x16x1 32) (j : ℕ) : Six × Six :=
  (indexRound quota eq (k0_pay36 kidx) k16)^[j] (k0_pay33, k0_pay34)

section Whole

variable (key : IVec S6x1x2048 32) (v34 v35 : IVec S1x16x1 32) (kidx : IVec S1x1x2048 32)

/-- The printed selection is the two searches and the mask from what they find. -/
theorem selected_eq : ∃ d2 d1 : Six, k0_pay30 key (k0_pay9 v34 v35) d2 d1 = threshold key (k0_pay9 v34 v35) ∧
    selected key v34 v35 kidx = marked key kidx (threshold key (k0_pay9 v34 v35)) (k0_pay32 key (k0_pay9 v34 v35) d2 d1)
      (addi (indexState (k0_pay31 key (k0_pay9 v34 v35) d2 d1) (k0_pay32 key (k0_pay9 v34 v35) d2 d1) kidx (k0_pay9 v34 v35) 3).1
        (indexState (k0_pay31 key (k0_pay9 v34 v35) d2 d1) (k0_pay32 key (k0_pay9 v34 v35) d2 d1) kidx (k0_pay9 v34 v35) 2).2) := by
  unfold selected threshold
  extract_lets k16 a1 a2 a3 b1 b2 b3 c1 c2 c3 d2 d1 quota eq p kb
  have e1 : (a1, a2) = (keyRound key k16)^[1] (k0_pay10, k0_pay11 key) := first_round key v34 v35
  have e3 : (b1, b2) = (keyRound key k16)^[3] (k0_pay10, k0_pay11 key) := by
    refine (third_round key k16 (a1, a2) a3).trans ?_
    rw [show (keyRound key k16)^[3] (k0_pay10, k0_pay11 key) = keyRound key k16 (keyRound key k16 (a1, a2)) by rw [e1]; rfl]
    rfl
  have e5 : (c1, c2) = (keyRound key k16)^[5] (k0_pay10, k0_pay11 key) := by
    refine (fifth_round key k16 (b1, b2) b3).trans ?_
    rw [show (keyRound key k16)^[5] (k0_pay10, k0_pay11 key) = keyRound key k16 (keyRound key k16 (b1, b2)) by rw [e3]; rfl]
    rfl
  have e8 : (d1, gap d1 d2) = (keyRound key k16)^[8] (k0_pay10, k0_pay11 key) := by
    rw [show (keyRound key k16)^[8] (k0_pay10, k0_pay11 key) = keyRound key k16 (keyRound key k16 (keyRound key k16 (c1, c2))) by
      rw [e5]; rfl]
    rfl
  refine ⟨d2, d1, ?_, ?_⟩
  · rw [Function.iterate_succ_apply', ← e8]; rfl
  · refine (last_mask key (k0_pay39 kidx k16 quota eq k0_pay33 k0_pay34 p kb, k0_pay40 kidx k16 quota eq k0_pay33 k0_pay34 p kb)
      quota eq kidx (k0_pay30 key k16 d2 d1) _ _).trans ?_
    have i2 : (k0_pay39 kidx k16 quota eq k0_pay33 k0_pay34 p kb, k0_pay40 kidx k16 quota eq k0_pay33 k0_pay34 p kb)
        = indexState quota eq kidx k16 2 := index_second k16 (k0_pay33, k0_pay34) quota eq kidx p kb
    have t9 : k0_pay30 key k16 d2 d1 = ((keyRound key k16)^[9] (k0_pay10, k0_pay11 key)).1 := by
      rw [Function.iterate_succ_apply', ← e8]; rfl
    rw [show k0_pay41 kidx k16 quota eq k0_pay33 k0_pay34 p kb = probes k16 (indexState quota eq kidx k16 2) by rw [← i2]; rfl,
      i2, t9]
    rfl

end Whole

/-- The selection marks the keys before which fewer than 512 others come. -/
theorem selected_at (g : Fin 6) (key : IVec S6x1x2048 32) (K : Fin 2048 → ℕ)
    (hkey : ∀ c : Fin 2048, key (ix3 g 0 c) = BitVec.ofNat 32 (K c)) (hK : ∀ c, K c < 2048) (c : Fin 2048) :
    selected key (iota .tc S1x16x1 32 [1] iota_S1x16x1_d1_w32) k0_pay8 (iota .tc S1x1x2048 32 [2] iota_S1x1x2048_d2_w32)
      (ix3 g 0 c) = BitVec.ofBool (decide (before K c < 512)) := by
  obtain ⟨d2, d1, e1, e2⟩ := selected_eq key (iota .tc S1x16x1 32 [1] iota_S1x16x1_d1_w32) k0_pay8
    (iota .tc S1x1x2048 32 [2] iota_S1x1x2048_d2_w32)
  rw [e2]
  have hk := steps_at
  have hi := positions_at
  generalize k0_pay9 (iota .tc S1x16x1 32 [1] iota_S1x16x1_d1_w32) k0_pay8 = k16 at *
  generalize iota .tc S1x1x2048 32 [2] iota_S1x1x2048_d2_w32 = kidx at *
  clear e2
  -- the threshold
  obtain ⟨M, hM, hle, x, hx⟩ := max_small (by norm_num) (fun x : Fin 2048 => key (ix3 g 0 x)) K hkey (fun x => by have := hK x; omega)
  have hMlt : M < 2048 := hx ▸ hK x
  have h0 : At g 0#32 (k0_pay10, k0_pay11 key) (0, (M + 16) / 16) := by
    refine ⟨rfl, ?_⟩
    show k0_pay11 key (ix3 g 0 0) = _
    rw [widest_at, hM, BitVec.sub_zero, ← BitVec.ofNat_add, ← BitVec.ofNat_add, shr4 (by omega)]
  set P : ℕ → Prop := fun t => 512 ≤ atLeast K t with hP
  have hs : ((0, (M + 16) / 16) : ℕ × ℕ).2 ≤ 128 := by simp only; omega
  have hmono : ∀ a b, a ≤ b → P b → P a := fun a b hab hb => le_trans hb (atLeast_anti K a b hab)
  have hin : Inside P (0, (M + 16) / 16) := by
    refine ⟨?_, ?_⟩
    · show 512 ≤ atLeast K 0
      simp [atLeast]
    · show ¬ 512 ≤ atLeast K (0 + 16 * ((M + 16) / 16))
      have : atLeast K (0 + 16 * ((M + 16) / 16)) = 0 := by
        unfold atLeast
        rw [Finset.card_eq_zero, Finset.filter_eq_empty_iff]
        intro c _ hc
        have := hle c
        omega
      omega
  obtain ⟨f1, f2, f3⟩ := found hmono 6 _ hs hin
  have h9 := h0.key_rounds hkey hK hk rfl hs 9 (by norm_num)
  have hb9 := (bounds (P := P) 9 _ hs).2.2
  rw [f3] at f2
  set t := ((Search.round P)^[6 + 3] (0, (M + 16) / 16)).1 with ht
  have ht20 : t < 2 ^ 20 := by simp only at hb9; omega
  have hth : threshold key k16 (ix3 g 0 0) = BitVec.ofNat 32 t := by
    have := h9.lo
    rw [BitVec.add_zero] at this
    exact this
  -- the number of equal keys wanted
  have hab : atLeast K (t + 1) < 512 := by simpa [hP] using f2
  have hq : k0_pay31 key k16 d2 d1 (ix3 g 0 0) = BitVec.ofNat 32 (512 - atLeast K (t + 1)) := by
    rw [above_at, e1, hth, ← BitVec.ofNat_add, count_bits _ (fun c => t + 1 ≤ K c)
      (fun c => by rw [hkey, sge_small (by have := hK c; omega) (by omega)])]
    exact BitVec.ofNat_sub_ofNat_of_le _ _ (lt_trans hab (by norm_num)) hab.le
  have he : ∀ c : Fin 2048, k0_pay32 key k16 d2 d1 (ix3 g 0 c) = BitVec.ofBool (decide (K c = t)) := fun c => by
    rw [equal_at, e1, hth, hkey, eq_small (by have := hK c; omega) (by omega)]
  generalize k0_pay31 key k16 d2 d1 = quota at *
  generalize k0_pay32 key k16 d2 d1 = eq at *
  -- the last position
  set Q : ℕ → Prop := fun i => equalLeft K t i < 512 - atLeast K (t + 1) with hQ
  have hmonoQ : ∀ a b, a ≤ b → Q b → Q a := fun a b hab hb => lt_of_le_of_lt (equalLeft_mono K t a b hab) hb
  have hinQ : Inside Q (0, 128) := by
    refine ⟨?_, ?_⟩
    · show equalLeft K t 0 < _
      rw [equalLeft_zero]; omega
    · show ¬ equalLeft K t (0 + 16 * 128) < _
      have := atLeast_split K t
      have f1' : 512 ≤ atLeast K t := f1
      simp only [Nat.reduceMul, Nat.zero_add]
      omega
  obtain ⟨q1, q2, q3⟩ := found hmonoQ 0 (0, 128) (by norm_num) hinQ
  have i0 : At g 4294967295#32 (k0_pay33, k0_pay34) (0, 128) := ⟨rfl, show IntOp.shrsi .vector (2047#32 - 4294967295#32 + 15#32) 4#32 = BitVec.ofNat 32 128 by decide⟩
  have i1 := i0.index_round hk hi hq (by omega) he (by norm_num) (by norm_num)
  have b1 := bounds (P := Q) 1 (0, 128) (by norm_num)
  have i2 := i1.index_round hk hi hq (by omega) he (lt_of_le_of_lt b1.2.2 (by norm_num)) b1.1
  have b2 := bounds (P := Q) 2 (0, 128) (by norm_num)
  have i3 := i2.index_round hk hi hq (by omega) he (lt_of_le_of_lt b2.2.2 (by norm_num)) b2.1
  have b3 := bounds (P := Q) 3 (0, 128) (by norm_num)
  rw [q3] at q2
  have hlast : addi (indexState quota eq kidx k16 3).1 (indexState quota eq kidx k16 2).2 (ix3 g 0 0)
      = BitVec.ofNat 32 (((Search.round Q)^[0 + 3] (0, 128)).1 + 1) + 4294967295#32 := by
    show (indexState quota eq kidx k16 3).1 (ix3 g 0 0) + (indexState quota eq kidx k16 2).2 (ix3 g 0 0) = _
    have e3 : (indexState quota eq kidx k16 3).1 (ix3 g 0 0)
      = BitVec.ofNat 32 (((Search.round Q)^[0 + 3] (0, 128)).1) + 4294967295#32 := i3.lo
    have e2 : (indexState quota eq kidx k16 2).2 (ix3 g 0 0) = BitVec.ofNat 32 ((Search.round Q)^[0 + 2] (0, 128)).2 := i2.st
    rw [e3, e2, q3, BitVec.add_assoc, BitVec.add_comm (4294967295#32), ← BitVec.add_assoc, ← BitVec.ofNat_add]
  set i := ((Search.round Q)^[0 + 3] (0, 128)).1 with hidef
  have hi20 : i < 2 ^ 20 := by have := b3.2.2; simp at this; omega
  rw [marked_at, hkey, hth, ← BitVec.ofNat_add, sge_small (by have := hK c; omega) (by omega), he, hi, hlast,
    sle_pred (by omega) (by omega), and_bit, or_bit]
  congr 1
  exact decide_eq_decide.2 (selected_iff K 512 t i f1 hab q1 q2 c)

end Cert.Rounds
-- ==== Proof.Block.lean ====
/- What one grid point of the kernel stores, read at an index of its two output blocks. -/
module

public import proofs.«01_k».proof.Proof.Rounds
public import proofs.«01_k».proof.Proof.Spec
public import Idealize.ShloMosaic.Lib.Pipeline.ValueKit

@[expose] public section

set_option maxRecDepth 16384

noncomputable section

namespace Cert.Block

open Cert.KernelIdeal Cert.KernelIdeal.Gen Idealize.ShloMosaic Cert.Words Cert.Softmax Cert.Rounds

variable (x0 : Vec Ideal S1x1x1152x128 .f32) (x1 x2 : Vec Ideal S1x1x2048x128 .f32) (x3 : Vec Ideal S1x1x6x2048 .i32)
  (x4 : Vec Ideal S1x6x1152 .bf16)

/-- The logits of row `r` of the block. -/
def row (r : Fin 1152) : Fin 2048 → EReal := Spec.logits (fun d => x0 (ix4 0 0 r d)) (fun c d => x1 (ix4 0 0 c d))

/-- The scores of group `g` of the block. -/
def score (g : Fin 6) (c : Fin 2048) : EReal := ∑ r : Fin 1152, x4 (ix3 0 g r) * prob (row x0 x1 r) c

theorem weight_at (r : Fin 1152) (c : Fin 2048) : k0_pay4 x0 x1 (ix2 r c) = weight (row x0 x1 r) c := by
  pointwise [k0_pay4]
  rfl

theorem total_at (r : Fin 1152) : k0_pay5 x0 x1 (ix2 r 0) = total (row x0 x1 r) := by
  have e : k0_pay5 x0 x1 (ix2 r 0) = ∑ c : Fin 2048, k0_pay4 x0 x1 (ix2 r c) := by pointwise [k0_pay5]
  rw [e]
  exact Finset.sum_congr rfl fun c _ => weight_at x0 x1 r c

theorem value_at (c : Fin 2048) (d : Fin 128) : k0_pay6 x2 (ix2 c d) = x2 (ix4 0 0 c d) := by
  pointwise [k0_pay6]

theorem key_at (g : Fin 6) (c : Fin 2048) : k0_pay7 x0 x1 x4 (ix3 g 0 c) = BitVec.ofNat 32 (TopK.smaller (score x0 x1 x4 g) c) := by
  have hw := weight_at x0 x1
  have ht := total_at x0 x1
  have e : k0_pay7 x0 x1 x4 (ix3 g 0 c) = Finset.univ.fold IntOp.addi 0#32 fun x : Fin 2048 => BitVec.setWidth 32
      (BitVec.ofBool (decide ((∑ r : Fin 1152, x4 (ix3 0 g r) * Ideal.div (k0_pay4 x0 x1 (ix2 r x)) (k0_pay5 x0 x1 (ix2 r 0)))
        < ∑ r : Fin 1152, x4 (ix3 0 g r) * Ideal.div (k0_pay4 x0 x1 (ix2 r c)) (k0_pay5 x0 x1 (ix2 r 0))))) := by
    pointwise [k0_pay7]
  rw [e]
  exact count_bits _ (fun x => score x0 x1 x4 g x < score x0 x1 x4 g c) fun x => by simp only [hw, ht]; rfl

theorem drawn_at (g : Fin 6) (c : Fin 2048) : k0_pay45 x3 (ix2 g c) = IntOp.cmpi .ne (x3 (ix4 0 0 g c)) 0#32 := by
  pointwise [k0_pay45]

theorem window_at (j : Fin 2) (g : Fin 6) (c : Fin 2048) :
    k0_pay44 (BitVec.ofNat 32 j.val) (iota .tc S1x1x2048 32 [2] iota_S1x1x2048_d2_w32) (ix3 g 0 c)
      = Spec.window (6 * j.val + g.val) c := by
  pointwise [k0_pay44]
  have hm : IntOp.muli (IntOp.addi (Scalar.muli (BitVec.ofNat 32 j.val) 6#32) (BitVec.ofNat 32 g.val)) 192#32
      = BitVec.ofNat 32 (192 * (6 * j.val + g.val)) := by
    show (BitVec.ofNat 32 j.val * BitVec.ofNat 32 6 + BitVec.ofNat 32 g.val) * BitVec.ofNat 32 192 = _
    rw [← BitVec.ofNat_mul, ← BitVec.ofNat_add, ← BitVec.ofNat_mul, Nat.mul_comm j.val, Nat.mul_comm _ 192]
  rw [hm]
  have hl : (IntOp.subi (BitVec.ofNat 32 (192 * (6 * j.val + g.val))) 128#32).toInt = (192 * (6 * j.val + g.val) : ℕ) - 128 := by
    show (BitVec.ofNat 32 (192 * (6 * j.val + g.val)) - 128#32).toInt = _
    rw [BitVec.toInt_sub, toInt_small (by omega), show (128#32 : BitVec 32).toInt = 128 by decide, Int.bmod_eq_of_le] <;> omega
  have hu : IntOp.addi (IntOp.addi (BitVec.ofNat 32 (192 * (6 * j.val + g.val))) 192#32) 128#32
      = BitVec.ofNat 32 (192 * (6 * j.val + g.val) + 320) := by
    show BitVec.ofNat 32 _ + BitVec.ofNat 32 192 + BitVec.ofNat 32 128 = _
    rw [← BitVec.ofNat_add, ← BitVec.ofNat_add]
  rw [hu, slt_small (by omega) (by omega), WordCmp.cmpi_sge_eq, hl, toInt_small (by omega)]
  unfold Spec.window
  rw [and_bit]
  congr 1
  exact decide_eq_decide.2 (by omega)

/-- The mask of group `g` of the block. -/
def mask (j : ℕ) (g : Fin 6) (c : Fin 2048) : BitVec 1 :=
  IntOp.ori (IntOp.ori (BitVec.ofBool (decide (TopK.rank (score x0 x1 x4 g) c < 512))) (IntOp.cmpi .ne (x3 (ix4 0 0 g c)) 0#32))
    (Spec.window (6 * j + g.val) c)

/-- The first block: attention with all columns. -/
theorem dense_at (r : Fin 1152) (d : Fin 128) : k0_pay2 (k0_pay4 x0 x1) (k0_pay5 x0 x1) (k0_pay6 x2) (ix4 0 0 r d)
    = attend (row x0 x1 r) (fun c => x2 (ix4 0 0 c d)) := by
  have e : k0_pay2 (k0_pay4 x0 x1) (k0_pay5 x0 x1) (k0_pay6 x2) (ix4 0 0 r d)
      = Ideal.div (∑ c : Fin 2048, k0_pay4 x0 x1 (ix2 r c) * k0_pay6 x2 (ix2 c d)) (k0_pay5 x0 x1 (ix2 r 0)) := by
    generalize k0_pay4 x0 x1 = a
    generalize k0_pay5 x0 x1 = b
    generalize k0_pay6 x2 = w
    pointwise [k0_pay2, k0_pay1]
  rw [e]
  simp only [weight_at, total_at, value_at]
  rfl

/-- The second block, for any masks: the dense output less the output of the kept weights. -/
theorem difference_at (best near : IVec S6x1x2048 1) (drawn : IVec S6x2048 1) (r : Fin 1152) (d : Fin 128) :
    k0_pay3 (k0_pay4 x0 x1) (k0_pay5 x0 x1) (k0_pay6 x2) best near drawn (ix4 0 0 r d)
      = attend (row x0 x1 r) (fun c => x2 (ix4 0 0 c d))
        - kept (fun c => IntOp.ori (IntOp.ori (best (ix3 ⟨r.val / 192, by omega⟩ 0 c)) (drawn (ix2 ⟨r.val / 192, by omega⟩ c)))
            (near (ix3 ⟨r.val / 192, by omega⟩ 0 c))) (row x0 x1 r) (fun c => x2 (ix4 0 0 c d)) := by
  have e : k0_pay3 (k0_pay4 x0 x1) (k0_pay5 x0 x1) (k0_pay6 x2) best near drawn (ix4 0 0 r d)
      = Ideal.div (∑ c : Fin 2048, k0_pay4 x0 x1 (ix2 r c) * k0_pay6 x2 (ix2 c d)) (k0_pay5 x0 x1 (ix2 r 0))
        - Ideal.div (∑ c : Fin 2048, Scalar.select (IntOp.ori (IntOp.ori (best (ix3 ⟨r.val / 192, by omega⟩ 0 c))
              (drawn (ix2 ⟨r.val / 192, by omega⟩ c))) (near (ix3 ⟨r.val / 192, by omega⟩ 0 c)))
              (k0_pay4 x0 x1 (ix2 r c) * k0_pay6 x2 (ix2 c d)) 0)
            (∑ c : Fin 2048, Scalar.select (IntOp.ori (IntOp.ori (best (ix3 ⟨r.val / 192, by omega⟩ 0 c))
              (drawn (ix2 ⟨r.val / 192, by omega⟩ c))) (near (ix3 ⟨r.val / 192, by omega⟩ 0 c)))
              (k0_pay4 x0 x1 (ix2 r c)) 0) := by
    generalize k0_pay4 x0 x1 = a
    generalize k0_pay5 x0 x1 = b
    generalize k0_pay6 x2 = w
    pointwise [k0_pay3, k0_pay1]
  rw [e]
  simp only [weight_at, total_at, value_at]
  rfl

/-- The second block with the masks the kernel makes. -/
theorem cache_at (j : Fin 2) (r : Fin 1152) (d : Fin 128) :
    k0_pay3 (k0_pay4 x0 x1) (k0_pay5 x0 x1) (k0_pay6 x2)
      (selected (k0_pay7 x0 x1 x4) (iota .tc S1x16x1 32 [1] iota_S1x16x1_d1_w32) k0_pay8
        (iota .tc S1x1x2048 32 [2] iota_S1x1x2048_d2_w32))
      (k0_pay44 (BitVec.ofNat 32 j.val) (iota .tc S1x1x2048 32 [2] iota_S1x1x2048_d2_w32)) (k0_pay45 x3) (ix4 0 0 r d)
      = attend (row x0 x1 r) (fun c => x2 (ix4 0 0 c d))
        - kept (mask x0 x1 x3 x4 j.val ⟨r.val / 192, by omega⟩) (row x0 x1 r) (fun c => x2 (ix4 0 0 c d)) := by
  rw [difference_at]
  congr 2
  funext c
  rw [window_at, drawn_at, selected_at _ _ _ (key_at x0 x1 x4 _) (TopK.smaller_lt _)]
  unfold mask
  congr 4
  exact congrArg (· < 512) (TopK.rank_smaller (score x0 x1 x4 _) c)

/-! ## The two output blocks of a grid point -/

theorem out5_at (i : grid0.Coords) (r : Fin 1152) (d : Fin 128) : out0_5 i x0 x1 x2 x3 x4 (ix4 0 0 r d)
    = attend (row x0 x1 r) (fun c => x2 (ix4 0 0 c d)) := by
  rw [← dense_at]
  unfold_out out0_5
  frame_out

theorem out6_at (i : grid0.Coords) (j : Fin 2) (hj : (i 1).val = j.val) (r : Fin 1152) (d : Fin 128) :
    out0_6 i x0 x1 x2 x3 x4 (ix4 0 0 r d)
      = attend (row x0 x1 r) (fun c => x2 (ix4 0 0 c d))
        - kept (mask x0 x1 x3 x4 j.val ⟨r.val / 192, by omega⟩) (row x0 x1 r) (fun c => x2 (ix4 0 0 c d)) := by
  rw [← cache_at, ← hj]
  unfold_out out0_6
  frame_out
  rfl

end Cert.Block
-- ==== Proof.Arrays.lean ====
/- What the kernel leaves in its two output arrays: attention with all columns, and the difference of that and attention
   under the groups' masks, block after block over the arrays that the host code prepared. -/
module

public import proofs.«01_k».proof.Proof.HostArrays
public import proofs.«01_k».proof.Proof.Block

@[expose] public section

set_option maxRecDepth 16384

noncomputable section

namespace Cert.Arrays

open Cert.KernelIdeal Cert.KernelIdeal.Gen Idealize.ShloMosaic Idealize.ShloMosaic.TcCoe Cert.Softmax

variable (m : (ℓ : Loc nD τ sig) → Buf (Elt Ideal) ℓ) (c : Dev nD)

/-! ## The blocks of head `h` and half `j` -/

def rows (h : Fin 16) (j : Fin 2) : Vec Ideal S1x1x1152x128 .f32 :=
  fun y => (V m c main_v36 : Vec Ideal S1x16x2304x128 .f32) (ix4 0 h ⟨j.val * 1152 + (y 2).val, by have : (y 2).val < 1152 := (y 2).isLt; omega⟩ (y 3))

def keys (h : Fin 16) : Vec Ideal S1x1x2048x128 .f32 :=
  fun y => (m ((c.tc : Thread nD τ).loc main_arg1) : Vec Ideal S1x16x2048x128 .f32) (ix4 0 h (y 2) (y 3))

def vals (h : Fin 16) : Vec Ideal S1x1x2048x128 .f32 :=
  fun y => (m ((c.tc : Thread nD τ).loc main_arg2) : Vec Ideal S1x16x2048x128 .f32) (ix4 0 h (y 2) (y 3))

def drawn (h : Fin 16) (j : Fin 2) : Vec Ideal S1x1x6x2048 .i32 :=
  fun y => (V m c main_v14 : Vec Ideal S16x2x6x2048 .i32) (ix4 h j (y 2) (y 3))

def groups (j : Fin 2) : Vec Ideal S1x6x1152 .bf16 :=
  fun y => (V m c main_v35 : Vec Ideal S2x6x1152 .bf16) (ix3 j (y 1) (y 2))

theorem idx0 : ∀ t : Fin grid0.N, win0_0.index t = ![0, (grid0.coords t 0).val, (grid0.coords t 1).val, 0] :=
  (by decide +kernel : ∀ t : Fin grid0.N, _)
theorem idx1 : ∀ t : Fin grid0.N, win0_1.index t = ![0, (grid0.coords t 0).val, 0, 0] :=
  (by decide +kernel : ∀ t : Fin grid0.N, _)
theorem idx2 : ∀ t : Fin grid0.N, win0_2.index t = ![0, (grid0.coords t 0).val, 0, 0] :=
  (by decide +kernel : ∀ t : Fin grid0.N, _)
theorem idx3 : ∀ t : Fin grid0.N, win0_3.index t = ![(grid0.coords t 0).val, (grid0.coords t 1).val, 0, 0] :=
  (by decide +kernel : ∀ t : Fin grid0.N, _)
theorem idx4 : ∀ t : Fin grid0.N, win0_4.index t = ![(grid0.coords t 1).val, 0, 0] :=
  (by decide +kernel : ∀ t : Fin grid0.N, _)
theorem idx5 : ∀ t : Fin grid0.N, win0_5.index t = ![0, (grid0.coords t 0).val, (grid0.coords t 1).val, 0] :=
  (by decide +kernel : ∀ t : Fin grid0.N, _)
theorem idx6 : ∀ t : Fin grid0.N, win0_6.index t = ![0, (grid0.coords t 0).val, (grid0.coords t 1).val, 0] :=
  (by decide +kernel : ∀ t : Fin grid0.N, _)

theorem block0 (t : Fin grid0.N) : iblk m c 0 t = rows m c (grid0.coords t 0) (grid0.coords t 1) := by
  funext y
  unfold rows
  blk_ext [iblk, idx0 t]

theorem block1 (t : Fin grid0.N) : iblk m c 1 t = keys m c (grid0.coords t 0) := by
  funext y
  unfold keys
  refine Eq.trans ?_ (congrFun (V_main_arg1 m c) _)
  blk_ext [iblk, idx1 t]

theorem block2 (t : Fin grid0.N) : iblk m c 2 t = vals m c (grid0.coords t 0) := by
  funext y
  unfold vals
  refine Eq.trans ?_ (congrFun (V_main_arg2 m c) _)
  blk_ext [iblk, idx2 t]

theorem block3 (t : Fin grid0.N) : iblk m c 3 t = drawn m c (grid0.coords t 0) (grid0.coords t 1) := by
  funext y
  unfold drawn
  blk_ext [iblk, idx3 t]

theorem block4 (t : Fin grid0.N) : iblk m c 4 t = groups m c (grid0.coords t 1) := by
  funext y
  unfold groups
  blk_ext [iblk, idx4 t]

/-! ## The two output arrays -/

/-- The half of the padded rows that a row lies in, and its place there. -/
def half (s : Fin 2304) : Fin 2 := ⟨s.val / 1152, by omega⟩
def place (s : Fin 2304) : Fin 1152 := ⟨s.val % 1152, by omega⟩

def denseArray : Vec Ideal S1x16x2304x128 .f32 := fun i =>
  attend (Block.row (rows m c (i 1) (half (i 2))) (keys m c (i 1)) (place (i 2))) (fun x => vals m c (i 1) (ix4 0 0 x (i 3)))

def cacheArray : Vec Ideal S1x16x2304x128 .f32 := fun i =>
  denseArray m c i
    - kept (Block.mask (rows m c (i 1) (half (i 2))) (keys m c (i 1)) (drawn m c (i 1) (half (i 2))) (groups m c (half (i 2)))
          (half (i 2)).val ⟨(place (i 2)).val / 192, by omega⟩)
        (Block.row (rows m c (i 1) (half (i 2))) (keys m c (i 1)) (place (i 2))) (fun x => vals m c (i 1) (ix4 0 0 x (i 3)))

/-- Where an element of a block of the first output lies in its array. -/
theorem emb5 (t : Fin grid0.N) (r : Fin 1152) (d : Fin 128) :
    (((cfg0.win 5).blk t).view.emb (ix4 0 0 r d : S1x1x1152x128.Idx) : S1x16x2304x128.Idx)
      = ix4 0 (grid0.coords t 0) ⟨(grid0.coords t 1).val * 1152 + r.val, by have : (grid0.coords t 1).val < 2 := (grid0.coords t 1).isLt; omega⟩ d := by
  blk_ext [idx5 t]

theorem emb6 (t : Fin grid0.N) (r : Fin 1152) (d : Fin 128) :
    (((cfg0.win 6).blk t).view.emb (ix4 0 0 r d : S1x1x1152x128.Idx) : S1x16x2304x128.Idx)
      = ix4 0 (grid0.coords t 0) ⟨(grid0.coords t 1).val * 1152 + r.val, by have : (grid0.coords t 1).val < 2 := (grid0.coords t 1).isLt; omega⟩ d := by
  blk_ext [idx6 t]

theorem half_place (j : Fin 2) (r : Fin 1152) (h) : half ⟨j.val * 1152 + r.val, h⟩ = j ∧ place ⟨j.val * 1152 + r.val, h⟩ = r := by
  constructor <;> ext <;> simp only [half, place] <;> omega

theorem denseArray_at (h : Fin 16) (j : Fin 2) (r : Fin 1152) (d : Fin 128) :
    denseArray m c (ix4 0 h ⟨j.val * 1152 + r.val, by omega⟩ d)
      = attend (Block.row (rows m c h j) (keys m c h) r) (fun x => vals m c h (ix4 0 0 x d)) := by
  have hp := half_place j r (by omega)
  unfold denseArray
  show attend (Block.row (rows m c h (half ⟨j.val * 1152 + r.val, by omega⟩)) (keys m c h) (place ⟨j.val * 1152 + r.val, by omega⟩)) _ = _
  rw [hp.1, hp.2]
  rfl

theorem cacheArray_at (h : Fin 16) (j : Fin 2) (r : Fin 1152) (d : Fin 128) :
    cacheArray m c (ix4 0 h ⟨j.val * 1152 + r.val, by omega⟩ d)
      = attend (Block.row (rows m c h j) (keys m c h) r) (fun x => vals m c h (ix4 0 0 x d))
        - kept (Block.mask (rows m c h j) (keys m c h) (drawn m c h j) (groups m c j) j.val ⟨r.val / 192, by omega⟩)
            (Block.row (rows m c h j) (keys m c h) r) (fun x => vals m c h (ix4 0 0 x d)) := by
  rw [← denseArray_at]
  unfold cacheArray
  generalize denseArray m c = D
  have hp := half_place j r (by omega)
  show D _ - kept (Block.mask (rows m c h (half ⟨j.val * 1152 + r.val, by omega⟩)) (keys m c h) (drawn m c h (half ⟨j.val * 1152 + r.val, by omega⟩))
      (groups m c (half ⟨j.val * 1152 + r.val, by omega⟩)) (half ⟨j.val * 1152 + r.val, by omega⟩).val
      ⟨(place ⟨j.val * 1152 + r.val, by omega⟩).val / 192, by omega⟩)
    (Block.row (rows m c h (half ⟨j.val * 1152 + r.val, by omega⟩)) (keys m c h) (place ⟨j.val * 1152 + r.val, by omega⟩)) _ = _
  simp only [hp.1, hp.2]
  rfl

/-- The first output array. -/
theorem array5 : (dats m 0 c).arrAt 5 cfg0.N = denseArray m c := by
  refine (dats m 0 c).arrAt_eq_of_covers 5 _ (by decide +kernel) fun t hf y => ?_
  blk_simp
  rw [after0_5, block0, block1, block2]
  idx_vars y
  obtain rfl : y0 = 0 := Subsingleton.elim _ _
  obtain rfl : y1 = 0 := Subsingleton.elim _ _
  refine Eq.trans ?_ (congrArg (denseArray m c) (emb5 t y2 y3)).symm
  rw [Block.out5_at]
  exact (denseArray_at m c (grid0.coords t 0) (grid0.coords t 1) y2 y3).symm

/-- The second output array. -/
theorem array6 : (dats m 0 c).arrAt 6 cfg0.N = cacheArray m c := by
  refine (dats m 0 c).arrAt_eq_of_covers 6 _ (by decide +kernel) fun t hf y => ?_
  blk_simp
  rw [after0_6, block0, block1, block2, block3, block4]
  idx_vars y
  obtain rfl : y0 = 0 := Subsingleton.elim _ _
  obtain rfl : y1 = 0 := Subsingleton.elim _ _
  refine Eq.trans ?_ (congrArg (cacheArray m c) (emb6 t y2 y3)).symm
  rw [Block.out6_at _ _ _ _ _ _ (grid0.coords t 1) rfl]
  exact (cacheArray_at m c (grid0.coords t 0) (grid0.coords t 1) y2 y3).symm

/-! ## The arrays in terms of the arguments -/

/-- The queries, keys and values of head `h`, and its drawn columns. -/
def q (h : Fin 16) (s : Fin 2048) (d : Fin 128) : EReal := (m ((c.tc : Thread nD τ).loc main_arg0) : Vec Ideal S1x16x2048x128 .f32) (ix4 0 h s d)
def k (h : Fin 16) (s : Fin 2048) (d : Fin 128) : EReal := (m ((c.tc : Thread nD τ).loc main_arg1) : Vec Ideal S1x16x2048x128 .f32) (ix4 0 h s d)
def v (h : Fin 16) (s : Fin 2048) (d : Fin 128) : EReal := (m ((c.tc : Thread nD τ).loc main_arg2) : Vec Ideal S1x16x2048x128 .f32) (ix4 0 h s d)
def bits (h : Fin 16) (g : Fin 11) (x : Fin 2048) : BitVec 1 :=
  Spec.drawnBit (HostArrays.draws m c (ix4 0 h g x))

theorem row_eq (h : Fin 16) (j : Fin 2) (r : Fin 1152) (hr : j.val * 1152 + r.val < 2048) :
    Block.row (rows m c h j) (keys m c h) r = Spec.logits (q m c h ⟨j.val * 1152 + r.val, hr⟩) (k m c h) := by
  unfold Block.row
  congr 1
  funext d
  exact HostArrays.queries_at m c h ⟨j.val * 1152 + r.val, hr⟩ d

/-- The block's scores are the group's: rows of other groups and rows of padding count nothing. -/
theorem score_eq (h : Fin 16) (j : Fin 2) (g : Fin 6) :
    Block.score (rows m c h j) (keys m c h) (groups m c j) g = Spec.score (q m c h) (k m c h) (6 * j.val + g.val) := by
  funext x
  unfold Block.score Spec.score
  rw [← Finset.sum_filter]
  have e : ∀ r : Fin 1152, groups m c j (ix3 0 g r) * prob (Block.row (rows m c h j) (keys m c h) r) x
      = if r.val / 192 = g.val ∧ j.val * 1152 + r.val < 2048 then prob (Block.row (rows m c h j) (keys m c h) r) x else 0 := by
    intro r
    have := HostArrays.groups_at m c j g r
    rw [show groups m c j (ix3 0 g r) = _ from this]
    split_ifs <;> simp
  rw [Finset.sum_congr rfl fun r _ => e r, ← Finset.sum_filter]
  refine Finset.sum_bij' (fun r hr => (⟨j.val * 1152 + r.val, by simp at hr; omega⟩ : Fin 2048))
    (fun s hs => (⟨s.val - j.val * 1152, by simp at hs; omega⟩ : Fin 1152)) ?_ ?_ ?_ ?_ ?_
  · intro r hr; simp at hr ⊢; omega
  · intro s hs; simp at hs ⊢; omega
  · intro r hr; ext; simp
  · intro s hs; simp at hs; ext; simp; omega
  · intro r hr
    simp at hr
    rw [row_eq m c h j r hr.2]

theorem dense_row (h : Fin 16) (j : Fin 2) (r : Fin 1152) (hr : j.val * 1152 + r.val < 2048) (d : Fin 128) :
    attend (Block.row (rows m c h j) (keys m c h) r) (fun x => vals m c h (ix4 0 0 x d))
      = Spec.dense (q m c h) (k m c h) (v m c h) ⟨j.val * 1152 + r.val, hr⟩ d := by
  rw [row_eq m c h j r hr]
  rfl

theorem mask_eq (h : Fin 16) (j : Fin 2) (g : Fin 6) (hg : 6 * j.val + g.val < 11) :
    Block.mask (rows m c h j) (keys m c h) (drawn m c h j) (groups m c j) j.val g
      = Spec.mask (q m c h) (k m c h) (bits m c h ⟨6 * j.val + g.val, hg⟩) (6 * j.val + g.val) := by
  funext x
  have e : IntOp.cmpi .ne (drawn m c h j (ix4 0 0 g x)) 0#32 = bits m c h ⟨6 * j.val + g.val, hg⟩ x := by
    have := HostArrays.drawn_at m c h j g hg x
    rw [show drawn m c h j (ix4 0 0 g x) = _ from this]
    exact Words.ne_zero_bit _
  unfold Block.mask Spec.mask Spec.best
  rw [score_eq, e]

theorem cache_row (h : Fin 16) (j : Fin 2) (r : Fin 1152) (hr : j.val * 1152 + r.val < 2048) (d : Fin 128) :
    attend (Block.row (rows m c h j) (keys m c h) r) (fun x => vals m c h (ix4 0 0 x d))
        - kept (Block.mask (rows m c h j) (keys m c h) (drawn m c h j) (groups m c j) j.val ⟨r.val / 192, by omega⟩)
            (Block.row (rows m c h j) (keys m c h) r) (fun x => vals m c h (ix4 0 0 x d))
      = Spec.cache (q m c h) (k m c h) (v m c h) (bits m c h ⟨(j.val * 1152 + r.val) / 192, by omega⟩) ⟨j.val * 1152 + r.val, hr⟩ d := by
  have hg : 6 * j.val + r.val / 192 = (j.val * 1152 + r.val) / 192 := by omega
  rw [difference_eq, mask_eq m c h j ⟨r.val / 192, by omega⟩ (by simp only; omega), dense_row m c h j r hr, row_eq m c h j r hr]
  simp only [hg]
  rfl

/-- The first output at a row of the problem. -/
theorem dense_at (h : Fin 16) (s : Fin 2048) (d : Fin 128) :
    (dats m 0 c).arrAt 5 cfg0.N (ix4 0 h ⟨s.val, by omega⟩ d : S1x16x2304x128.Idx) = Spec.dense (q m c h) (k m c h) (v m c h) s d := by
  obtain ⟨j, r, e⟩ : ∃ (j : Fin 2) (r : Fin 1152), s.val = j.val * 1152 + r.val :=
    ⟨⟨s.val / 1152, by omega⟩, ⟨s.val % 1152, by omega⟩, by simp only; omega⟩
  obtain ⟨s, hs⟩ := s
  simp only at e
  subst e
  rw [array5]
  exact (denseArray_at m c h j r d).trans (dense_row m c h j r _ d)

/-- The second output at a row of the problem. -/
theorem cache_at (h : Fin 16) (s : Fin 2048) (d : Fin 128) :
    (dats m 0 c).arrAt 6 cfg0.N (ix4 0 h ⟨s.val, by omega⟩ d : S1x16x2304x128.Idx)
      = Spec.cache (q m c h) (k m c h) (v m c h) (bits m c h ⟨s.val / 192, by omega⟩) s d := by
  obtain ⟨j, r, e⟩ : ∃ (j : Fin 2) (r : Fin 1152), s.val = j.val * 1152 + r.val :=
    ⟨⟨s.val / 1152, by omega⟩, ⟨s.val % 1152, by omega⟩, by simp only; omega⟩
  obtain ⟨s, hs⟩ := s
  simp only at e
  subst e
  rw [array6]
  exact (cacheArray_at m c h j r d).trans (cache_row m c h j r _ d)

end Cert.Arrays
-- ==== Proof.KernelRun.lean ====
/- The kernel's run: the result is stacked from the two arrays that the launch leaves, and the arguments are kept. -/
module

public import proofs.«01_k».proof.Proof.Gen.KernelIdeal
public import proofs.«01_k».proof.Proof.Gen.KernelIdeal.Frame
public import Idealize.ShloMosaic.Lib.StableHlo.Run
public import Idealize.ShloMosaic.Lib.StableHlo.RunRead
public import Idealize.ShloMosaic.Lib.Pipeline.FrameSuffix

@[expose] public section

set_option maxRecDepth 16384

noncomputable section

namespace Cert.KernelRun

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Two padded arrays, without their rows of padding, as the halves of one. -/
def stacked (a b : Vec F S1x16x2304x128 .f32) : Vec F S2x1x16x2048x128 .f32 :=
  concatenate S2x1x16x2048x128 0
    [⟨S1x1x16x2048x128, broadcastInDim S1x1x16x2048x128 ![1, 2, 3, 4] bcast_S1x16x2048x128_S1x1x16x2048x128_1_2_3_4
        (extractStridedSlice S1x16x2048x128 ![0, 0, 0, 0] a slices_S1x16x2304x128_S1x16x2048x128_0_0_0_0)⟩,
      ⟨S1x1x16x2048x128, broadcastInDim S1x1x16x2048x128 ![1, 2, 3, 4] bcast_S1x16x2048x128_S1x1x16x2048x128_1_2_3_4
        (extractStridedSlice S1x16x2048x128 ![0, 0, 0, 0] b slices_S1x16x2304x128_S1x16x2048x128_0_0_0_0)⟩]
    concatenates_S1x1x16x2048x128_S1x1x16x2048x128_S2x1x16x2048x128_d0

/-- The operations after the launch stack its two arrays. -/
theorem tail (W : Valuation τ sig (Elt F)) : after (List.flatten [hostOps1]) W (Proc.devRef .tc main_v42)
    = stacked (W (Proc.devRef .tc main_v37_0)) (W (Proc.devRef .tc main_v37_1)) := by
  simp only [hostOps1, List.flatten_cons, List.flatten_nil, List.append_nil, List.cons_append, List.nil_append]
  after_results
  rfl

/-- The contents in which the launch leaves the device. -/
abbrev left (c : Dev nD) : Valuation τ sig (Elt F) := Pipeline.withArrays spec0 c (V0 m c) fun w => (dats m 0 c).arrAt w cfg0.N

theorem result (c : Dev nD) : Pipeline.afterTail₀ cfgs (dats m) 0 (V0 m) [hostOps1] c main_v42
    = stacked ((dats m 0 c).arrAt 5 cfg0.N) ((dats m 0 c).arrAt 6 cfg0.N) := by
  have e5 : left m c (Proc.devRef .tc main_v37_0) = (dats m 0 c).arrAt 5 cfg0.N :=
    Pipeline.withArrays_arr spec0 launch0.win.arr_inj c (V0 m c) _ 5
  have e6 : left m c (Proc.devRef .tc main_v37_1) = (dats m 0 c).arrAt 6 cfg0.N :=
    Pipeline.withArrays_arr spec0 launch0.win.arr_inj c (V0 m c) _ 6
  exact (tail (left m c)).trans (by rw [e5, e6])

theorem run (ρ : Dev nD → PrngReg) :
    θ_run defs (onTc (τ := τ) (main (F := F))) ⟨m, fun _ => 0, ρ⟩ fun r => ∀ c : Dev nD,
      r.2.mem ((c.tc : Thread nD τ).loc main_v42) = stacked ((dats m 0 c).arrAt 5 cfg0.N) ((dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v42 (Pipeline.mem_restRefs_of main_v42 (by decide) (by decide))).trans (result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.KernelRun
-- ==== Proof.RefEnds.lean ====
/- What the reference's buffers hold at the end of a run, each in terms of the buffers that its operation reads. -/
module

public import proofs.«01_k».proof.Proof.RefRun
public import Idealize.ShloMosaic.Lib.Pipeline.ValueKit
public import Idealize.ShloMosaic.Lib.Claim

@[expose] public section

set_option maxRecDepth 65536

noncomputable section

namespace Cert.RefEnds

open Cert.ReferenceIdeal Cert.ReferenceIdeal.Gen Idealize.ShloMosaic Idealize.ShloMosaic.TcCoe Idealize.ShloMosaic.StableHlo Cert.Line

variable (V : Valuation τ sig (Elt Ideal))

/-- What buffer `y` holds at the end, from the contents `V`. -/
def ends (y : Ref sig .tc) : y.ty.Contents (Elt Ideal) := after RefLine.ops V (Proc.devRef .tc y)

variable {x a b c : Ref sig .tc} (y : Ref sig .tc)

theorem nullary {v : y.ty.Contents (Elt Ideal)} {hy}
    (e : (RefLine.ops (F := Ideal))[y.idx.val - 3]? = some (StableHlo.nullary y v hy)) : ends V y = v := RefRun.line.nullary V y e

theorem unary {f : x.ty.Contents (Elt Ideal) → y.ty.Contents (Elt Ideal)} {hx hy}
    (e : (RefLine.ops (F := Ideal))[y.idx.val - 3]? = some (StableHlo.unary x y f hx hy)) (bx : Before x y.idx.val := by decide) :
    ends V y = f (ends V x) := RefRun.line.unary V y e bx

theorem binary {f : a.ty.Contents (Elt Ideal) → b.ty.Contents (Elt Ideal) → y.ty.Contents (Elt Ideal)} {ha hb hy}
    (e : (RefLine.ops (F := Ideal))[y.idx.val - 3]? = some (StableHlo.binary a b y f ha hb hy)) (ba : Before a y.idx.val := by decide)
    (bb : Before b y.idx.val := by decide) : ends V y = f (ends V a) (ends V b) := RefRun.line.binary V y e ba bb

theorem ternary {f : c.ty.Contents (Elt Ideal) → a.ty.Contents (Elt Ideal) → b.ty.Contents (Elt Ideal) → y.ty.Contents (Elt Ideal)}
    {hc ha hb hy} (e : (RefLine.ops (F := Ideal))[y.idx.val - 3]? = some (StableHlo.ternary c a b y f hc ha hb hy))
    (bc : Before c y.idx.val := by decide) (ba : Before a y.idx.val := by decide) (bb : Before b y.idx.val := by decide) :
    ends V y = f (ends V c) (ends V a) (ends V b) := RefRun.line.ternary V y e bc ba bb

theorem nary {n : ℕ} {xs : Fin n → Ref sig .tc} {f : ((i : Fin n) → (xs i).ty.Contents (Elt Ideal)) → y.ty.Contents (Elt Ideal)} {hxs hy}
    (e : (RefLine.ops (F := Ideal))[y.idx.val - 3]? = some (StableHlo.nary xs y f hxs hy))
    (bx : ∀ i, Before (xs i) y.idx.val := by decide) : ends V y = f fun i => ends V (xs i) := RefRun.line.nary V y e bx

theorem reshape {he hn hx hy}
    (e : (RefLine.ops (F := Ideal))[y.idx.val - 3]? = some (StableHlo.reshape x y he hn hx hy)) (bx : Before x y.idx.val := by decide) :
    ends V y = fun i => he ▸ shapeCast y.ty.shape (ends V x) hn i := RefRun.line.reshape V y e bx

/-! ## The arrays that the proofs speak of -/

def x0 : Vec Ideal S1x16x2048x128 .f32 := ends V main_arg0
def x1 : Vec Ideal S1x16x2048x128 .f32 := ends V main_arg1
def x2 : Vec Ideal S1x16x2048x128 .f32 := ends V main_arg2
/-- The draws. -/
def x3 : Vec Ideal S1x16x11x2048 .f32 := ends V main_v65
def v2 : Vec Ideal S1x16x2048x2048 .f32 := ends V main_v2
def v3 : Vec Ideal S1x16x2048 .f32 := ends V main_v3
def v7 : Vec Ideal S1x16x2048x2048 .f32 := ends V main_v7
def v8 : Vec Ideal S1x16x2048 .f32 := ends V main_v8
def v12 : Vec Ideal S1x16x2048x128 .f32 := ends V main_v12
def v16 : IVec S2048 32 := ends V main_v16
def v17 : Vec Ideal S2048x11 .f32 := ends V main_v17
def v19 : Vec Ideal S1x16x11x2048 .f32 := ends V main_v19
def indices : IVec S1x16x11x512 32 := ends V main_indices
def v54 : IVec S1x16x11x512x4 32 := ends V main_v54
def v56 : IVec S1x16x11x2048 1 := ends V main_v56
def v86 : IVec S11x2048 1 := ends V main_v86
def v90 : IVec S1x16x11x2048 1 := ends V main_v90
def v93 : IVec S1x16x2048x2048 1 := ends V main_v93
def v96 : Vec Ideal S1x16x2048x2048 .f32 := ends V main_v96
def v97 : Vec Ideal S1x16x2048x2048 .f32 := ends V main_v97
def v98 : Vec Ideal S1x16x2048 .f32 := ends V main_v98
def v100 : Vec Ideal S1x16x2048x2048 .f32 := ends V main_v100
def v102 : Vec Ideal S1x16x2048x2048 .f32 := ends V main_v102
def v103 : Vec Ideal S1x16x2048 .f32 := ends V main_v103
def v107 : Vec Ideal S1x16x2048x128 .f32 := ends V main_v107
def v111 : Vec Ideal S2x1x16x2048x128 .f32 := ends V main_v111

end Cert.RefEnds
-- ==== Proof.RefScores.lean ====
/- The reference up to the scores: its logits, the softmax over all columns, the dense output, and the scores that the rows
   of each group give to the columns. -/
module

public import proofs.«01_k».proof.Proof.RefEnds
public import proofs.«01_k».proof.Proof.Words
public import proofs.«01_k».proof.Proof.Spec
public import Idealize.ShloMosaic.Lib.Pipeline.ValueKit
public import Idealize.ShloMosaic.Lib.Tactic.CleanTypes
public import Idealize.ShloMosaic.Lib.Routing.Words

@[expose] public section

set_option maxRecDepth 65536

noncomputable section

namespace Cert.RefScores

open Cert.ReferenceIdeal Cert.ReferenceIdeal.Gen Idealize.ShloMosaic Cert.Words Cert.Softmax Cert.RefEnds

variable (V : Valuation τ sig (Elt Ideal))

/-- One head's rows of an argument. -/
def head (x : Vec Ideal S1x16x2048x128 .f32) (h : Fin 16) (s : Fin 2048) (d : Fin 128) : EReal := x (ix4 0 h s d)

/-- The logits of a row. -/
def lg (h : Fin 16) (s : Fin 2048) : Fin 2048 → EReal := Spec.logits (head (x0 V) h s) (head (x1 V) h)

theorem logits_at (h : Fin 16) (s c : Fin 2048) : v2 V (ix4 0 h s c) = lg V h s c := by
  unfold v2 lg x0 x1
  rw [binary V main_v2 rfl, unary V main_v1 rfl, nullary V main_cst rfl, binary V main_v0 rfl]
  generalize ends V main_arg0 = a
  generalize ends V main_arg1 = b
  clean_types
  pointwise []
  rfl

theorem top_at (h : Fin 16) (s : Fin 2048) : v3 V (ix3 0 h s) = top (lg V h s) := by
  rw [show lg V h s = fun c => v2 V (ix4 0 h s c) from funext fun c => (logits_at V h s c).symm]
  unfold v3 v2
  rw [binary V main_v3 rfl, nullary V main_cst_0 rfl]
  generalize ends V main_v2 = l
  clean_types
  pointwise []
  rfl

theorem weight_at (h : Fin 16) (s c : Fin 2048) : v7 V (ix4 0 h s c) = weight (lg V h s) c := by
  have e : v7 V (ix4 0 h s c) = Ideal.exp (v2 V (ix4 0 h s c) - v3 V (ix3 0 h s)) := by
    unfold v7 v2 v3
    rw [unary V main_v7 rfl, binary V main_v6 rfl, unary V main_v5 rfl, unary V main_v4 rfl]
    generalize ends V main_v2 = l
    generalize ends V main_v3 = t
    clean_types
    pointwise []
  rw [e, logits_at, top_at]
  rfl

theorem total_at (h : Fin 16) (s : Fin 2048) : v8 V (ix3 0 h s) = total (lg V h s) := by
  have e : v8 V (ix3 0 h s) = ∑ c, v7 V (ix4 0 h s c) := by
    unfold v8 v7
    rw [binary V main_v8 rfl, nullary V main_cst_1 rfl]
    generalize ends V main_v7 = l
    clean_types
    pointwise []
  simp only [e, weight_at]
  rfl

/-- The dense output. -/
theorem dense_at (h : Fin 16) (s : Fin 2048) (d : Fin 128) : v12 V (ix4 0 h s d)
    = Spec.dense (head (x0 V) h) (head (x1 V) h) (head (x2 V) h) s d := by
  have e : v12 V (ix4 0 h s d) = Ideal.div (∑ c, v7 V (ix4 0 h s c) * x2 V (ix4 0 h c d)) (v8 V (ix3 0 h s)) := by
    unfold v12 v7 v8 x2
    rw [binary V main_v12 rfl, binary V main_v10 rfl, unary V main_v11 rfl, unary V main_v9 rfl]
    generalize ends V main_v7 = l
    generalize ends V main_v8 = t
    generalize ends V main_arg2 = x
    clean_types
    pointwise []
  simp only [e, weight_at, total_at]
  rfl

/-- The number of a row's group. -/
theorem quotient_at (s : Fin 2048) : v16 V (ix1 s) = BitVec.ofNat 32 (s.val / 192) := by
  have e : v16 V = Routing.pyDiv bcast_S_S2048 (iotaInDim S2048 32 0) (constantI S_ 32 192#32) := by
    unfold v16
    rw [ternary V main_v16 rfl, binary V main_call0_v13 rfl, unary V main_call0_v12 rfl, nullary V main_call0_c_0 rfl,
      binary V main_call0_v11 rfl, binary V main_call0_v10 rfl, unary V main_call0_v9 rfl, nullary V main_call0_c rfl,
      binary V main_call0_v8 rfl, unary V main_call0_v7 rfl, binary V main_call0_v6 rfl, unary V main_call0_v5 rfl,
      unary V main_call0_v4 rfl, unary V main_call0_v3 rfl, binary V main_call0_v2 rfl, unary V main_call0_v1 rfl,
      unary V main_call0_v0 rfl, nullary V main_c rfl, nullary V main_v15 rfl]
    simp -implicitDefEqProofs only [StableHlo.TRef.toBuf, StableHlo.TRef.ofBuf, cast_cast, cast_eq]
    clean_types
    rfl
  rw [e]
  exact Routing.pyDiv_ap _ _ _ _ (by pointwise []) rfl (by omega) (by omega) (by omega)

/-- The one-hot row of a row's group. -/
theorem group_at (s : Fin 2048) (g : Fin 11) : v17 V (ix2 s g) = (if s.val / 192 = g.val then 1 else 0 : EReal) := by
  have e : v17 V (ix2 s g) = ((BitVec.toNat (IntOp.cmpi .eq (v16 V (ix1 s)) (BitVec.ofNat 32 g.val)) : ℝ) : EReal) := by
    unfold v17 v16
    rw [unary V main_v17 rfl, binary V main_call1_v4 rfl, unary V main_call1_v3 rfl, unary V main_call1_v2 rfl,
      unary V main_call1_v0 rfl, nullary V main_call1_v1 rfl]
    simp -implicitDefEqProofs only [StableHlo.TRef.toBuf, StableHlo.TRef.ofBuf, cast_cast, cast_eq]
    generalize ends V main_v16 = q
    clean_types
    pointwise []
    rfl
  rw [e, quotient_at, eq_small (by omega) (by omega)]
  by_cases q : s.val / 192 = g.val
  · rw [if_pos q, decide_eq_true q]
    norm_num
    rfl
  · rw [if_neg q, decide_eq_false q]
    norm_num

/-- The scores. -/
theorem score_at (h : Fin 16) (g : Fin 11) (c : Fin 2048) : v19 V (ix4 0 h g c) = Spec.score (head (x0 V) h) (head (x1 V) h) g.val c := by
  have e : v19 V (ix4 0 h g c) = ∑ s, Ideal.div (v7 V (ix4 0 h s c)) (v8 V (ix3 0 h s)) * v17 V (ix2 s g) := by
    unfold v19 v7 v8 v17
    rw [unary V main_v19 rfl, binary V main_v18 rfl, binary V main_v14 rfl, unary V main_v13 rfl, unary V main_v9 rfl]
    generalize ends V main_v7 = l
    generalize ends V main_v8 = t
    generalize ends V main_v17 = o
    clean_types
    pointwise []
  rw [e]
  refine Finset.sum_congr rfl fun s _ => ?_
  rw [weight_at, total_at, group_at]
  split_ifs
  · exact mul_one _
  · exact mul_zero _

end Cert.RefScores
-- ==== Proof.RefBest.lean ====
/- The reference's best columns: the scatter of a set bit to the 512 columns that `top_k` returns for each group. -/
module

public import proofs.«01_k».proof.Proof.RefScores
public import Idealize.ShloMosaic.Lib.Routing.OpsSet
public import Idealize.ShloMosaic.Lib.Routing.OpsPair

@[expose] public section

set_option maxRecDepth 65536

noncomputable section

namespace Cert.RefBest

open Cert.ReferenceIdeal Cert.ReferenceIdeal.Gen Idealize.ShloMosaic Cert.Words Cert.RefEnds Cert.RefScores

variable (V : Valuation τ sig (Elt Ideal))

/-- The `j`-th of the indices is the position that a stable sort by score, largest first, puts at place `j`. -/
theorem index_at (h : Fin 16) (g : Fin 11) (j : Fin 512) : indices V (ix4 0 h g j)
    = BitVec.ofNat 32 (sortedFrom (TopK.larger (Spec.score (head (x0 V) h) (head (x1 V) h) g.val)) ⟨j.val, by omega⟩).val := by
  have e : (fun a b : Fin 2048 => FloatOps.cmpfTotal (F := Ideal) (φ := .f32) .gt (v19 V (ix4 0 h g a)) (v19 V (ix4 0 h g b)) == 1#1)
      = TopK.larger (Spec.score (head (x0 V) h) (head (x1 V) h) g.val) := by
    funext a b
    rw [score_at, score_at]
    show (BitVec.ofBool (decide (_ < _)) == 1#1) = decide (_ < _)
    by_cases q : Spec.score (head (x0 V) h) (head (x1 V) h) g.val b < Spec.score (head (x0 V) h) (head (x1 V) h) g.val a
    · rw [decide_eq_true q]; rfl
    · rw [decide_eq_false q]; rfl
  rw [← e]
  unfold indices v19
  rw [unary V main_indices rfl]
  generalize ends V main_v19 = b
  clean_types
  have along : ∀ (c k : Fin 2048), Shape.Idx.along (ix4 0 h g c : S1x16x11x2048.Idx) (3 : Fin 4) k = ix4 0 h g k := fun c k => by
    funext a
    fin_cases a <;> rfl
  unfold Host.topK Host.sort2
  simp only [dif_pos (show 3 < S1x16x11x2048.rank by decide)]
  pointwise []
  simp only [along]
  rfl

/-- The wrap of negative indices leaves a small one as it is. -/
theorem wrap_small {a : ℕ} (w : BitVec 32) (h : a < 2 ^ 31) :
    Scalar.select (IntOp.cmpi .slt (BitVec.ofNat 32 a) 0#32) w (BitVec.ofNat 32 a) = BitVec.ofNat 32 a :=
  Routing.wrap_of_lt _ _ (by rw [BitVec.toNat_ofNat]; omega)

/-- The four words that say where update `j` of a group goes: its head, its group and the column. -/
theorem words_at (h : Fin 16) (g : Fin 11) (j : Fin 512) :
    v54 V (ix5 0 h g j 0) = 0#32
    ∧ v54 V (ix5 0 h g j 1) = BitVec.ofNat 32 h.val
    ∧ v54 V (ix5 0 h g j 2) = BitVec.ofNat 32 g.val
    ∧ v54 V (ix5 0 h g j 3) = indices V (ix4 0 h g j) := by
  have e : v54 V = concatenate S1x16x11x512x4 4 [⟨S1x16x11x512x1, (ends V main_v50 : IVec S1x16x11x512x1 32)⟩,
      ⟨S1x16x11x512x1, (ends V main_v51 : IVec S1x16x11x512x1 32)⟩, ⟨S1x16x11x512x1, (ends V main_v52 : IVec S1x16x11x512x1 32)⟩,
      ⟨S1x16x11x512x1, (ends V main_v53 : IVec S1x16x11x512x1 32)⟩]
      concatenates_S1x16x11x512x1_S1x16x11x512x1_S1x16x11x512x1_S1x16x11x512x1_S1x16x11x512x4_d4 := nary V main_v54 rfl
  have i := index_at V h g j
  unfold indices at i ⊢
  refine ⟨?_, ?_, ?_, ?_⟩
  · rw [e, unary V main_v50 rfl, unary V main_v47 rfl, ternary V main_v31 rfl, binary V main_v28 rfl, binary V main_v30 rfl,
      unary V main_v27 rfl, unary V main_v29 rfl, unary V main_v22 rfl, nullary V main_v21 rfl, nullary V main_c_3 rfl, nullary V main_c_4 rfl]
    clean_types
    pointwise []
    rfl
  · rw [e, unary V main_v51 rfl, unary V main_v48 rfl, ternary V main_v36 rfl, binary V main_v33 rfl, binary V main_v35 rfl,
      unary V main_v32 rfl, unary V main_v34 rfl, unary V main_v24 rfl, nullary V main_v23 rfl, nullary V main_c_5 rfl, nullary V main_c_6 rfl]
    clean_types
    pointwise []
    exact wrap_small _ (by omega)
  · rw [e, unary V main_v52 rfl, unary V main_v49 rfl, ternary V main_v41 rfl, binary V main_v38 rfl, binary V main_v40 rfl,
      unary V main_v37 rfl, unary V main_v39 rfl, unary V main_v26 rfl, nullary V main_v25 rfl, nullary V main_c_7 rfl, nullary V main_c_8 rfl]
    clean_types
    pointwise []
    exact wrap_small _ (by omega)
  · rw [e, unary V main_v53 rfl, ternary V main_v46 rfl, binary V main_v43 rfl, binary V main_v45 rfl, unary V main_v42 rfl,
      unary V main_v44 rfl, nullary V main_c_9 rfl, nullary V main_c_10 rfl]
    generalize ends V main_indices = b at i ⊢
    clean_types
    pointwise []
    rw [i]
    exact wrap_small _ (by omega)

theorem lands_iff (idx : IVec S1x16x11x512x4 32) (h h' : Fin 16) (g g' : Fin 11) (j : Fin 512) (c : Fin 2048) :
    scatter_S1x16x11x2048_S1x16x11x512x4_S1x16x11x512_n_0123_0123_4.resultIdx? (ix4 0 h' g' j) idx = some (ix4 0 h g c)
      ↔ (idx (ix5 0 h' g' j 0)).toInt = 0 ∧ (idx (ix5 0 h' g' j 1)).toInt = h.val ∧ (idx (ix5 0 h' g' j 2)).toInt = g.val
        ∧ (idx (ix5 0 h' g' j 3)).toInt = c.val := by
  have hs : ∀ q : Fin 4, scatter_S1x16x11x2048_S1x16x11x512x4_S1x16x11x512_n_0123_0123_4.start (ix4 0 h' g' j) idx q = (idx (ix5 0 h' g' j q)).toInt := by
    intro q
    unfold ScatterDims.start
    rw [dif_pos (by fin_cases q <;> decide)]
    congr 2
    fin_cases q <;> (funext b; fin_cases b <;> rfl)
  have hw : ∀ q : Fin 4, scatter_S1x16x11x2048_S1x16x11x512x4_S1x16x11x512_n_0123_0123_4.window (ix4 0 h' g' j) q = 0 := by
    intro q
    unfold ScatterDims.window
    rw [dif_neg (by fin_cases q <;> decide)]
  rw [Routing.resultIdx?_eq_some]
  constructor
  · intro H
    have H0 := H 0
    have H1 := H 1
    have H2 := H 2
    have H3 := H 3
    rw [hs, hw] at H0 H1 H2 H3
    exact ⟨by simpa using H0, by simpa using H1, by simpa using H2, by simpa using H3⟩
  · rintro ⟨H0, H1, H2, H3⟩ a
    rw [hs, hw]
    fin_cases a
    · simpa using H0
    · simpa using H1
    · simpa using H2
    · simpa using H3

theorem toInt_eq {a b : ℕ} (ha : a < 2 ^ 31) : (BitVec.ofNat 32 a).toInt = (b : ℤ) ↔ a = b := by
  rw [toInt_small ha]
  exact Int.ofNat_inj

/-- A column's bit is set exactly when the column is among the group's best. -/
theorem best_at (h : Fin 16) (g : Fin 11) (c : Fin 2048) : v56 V (ix4 0 h g c)
    = Spec.best (head (x0 V) h) (head (x1 V) h) g.val c := by
  have lands : ∀ (h' : Fin 16) (g' : Fin 11) (j : Fin 512),
      scatter_S1x16x11x2048_S1x16x11x512x4_S1x16x11x512_n_0123_0123_4.resultIdx? (ix4 0 h' g' j) (v54 V) = some (ix4 0 h g c)
        ↔ h' = h ∧ g' = g ∧ sortedFrom (TopK.larger (Spec.score (head (x0 V) h') (head (x1 V) h') g'.val)) ⟨j.val, by omega⟩ = c := by
    intro h' g' j
    obtain ⟨w0, w1, w2, w3⟩ := words_at V h' g' j
    rw [lands_iff, w0, w1, w2, w3, index_at, toInt_eq (by omega), toInt_eq (by omega), toInt_eq (by omega)]
    constructor
    · rintro ⟨_, e1, e2, e3⟩
      exact ⟨Fin.ext e1, Fin.ext e2, Fin.ext e3⟩
    · rintro ⟨rfl, rfl, rfl⟩
      exact ⟨by decide, rfl, rfl, rfl⟩
  have e : v56 V = Host.scatter scatter_S1x16x11x2048_S1x16x11x512x4_S1x16x11x512_n_0123_0123_4 (fun _ b => b)
      (broadcastInDim S1x16x11x2048 ![] bcast_S_S1x16x11x2048 (constantI S_ 1 0#1)) (v54 V)
      (broadcastInDim S1x16x11x512 ![] bcast_S_S1x16x11x512 (constantI S_ 1 1#1)) := by
    unfold v56 v54
    rw [ternary V main_v56 rfl, unary V main_v20 rfl, nullary V main_c_2 rfl, unary V main_v55 rfl, nullary V main_c_11 rfl]
  rw [e]
  unfold Spec.best
  by_cases q : TopK.rank (Spec.score (head (x0 V) h) (head (x1 V) h) g.val) c < 512
  · rw [decide_eq_true q]
    obtain ⟨j, hj, e⟩ := (TopK.mem_first_iff _ 512 c).2 q
    exact Routing.scatter_set_hit _ _ _ _ _ 1#1 (fun k _ => by pointwise []) (ix4 0 h g ⟨j.val, hj⟩) ((lands h g ⟨j.val, hj⟩).2 ⟨rfl, rfl, e⟩)
  · rw [decide_eq_false q]
    refine (Routing.scatter_set_miss _ _ _ _ _ fun k hk => q ?_).trans (by pointwise []; rfl)
    idx_vars k
    obtain rfl : k0 = 0 := Subsingleton.elim _ _
    obtain ⟨rfl, rfl, e⟩ := (lands k1 k2 k3).1 hk
    exact (TopK.mem_first_iff _ 512 c).1 ⟨_, k3.isLt, e⟩

end Cert.RefBest
-- ==== Proof.RefOut.lean ====
/- The reference's result: the mask of every group, attention under the mask of a row's group, and the two stacked outputs. -/
module

public import proofs.«01_k».proof.Proof.RefBest

@[expose] public section

set_option maxRecDepth 65536

noncomputable section

namespace Cert.RefOut

open Cert.ReferenceIdeal Cert.ReferenceIdeal.Gen Idealize.ShloMosaic Cert.Words Cert.Softmax Cert.RefEnds Cert.RefScores

variable (V : Valuation τ sig (Elt Ideal))

/-- The drawn columns of a group. -/
def bits (h : Fin 16) (g : Fin 11) (c : Fin 2048) : BitVec 1 := Spec.drawnBit (x3 V (ix4 0 h g c))

theorem window_at (g : Fin 11) (c : Fin 2048) : v86 V (ix2 g c) = Spec.window g.val c := by
  unfold v86
  rw [binary V main_v86 rfl, binary V main_v78 rfl, binary V main_v85 rfl, unary V main_v76 rfl, unary V main_v77 rfl, unary V main_v83 rfl,
    unary V main_v84 rfl, binary V main_v75 rfl, binary V main_v82 rfl, unary V main_v81 rfl, binary V main_v80 rfl, unary V main_v79 rfl,
    unary V main_v74 rfl, unary V main_v73 rfl, binary V main_v72 rfl, unary V main_v71 rfl, nullary V main_v70 rfl, unary V main_v69 rfl,
    nullary V main_v68 rfl, nullary V main_c_19 rfl, nullary V main_c_20 rfl, nullary V main_c_21 rfl, nullary V main_c_22 rfl]
  clean_types
  pointwise []
  have hm : IntOp.muli (BitVec.ofNat 32 g.val) 192#32 = BitVec.ofNat 32 (192 * g.val) := by
    show BitVec.ofNat 32 g.val * BitVec.ofNat 32 192 = _
    rw [← BitVec.ofNat_mul, Nat.mul_comm]
  rw [hm]
  have hl : (IntOp.subi (BitVec.ofNat 32 (192 * g.val)) 128#32).toInt = (192 * g.val : ℕ) - 128 := by
    show (BitVec.ofNat 32 (192 * g.val) - 128#32).toInt = _
    rw [BitVec.toInt_sub, toInt_small (by omega), show (128#32 : BitVec 32).toInt = 128 by decide, Int.bmod_eq_of_le] <;> omega
  have hu : IntOp.addi (IntOp.addi (BitVec.ofNat 32 (192 * g.val)) 192#32) 128#32 = BitVec.ofNat 32 (192 * g.val + 320) := by
    show BitVec.ofNat 32 _ + BitVec.ofNat 32 192 + BitVec.ofNat 32 128 = _
    rw [← BitVec.ofNat_add, ← BitVec.ofNat_add]
  rw [hu, slt_small (by omega) (by omega), WordCmp.cmpi_sge_eq, hl, toInt_small (by omega)]
  unfold Spec.window
  rw [and_bit]
  congr 1
  exact decide_eq_decide.2 (by omega)

theorem mask_at (h : Fin 16) (g : Fin 11) (c : Fin 2048) : v90 V (ix4 0 h g c)
    = Spec.mask (head (x0 V) h) (head (x1 V) h) (bits V h g) g.val c := by
  unfold Spec.mask bits
  rw [← window_at V, ← RefBest.best_at]
  unfold v90 v86 v56 x3
  rw [binary V main_v90 rfl, unary V main_v89 rfl, unary V main_v88 rfl, binary V main_v87 rfl, binary V main_v67 rfl, unary V main_v66 rfl,
    nullary V main_cst_18 rfl]
  have key : ∀ (a : IVec S11x2048 1) (b : IVec S1x16x11x2048 1) (u : Vec Ideal S1x16x11x2048 .f32),
      ori (ori b (cmpf .olt u (broadcastInDim S1x16x11x2048 ![] bcast_S_S1x16x11x2048 (constant (F := Ideal) S_ .f32 0x3C23D70A#32))))
        (broadcastInDim S1x16x11x2048 ![0, 1, 2, 3] bcast_S1x1x11x2048_S1x16x11x2048_0_1_2_3
          (broadcastInDim S1x1x11x2048 ![2, 3] bcast_S11x2048_S1x1x11x2048_2_3 a)) (ix4 0 h g c)
      = IntOp.ori (IntOp.ori (b (ix4 0 h g c)) (Spec.drawnBit (u (ix4 0 h g c)))) (a (ix2 g c)) := by
    intro a b u
    pointwise []
    rfl
  exact key _ _ _

theorem rows_at (h : Fin 16) (s c : Fin 2048) : v93 V (ix4 0 h s c)
    = v90 V (ix4 0 h ⟨s.val / 192, by omega⟩ c) := by
  unfold v93 v90
  rw [unary V main_v93 rfl, reshape V main_v92 rfl, unary V main_v91 rfl]
  generalize ends V main_v90 = b
  clean_types
  pointwise []

/-- The logits of a row with the columns off its group's mask hidden. -/
def hidden (h : Fin 16) (s : Fin 2048) : Fin 2048 → EReal :=
  hide (Spec.mask (head (x0 V) h) (head (x1 V) h) (bits V h ⟨s.val / 192, by omega⟩) (s.val / 192)) (lg V h s)

theorem logits_again (h : Fin 16) (s c : Fin 2048) : v96 V (ix4 0 h s c) = lg V h s c := by
  unfold v96 lg x0 x1
  rw [binary V main_v96 rfl, unary V main_v95 rfl, nullary V main_cst_23 rfl, binary V main_v94 rfl]
  generalize ends V main_arg0 = a
  generalize ends V main_arg1 = b
  clean_types
  pointwise []
  rfl

theorem hidden_at (h : Fin 16) (s c : Fin 2048) : v97 V (ix4 0 h s c) = hidden V h s c := by
  have e : v97 V (ix4 0 h s c) = Scalar.select (v93 V (ix4 0 h s c))
      (v96 V (ix4 0 h s c)) bottom := by
    unfold v97 v93 v96
    rw [ternary V main_v97 rfl, unary V main_call4_v1 rfl, unary V main_call4_v0 rfl, nullary V main_cst_24 rfl]
    simp -implicitDefEqProofs only [StableHlo.TRef.toBuf, StableHlo.TRef.ofBuf, cast_cast, cast_eq]
    generalize ends V main_v93 = a
    generalize ends V main_v96 = b
    clean_types
    pointwise []
    rfl
  rw [e, rows_at, mask_at]
  rw [logits_again]
  rfl

theorem top_at (h : Fin 16) (s : Fin 2048) : v98 V (ix3 0 h s) = top (hidden V h s) := by
  rw [show hidden V h s = fun c => v97 V (ix4 0 h s c) from funext fun c => (hidden_at V h s c).symm]
  unfold v98 v97
  rw [binary V main_v98 rfl, nullary V main_cst_25 rfl]
  generalize ends V main_v97 = l
  clean_types
  pointwise []
  rfl

theorem spread_at (h : Fin 16) (s c : Fin 2048) : v100 V (ix4 0 h s c)
    = v98 V (ix3 0 h s) := by
  unfold v100 v98
  rw [unary V main_v100 rfl, unary V main_v99 rfl]
  generalize ends V main_v98 = t
  clean_types
  pointwise []

theorem weight_at (h : Fin 16) (s c : Fin 2048) : v102 V (ix4 0 h s c) = weight (hidden V h s) c := by
  have e : v102 V (ix4 0 h s c) = Ideal.exp (v97 V (ix4 0 h s c) - v100 V (ix4 0 h s c)) := by
    unfold v102 v97 v100
    rw [unary V main_v102 rfl, binary V main_v101 rfl]
    have key : ∀ l t : FVec Ideal S1x16x2048x2048 .f32, Host.exp (F := Ideal) (φ := .f32) (subf l t) (ix4 0 h s c) = Ideal.exp (l (ix4 0 h s c) - t (ix4 0 h s c)) :=
      fun l t => by pointwise []
    exact key _ _
  rw [e, spread_at, hidden_at, top_at]
  generalize hidden V h s = w
  rfl

theorem total_at (h : Fin 16) (s : Fin 2048) : v103 V (ix3 0 h s) = total (hidden V h s) := by
  have e : v103 V (ix3 0 h s) = ∑ c, v102 V (ix4 0 h s c) := by
    unfold v103 v102
    rw [binary V main_v103 rfl, nullary V main_cst_26 rfl]
    generalize ends V main_v102 = l
    clean_types
    pointwise []
  simp only [e, weight_at]
  generalize hidden V h s = w
  rfl

/-- The output under the masks. -/
theorem sparse_at (h : Fin 16) (s : Fin 2048) (d : Fin 128) : v107 V (ix4 0 h s d)
    = attend (hidden V h s) (fun c => head (x2 V) h c d) := by
  have e : v107 V (ix4 0 h s d) = Ideal.div (∑ c, v102 V (ix4 0 h s c) * x2 V (ix4 0 h c d))
      (v103 V (ix3 0 h s)) := by
    unfold v107 v102 v103 x2
    rw [binary V main_v107 rfl, binary V main_v105 rfl, unary V main_v106 rfl, unary V main_v104 rfl]
    generalize ends V main_v102 = l
    generalize ends V main_v103 = t
    generalize ends V main_arg2 = x
    clean_types
    pointwise []
  simp only [e, weight_at, total_at]
  generalize hidden V h s = w
  rfl

/-- The first half of the result. -/
theorem first_at (h : Fin 16) (s : Fin 2048) (d : Fin 128) : v111 V (ix5 0 0 h s d)
    = Spec.dense (head (x0 V) h) (head (x1 V) h) (head (x2 V) h) s d := by
  rw [← dense_at]
  unfold v111 v12
  rw [binary V main_v111 rfl, unary V main_v109 rfl, unary V main_v110 rfl, binary V main_v108 rfl]
  generalize ends V main_v12 = a
  generalize ends V main_v107 = b
  clean_types
  pointwise []

/-- The second half of the result. -/
theorem second_at (h : Fin 16) (s : Fin 2048) (d : Fin 128) : v111 V (ix5 1 0 h s d)
    = Spec.cache (head (x0 V) h) (head (x1 V) h) (head (x2 V) h) (bits V h ⟨s.val / 192, by omega⟩) s d := by
  have e : v111 V (ix5 1 0 h s d) = v12 V (ix4 0 h s d) - v107 V (ix4 0 h s d) := by
    unfold v111 v12 v107
    rw [binary V main_v111 rfl, unary V main_v109 rfl, unary V main_v110 rfl, binary V main_v108 rfl]
    generalize ends V main_v12 = a
    generalize ends V main_v107 = b
    clean_types
    pointwise []
  rw [e, dense_at, sparse_at]
  rfl

end Cert.RefOut
-- ==== Proof.Equation.lean ====
/- The equation of the two results: the kernel's stacked arrays are the reference's. -/
module

public import proofs.«01_k».proof.Proof.Arrays
public import proofs.«01_k».proof.Proof.KernelRun
public import proofs.«01_k».proof.Proof.RefOut

@[expose] public section

set_option maxRecDepth 16384

noncomputable section

namespace Cert.Equation

open Idealize.ShloMosaic Idealize.ShloMosaic.TcCoe Cert.KernelIdeal Cert.KernelIdeal.Gen

variable (m : (ℓ : Loc nD τ sig) → Buf (Elt Ideal) ℓ) (c : Dev nD)

theorem stacked_first (a b : Vec Ideal S1x16x2304x128 .f32) (h : Fin 16) (s : Fin 2048) (d : Fin 128) :
    KernelRun.stacked a b (ix5 0 0 h s d) = a (ix4 0 h ⟨s.val, by omega⟩ d) := by
  pointwise [KernelRun.stacked]

theorem stacked_second (a b : Vec Ideal S1x16x2304x128 .f32) (h : Fin 16) (s : Fin 2048) (d : Fin 128) :
    KernelRun.stacked a b (ix5 1 0 h s d) = b (ix4 0 h ⟨s.val, by omega⟩ d) := by
  pointwise [KernelRun.stacked]

/-- The reference's result is the kernel's, where their arguments are the same. -/
theorem result_eq (W : Valuation ReferenceIdeal.τ ReferenceIdeal.sig (Elt Ideal))
    (e0 : RefEnds.x0 W = m ((c.tc : Thread nD τ).loc main_arg0)) (e1 : RefEnds.x1 W = m ((c.tc : Thread nD τ).loc main_arg1))
    (e2 : RefEnds.x2 W = m ((c.tc : Thread nD τ).loc main_arg2)) :
    RefEnds.v111 W = KernelRun.stacked ((dats m 0 c).arrAt 5 cfg0.N) ((dats m 0 c).arrAt 6 cfg0.N) := by
  have q : RefScores.head (RefEnds.x0 W) = Arrays.q m c := by rw [e0]; rfl
  have k : RefScores.head (RefEnds.x1 W) = Arrays.k m c := by rw [e1]; rfl
  have v : RefScores.head (RefEnds.x2 W) = Arrays.v m c := by rw [e2]; rfl
  have d : HostArrays.draws m c = RefEnds.x3 W := Draws.same _ _
  have b : RefOut.bits W = Arrays.bits m c := by
    unfold RefOut.bits Arrays.bits
    rw [d]
  funext i
  idx_vars i
  obtain rfl : i1 = 0 := Subsingleton.elim _ _
  fin_cases i0
  · refine (RefOut.first_at W i2 i3 i4).trans ?_
    rw [q, k, v]
    refine Eq.trans ?_ (stacked_first _ _ i2 i3 i4).symm
    exact (Arrays.dense_at m c i2 i3 i4).symm
  · refine (RefOut.second_at W i2 i3 i4).trans ?_
    rw [q, k, v, b]
    refine Eq.trans ?_ (stacked_second _ _ i2 i3 i4).symm
    exact (Arrays.cache_at m c i2 i3 i4).symm

/-- The same for the reference's run from a memory whose arguments are the kernel's. -/
theorem final_eq (m' : (ℓ : Loc ReferenceIdeal.nD ReferenceIdeal.τ ReferenceIdeal.sig) → Buf (Elt Ideal) ℓ)
    (e0 : (m' ((c.tc : Thread ReferenceIdeal.nD ReferenceIdeal.τ).loc ReferenceIdeal.main_arg0) : Vec Ideal S1x16x2048x128 .f32)
      = m ((c.tc : Thread nD τ).loc main_arg0))
    (e1 : (m' ((c.tc : Thread ReferenceIdeal.nD ReferenceIdeal.τ).loc ReferenceIdeal.main_arg1) : Vec Ideal S1x16x2048x128 .f32)
      = m ((c.tc : Thread nD τ).loc main_arg1))
    (e2 : (m' ((c.tc : Thread ReferenceIdeal.nD ReferenceIdeal.τ).loc ReferenceIdeal.main_arg2) : Vec Ideal S1x16x2048x128 .f32)
      = m ((c.tc : Thread nD τ).loc main_arg2)) :
    (RefRun.final m' c (Proc.devRef .tc ReferenceIdeal.main_v111) : Vec Ideal S2x1x16x2048x128 .f32)
      = KernelRun.stacked ((dats m 0 c).arrAt 5 cfg0.N) ((dats m 0 c).arrAt 6 cfg0.N) := by
  have k0 : RefEnds.x0 (StableHlo.launchContents m' c) = _ := RefRun.line.keep (r := ReferenceIdeal.main_arg0) _ (by decide)
  have k1 : RefEnds.x1 (StableHlo.launchContents m' c) = _ := RefRun.line.keep (r := ReferenceIdeal.main_arg1) _ (by decide)
  have k2 : RefEnds.x2 (StableHlo.launchContents m' c) = _ := RefRun.line.keep (r := ReferenceIdeal.main_arg2) _ (by decide)
  exact result_eq m c (StableHlo.launchContents m' c) (k0.trans e0) (k1.trans e1) (k2.trans e2)

end Cert.Equation
-- ==== Proof.lean ====
/- The certificate: the three programs run to the end, keep their arguments and leave every counter at zero, the
idealized kernel is the kernel's own text, and its result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init
public import Idealize.ShloMosaic.Lib.Claim

@[expose] public section

set_option maxRecDepth 65536

noncomputable section

namespace Cert.Proof

open Idealize.ShloMosaic Idealize.SL.Sem Cert.Kernel

/-- The kernel runs and keeps its arguments. -/
theorem frame_kernel : Cert.quiescent_Kernel (hKernel := Cert.Kernel.Gen.facts) := fun m ρ _ => Cert.Kernel.Gen.frame m ρ

/-- So does its idealization. -/
theorem frame_ideal : Cert.quiescent_KernelIdeal (hKernelIdeal := Cert.KernelIdeal.Gen.facts) :=
  fun m ρ _ => Cert.KernelIdeal.Gen.frame m ρ

/-- So does the reference, which has no semaphore. -/
theorem frame_reference : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.RefRun.run m ρ)

/-- From memories that agree on the arguments, the two results are one array. -/
theorem algebraic : Cert.algebraic_KernelIdeal_ReferenceIdeal (hKernelIdeal := Cert.KernelIdeal.Gen.facts)
    (hReferenceIdeal := Cert.ReferenceIdeal.Gen.facts) := fun m g m' g' _ hagree =>
  ⟨_, Cert.KernelRun.run m g, (θ_run _ _ _).mono (fun _ h c =>
    ⟨(h c).1.trans (Cert.Equation.final_eq m c m' (hagree c).1 (hagree c).2.1 (hagree c).2.2), (h c).2⟩) (Cert.RefRun.run m' g')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
